-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v37)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8448x2048 : Shape := ⟨2, ![8448, 2048]⟩
abbrev S1x2048x8192 : Shape := ⟨3, ![1, 2048, 8192]⟩
abbrev S1x3x2048 : Shape := ⟨3, ![1, 3, 2048]⟩
abbrev S1x32x2x2048 : Shape := ⟨4, ![1, 32, 2, 2048]⟩
abbrev S3x2048 : Shape := ⟨2, ![3, 2048]⟩
abbrev S32x2x2048 : Shape := ⟨3, ![32, 2, 2048]⟩
abbrev S32x1x2048 : Shape := ⟨3, ![32, 1, 2048]⟩
abbrev S_ : Shape := ⟨0, ![]⟩
abbrev S32x8x2048 : Shape := ⟨3, ![32, 8, 2048]⟩
abbrev S256x2048 : Shape := ⟨2, ![256, 2048]⟩
abbrev S4x8x2048 : Shape := ⟨3, ![4, 8, 2048]⟩
abbrev S2112x2048 : Shape := ⟨2, ![2112, 2048]⟩
abbrev S1x2048x256 : Shape := ⟨3, ![1, 2048, 256]⟩
abbrev S3x256 : Shape := ⟨2, ![3, 256]⟩
abbrev S256x256 : Shape := ⟨2, ![256, 256]⟩
abbrev S2112x256 : Shape := ⟨2, ![2112, 256]⟩
abbrev S4x8x256 : Shape := ⟨3, ![4, 8, 256]⟩
abbrev S2048x1024 : Shape := ⟨2, ![2048, 1024]⟩
abbrev S8x256 : Shape := ⟨2, ![8, 256]⟩
abbrev S2048x256 : Shape := ⟨2, ![2048, 256]⟩
abbrev S1x256 : Shape := ⟨2, ![1, 256]⟩
abbrev S704x2048 : Shape := ⟨2, ![704, 2048]⟩
abbrev S704x1024 : Shape := ⟨2, ![704, 1024]⟩
abbrev S704x256 : Shape := ⟨2, ![704, 256]⟩
abbrev S448x256 : Shape := ⟨2, ![448, 256]⟩
abbrev S1x8x256 : Shape := ⟨3, ![1, 8, 256]⟩

abbrev nBuf : Space → Nat
  | .hbm => 18
  | .vmem => 24
  | .smem => 0
  | _ => 0

abbrev bufTy : (tb : Table) → Fin (tcTables nBuf tb) → BufTy
  | .hbm, ⟨0, _⟩ => ⟨S8448x2048, .bf16⟩
  | .hbm, ⟨1, _⟩ => ⟨S1x2048x8192, .f32⟩
  | .hbm, ⟨2, _⟩ => ⟨S1x3x2048, .f32⟩
  | .hbm, ⟨3, _⟩ => ⟨S1x32x2x2048, .f32⟩
  | .hbm, ⟨4, _⟩ => ⟨S3x2048, .f32⟩
  | .hbm, ⟨5, _⟩ => ⟨S32x2x2048, .f32⟩
  | .hbm, ⟨6, _⟩ => ⟨S32x1x2048, .f32⟩
  | .hbm, ⟨7, _⟩ => ⟨S_, .i32⟩
  | .hbm, ⟨8, _⟩ => ⟨S_, .f32⟩
  | .hbm, ⟨9, _⟩ => ⟨S32x8x2048, .f32⟩
  | .hbm, ⟨10, _⟩ => ⟨S256x2048, .f32⟩
  | .hbm, ⟨11, _⟩ => ⟨S_, .i32⟩
  | .hbm, ⟨12, _⟩ => ⟨S_, .f32⟩
  | .hbm, ⟨13, _⟩ => ⟨S32x8x2048, .f32⟩
  | .hbm, ⟨14, _⟩ => ⟨S256x2048, .f32⟩
  | .hbm, ⟨15, _⟩ => ⟨S8448x2048, .bf16⟩
  | .hbm, ⟨16, _⟩ => ⟨S4x8x2048, .f32⟩
  | .hbm, ⟨17, _⟩ => ⟨S256x2048, .f32⟩
  | .local _ .vmem, ⟨0, _⟩ => ⟨S2112x2048, .bf16⟩
  | .local _ .vmem, ⟨1, _⟩ => ⟨S2112x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S3x256, .f32⟩
  | .local _ .vmem, ⟨11, _⟩ => ⟨S3x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S2112x256, .bf16⟩
  | .local _ .vmem, ⟨17, _⟩ => ⟨S2112x256, .bf16⟩
  | .local _ .vmem, ⟨18, _⟩ => ⟨S4x8x256, .f32⟩
  | .local _ .vmem, ⟨19, _⟩ => ⟨S4x8x256, .f32⟩
  | .local _ .vmem, ⟨20, _⟩ => ⟨S256x256, .f32⟩
  | .local _ .vmem, ⟨21, _⟩ => ⟨S256x256, .f32⟩
  | .local _ .vmem, ⟨22, _⟩ => ⟨S2048x1024, .bf16⟩
  | .local _ .vmem, ⟨23, _⟩ => ⟨S8x256, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2112x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8448x2048 : Shape := ⟨2, ![8448, 2048]⟩
abbrev S1x2048x8192 : Shape := ⟨3, ![1, 2048, 8192]⟩
abbrev S1x3x2048 : Shape := ⟨3, ![1, 3, 2048]⟩
abbrev S1x32x2x2048 : Shape := ⟨4, ![1, 32, 2, 2048]⟩
abbrev S8192x2048 : Shape := ⟨2, ![8192, 2048]⟩
abbrev S4x2048x2048 : Shape := ⟨3, ![4, 2048, 2048]⟩
abbrev S256x2048 : Shape := ⟨2, ![256, 2048]⟩
abbrev S32x8x2048 : Shape := ⟨3, ![32, 8, 2048]⟩
abbrev S2048x8192 : Shape := ⟨2, ![2048, 8192]⟩
abbrev S3x2048 : Shape := ⟨2, ![3, 2048]⟩
abbrev S4x2048x8192 : Shape := ⟨3, ![4, 2048, 8192]⟩
abbrev S_ : Shape := ⟨0, ![]⟩
abbrev S4x2x2048 : Shape := ⟨3, ![4, 2, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S32x2x2048 : Shape := ⟨3, ![32, 2, 2048]⟩
abbrev S32x8x8192 : Shape := ⟨3, ![32, 8, 8192]⟩
abbrev S32x10x2048 : Shape := ⟨3, ![32, 10, 2048]⟩
abbrev S4x8x2048 : Shape := ⟨3, ![4, 8, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8192, .f32⟩
  | .hbm, ⟨2, _⟩ => ⟨S1x3x2048, .f32⟩
  | .hbm, ⟨3, _⟩ => ⟨S1x32x2x2048, .f32⟩
  | .hbm, ⟨4, _⟩ => ⟨S8448x2048, .f32⟩
  | .hbm, ⟨5, _⟩ => ⟨S8192x2048, .f32⟩
  | .hbm, ⟨6, _⟩ => ⟨S4x2048x2048, .f32⟩
  | .hbm, ⟨7, _⟩ => ⟨S256x2048, .f32⟩
  | .hbm, ⟨8, _⟩ => ⟨S32x8x2048, .f32⟩
  | .hbm, ⟨9, _⟩ => ⟨S2048x8192, .f32⟩
  | .hbm, ⟨10, _⟩ => ⟨S3x2048, .f32⟩
  | .hbm, ⟨11, _⟩ => ⟨S4x2048x8192, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2x2048, .f32⟩
  | .hbm, ⟨19, _⟩ => ⟨S4x2050x2048, .f32⟩
  | .hbm, ⟨20, _⟩ => ⟨S1x2048, .f32⟩
  | .hbm, ⟨21, _⟩ => ⟨S2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S1x2048, .f32⟩
  | .hbm, ⟨27, _⟩ => ⟨S2048, .f32⟩
  | .hbm, ⟨28, _⟩ => ⟨S4x2048x2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S1x2048, .f32⟩
  | .hbm, ⟨34, _⟩ => ⟨S2048, .f32⟩
  | .hbm, ⟨35, _⟩ => ⟨S4x2048x2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S4x2048x2048, .f32⟩
  | .hbm, ⟨51, _⟩ => ⟨S2048x8192, .f32⟩
  | .hbm, ⟨52, _⟩ => ⟨S3x2048, .f32⟩
  | .hbm, ⟨53, _⟩ => ⟨S32x2x2048, .f32⟩
  | .hbm, ⟨54, _⟩ => ⟨S32x8x8192, .f32⟩
  | .hbm, ⟨55, _⟩ => ⟨S32x8x2048, .f32⟩
  | .hbm, ⟨56, _⟩ => ⟨S32x8x2048, .f32⟩
  | .hbm, ⟨57, _⟩ => ⟨S32x8x2048, .f32⟩
  | .hbm, ⟨58, _⟩ => ⟨S32x8x2048, .f32⟩
  | .hbm, ⟨59, _⟩ => ⟨S32x8x2048, .f32⟩
  | .hbm, ⟨60, _⟩ => ⟨S32x10x2048, .f32⟩
  | .hbm, ⟨61, _⟩ => ⟨S1x2048, .f32⟩
  | .hbm, ⟨62, _⟩ => ⟨S2048, .f32⟩
  | .hbm, ⟨63, _⟩ => ⟨S32x8x2048, .f32⟩
  | .hbm, ⟨64, _⟩ => ⟨S1x1x2048, .f32⟩
  | .hbm, ⟨65, _⟩ => ⟨S32x8x2048, .f32⟩
  | .hbm, ⟨66, _⟩ => ⟨S32x8x2048, .f32⟩
  | .hbm, ⟨67, _⟩ => ⟨S1x2048, .f32⟩
  | .hbm, ⟨68, _⟩ => ⟨S2048, .f32⟩
  | .hbm, ⟨69, _⟩ => ⟨S32x8x2048, .f32⟩
  | .hbm, ⟨70, _⟩ => ⟨S1x1x2048, .f32⟩
  | .hbm, ⟨71, _⟩ => ⟨S32x8x2048, .f32⟩
  | .hbm, ⟨72, _⟩ => ⟨S32x8x2048, .f32⟩
  | .hbm, ⟨73, _⟩ => ⟨S32x8x2048, .f32⟩
  | .hbm, ⟨74, _⟩ => ⟨S1x2048, .f32⟩
  | .hbm, ⟨75, _⟩ => ⟨S2048, .f32⟩
  | .hbm, ⟨76, _⟩ => ⟨S32x8x2048, .f32⟩
  | .hbm, ⟨77, _⟩ => ⟨S1x1x2048, .f32⟩
  | .hbm, ⟨78, _⟩ => ⟨S32x8x2048, .f32⟩
  | .hbm, ⟨79, _⟩ => ⟨S32x8x2048, .f32⟩
  | .hbm, ⟨80, _⟩ => ⟨S32x8x2048, .f32⟩
  | .hbm, ⟨81, _⟩ => ⟨S32x8x2048, .f32⟩
  | .hbm, ⟨82, _⟩ => ⟨S32x8x2048, .f32⟩
  | .hbm, ⟨83, _⟩ => ⟨S_, .f32⟩
  | .hbm, ⟨84, _⟩ => ⟨S32x8x2048, .f32⟩
  | .hbm, ⟨85, _⟩ => ⟨S32x8x2048, .f32⟩
  | .hbm, ⟨86, _⟩ => ⟨S_, .f32⟩
  | .hbm, ⟨87, _⟩ => ⟨S32x8x2048, .f32⟩
  | .hbm, ⟨88, _⟩ => ⟨S32x8x2048, .f32⟩
  | .hbm, ⟨89, _⟩ => ⟨S32x8x2048, .f32⟩
  | .hbm, ⟨90, _⟩ => ⟨S32x8x2048, .f32⟩
  | .hbm, ⟨91, _⟩ => ⟨S32x8x2048, .f32⟩
  | .hbm, ⟨92, _⟩ => ⟨S8192x2048, .f32⟩
  | .hbm, ⟨93, _⟩ => ⟨S256x2048, .f32⟩
  | .hbm, ⟨94, _⟩ => ⟨S8448x2048, .f32⟩
  | .hbm, ⟨95, _⟩ => ⟨S8448x2048, .bf16⟩
  | .hbm, ⟨96, _⟩ => ⟨S4x8x2048, .f32⟩
  | .hbm, ⟨97, _⟩ => ⟨S32x8x2048, .f32⟩
  | .hbm, ⟨98, _⟩ => ⟨S256x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Kernel2.lean ====
abbrev S8448x2048 : Shape := ⟨2, ![8448, 2048]⟩
abbrev S1x2048x8192 : Shape := ⟨3, ![1, 2048, 8192]⟩
abbrev S8448x8192 : Shape := ⟨2, ![8448, 8192]⟩
abbrev S2112x2048 : Shape := ⟨2, ![2112, 2048]⟩
abbrev S1x2048x1024 : Shape := ⟨3, ![1, 2048, 1024]⟩
abbrev S2112x1024 : Shape := ⟨2, ![2112, 1024]⟩
abbrev S2048x1024 : Shape := ⟨2, ![2048, 1024]⟩
abbrev S352x2048 : Shape := ⟨2, ![352, 2048]⟩
abbrev S352x1024 : Shape := ⟨2, ![352, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S1x2048x8192, .f32⟩
  | .hbm, ⟨2, _⟩ => ⟨S8448x8192, .bf16⟩
  | .local _ .vmem, ⟨0, _⟩ => ⟨S2112x2048, .bf16⟩
  | .local _ .vmem, ⟨1, _⟩ => ⟨S2112x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2112x1024, .bf16⟩
  | .local _ .vmem, ⟨5, _⟩ => ⟨S2112x1024, .bf16⟩
  | .local _ .vmem, ⟨6, _⟩ => ⟨S2048x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2112x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8448x2048 : Shape := ⟨2, ![8448, 2048]⟩
abbrev S1x2048x8192 : Shape := ⟨3, ![1, 2048, 8192]⟩
abbrev S2048x8192 : Shape := ⟨2, ![2048, 8192]⟩
abbrev S8448x8192 : Shape := ⟨2, ![8448, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8192, .f32⟩
  | .hbm, ⟨2, _⟩ => ⟨S8448x2048, .f32⟩
  | .hbm, ⟨3, _⟩ => ⟨S2048x8192, .f32⟩
  | .hbm, ⟨4, _⟩ => ⟨S8448x8192, .f32⟩
  | .hbm, ⟨5, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8448x2048 : Shape := ⟨2, ![8448, 2048]⟩
abbrev S2x2048x4608 : Shape := ⟨3, ![2, 2048, 4608]⟩
abbrev S8448x2304 : Shape := ⟨2, ![8448, 2304]⟩
abbrev S1056x2048 : Shape := ⟨2, ![1056, 2048]⟩
abbrev S1x2048x768 : Shape := ⟨3, ![1, 2048, 768]⟩
abbrev S1056x2304 : Shape := ⟨2, ![1056, 2304]⟩
abbrev S2048x2304 : Shape := ⟨2, ![2048, 2304]⟩
abbrev S2048x768 : Shape := ⟨2, ![2048, 768]⟩
abbrev S352x2048 : Shape := ⟨2, ![352, 2048]⟩
abbrev S352x768 : Shape := ⟨2, ![352, 768]⟩
abbrev S352x2304 : Shape := ⟨2, ![352, 2304]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2x2048x4608, .f32⟩
  | .hbm, ⟨2, _⟩ => ⟨S8448x2304, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1056x2304, .bf16⟩
  | .local _ .vmem, ⟨5, _⟩ => ⟨S1056x2304, .bf16⟩
  | .local _ .vmem, ⟨6, _⟩ => ⟨S2048x2304, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .sge arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.minsi arg0 c2_i32
  let c3_i32 : BitVec 32 := 3#32
  let v1 : BitVec 32 := Scalar.addi c3_i32 v0
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8448x2048 : Shape := ⟨2, ![8448, 2048]⟩
abbrev S2x2048x4608 : Shape := ⟨3, ![2, 2048, 4608]⟩
abbrev S1x2048x4608 : Shape := ⟨3, ![1, 2048, 4608]⟩
abbrev S2048x4608 : Shape := ⟨2, ![2048, 4608]⟩
abbrev S8448x4608 : Shape := ⟨2, ![8448, 4608]⟩
abbrev S8448x256 : Shape := ⟨2, ![8448, 256]⟩
abbrev S8448x2304 : Shape := ⟨2, ![8448, 2304]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x4608, .f32⟩
  | .hbm, ⟨2, _⟩ => ⟨S8448x2048, .f32⟩
  | .hbm, ⟨3, _⟩ => ⟨S1x2048x4608, .f32⟩
  | .hbm, ⟨4, _⟩ => ⟨S2048x4608, .f32⟩
  | .hbm, ⟨5, _⟩ => ⟨S8448x4608, .f32⟩
  | .hbm, ⟨6, _⟩ => ⟨S8448x2048, .f32⟩
  | .hbm, ⟨7, _⟩ => ⟨S8448x256, .f32⟩
  | .hbm, ⟨8, _⟩ => ⟨S8448x256, .f32⟩
  | .hbm, ⟨9, _⟩ => ⟨S8448x2048, .f32⟩
  | .hbm, ⟨10, _⟩ => ⟨S8448x2304, .f32⟩
  | .hbm, ⟨11, _⟩ => ⟨S8448x2304, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel4.lean ====
abbrev S8448x2048 : Shape := ⟨2, ![8448, 2048]⟩
abbrev S1x2048x2048 : Shape := ⟨3, ![1, 2048, 2048]⟩
abbrev S2048 : Shape := ⟨1, ![2048]⟩
abbrev S1x2048 : Shape := ⟨2, ![1, 2048]⟩
abbrev S384x2048 : Shape := ⟨2, ![384, 2048]⟩
abbrev S2048x2048 : Shape := ⟨2, ![2048, 2048]⟩
abbrev S384 : Shape := ⟨1, ![384]⟩
abbrev S384x1 : Shape := ⟨2, ![384, 1]⟩

abbrev nBuf : Space → Nat
  | .hbm => 7
  | .vmem => 11
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .f32⟩
  | .hbm, ⟨2, _⟩ => ⟨S8448x2048, .f32⟩
  | .hbm, ⟨3, _⟩ => ⟨S2048, .f32⟩
  | .hbm, ⟨4, _⟩ => ⟨S1x2048, .f32⟩
  | .hbm, ⟨5, _⟩ => ⟨S8448x2048, .f32⟩
  | .hbm, ⟨6, _⟩ => ⟨S8448x2048, .bf16⟩
  | .local _ .vmem, ⟨0, _⟩ => ⟨S384x2048, .bf16⟩
  | .local _ .vmem, ⟨1, _⟩ => ⟨S384x2048, .bf16⟩
  | .local _ .vmem, ⟨2, _⟩ => ⟨S1x2048x2048, .f32⟩
  | .local _ .vmem, ⟨3, _⟩ => ⟨S384x2048, .f32⟩
  | .local _ .vmem, ⟨4, _⟩ => ⟨S384x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | .local _ .vmem, ⟨10, _⟩ => ⟨S2048x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8448x2048 : Shape := ⟨2, ![8448, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x2048, .f32⟩
  | .hbm, ⟨2, _⟩ => ⟨S8448x2048, .f32⟩
  | .hbm, ⟨3, _⟩ => ⟨S2048, .f32⟩
  | .hbm, ⟨4, _⟩ => ⟨S8448x2048, .f32⟩
  | .hbm, ⟨5, _⟩ => ⟨S2048x2048, .f32⟩
  | .hbm, ⟨6, _⟩ => ⟨S8448x2048, .f32⟩
  | .hbm, ⟨7, _⟩ => ⟨S8448x2048, .f32⟩
  | .hbm, ⟨8, _⟩ => ⟨S8448x2048, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x2048, .f32⟩
  | .hbm, ⟨20, _⟩ => ⟨S8448x2048, .f32⟩
  | .hbm, ⟨21, _⟩ => ⟨S1x2048, .f32⟩
  | .hbm, ⟨22, _⟩ => ⟨S8448x2048, .f32⟩
  | .hbm, ⟨23, _⟩ => ⟨S8448x2048, .f32⟩
  | .hbm, ⟨24, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S8448x2048 : Shape := ⟨2, ![8448, 2048]⟩
abbrev S2x2048x4608 : Shape := ⟨3, ![2, 2048, 4608]⟩
abbrev S8448 : Shape := ⟨1, ![8448]⟩
abbrev S8 : Shape := ⟨1, ![8]⟩
abbrev S_ : Shape := ⟨0, ![]⟩
abbrev S8448x1 : Shape := ⟨2, ![8448, 1]⟩
abbrev S1x8 : Shape := ⟨2, ![1, 8]⟩
abbrev S8448x8 : Shape := ⟨2, ![8448, 8]⟩
abbrev S8448x48 : Shape := ⟨2, ![8448, 48]⟩
abbrev S8448x64 : Shape := ⟨2, ![8448, 64]⟩
abbrev S8448x56 : Shape := ⟨2, ![8448, 56]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S1x8448x128 : Shape := ⟨3, ![1, 8448, 128]⟩
abbrev S3x8448x128 : Shape := ⟨3, ![3, 8448, 128]⟩
abbrev S8448x2304 : Shape := ⟨2, ![8448, 2304]⟩
abbrev S1056x2048 : Shape := ⟨2, ![1056, 2048]⟩
abbrev S1x2048x768 : Shape := ⟨3, ![1, 2048, 768]⟩
abbrev S3x1056x128 : Shape := ⟨3, ![3, 1056, 128]⟩
abbrev S1056x2304 : Shape := ⟨2, ![1056, 2304]⟩
abbrev S2048x2304 : Shape := ⟨2, ![2048, 2304]⟩
abbrev S2048x768 : Shape := ⟨2, ![2048, 768]⟩
abbrev S352x2048 : Shape := ⟨2, ![352, 2048]⟩
abbrev S352x768 : Shape := ⟨2, ![352, 768]⟩
abbrev S1x352x128 : Shape := ⟨3, ![1, 352, 128]⟩
abbrev S352x128 : Shape := ⟨2, ![352, 128]⟩
abbrev S352x2304 : Shape := ⟨2, ![352, 2304]⟩

abbrev nBuf : Space → Nat
  | .hbm => 48
  | .vmem => 9
  | .smem => 0
  | _ => 0

abbrev bufTy : (tb : Table) → Fin (tcTables nBuf tb) → BufTy
  | .hbm, ⟨0, _⟩ => ⟨S8448x2048, .bf16⟩
  | .hbm, ⟨1, _⟩ => ⟨S2x2048x4608, .f32⟩
  | .hbm, ⟨2, _⟩ => ⟨S8448, .i32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8448, .f32⟩
  | .hbm, ⟨15, _⟩ => ⟨S8448x1, .f32⟩
  | .hbm, ⟨16, _⟩ => ⟨S1x8, .f32⟩
  | .hbm, ⟨17, _⟩ => ⟨S8448x8, .f32⟩
  | .hbm, ⟨18, _⟩ => ⟨S8448x8, .f32⟩
  | .hbm, ⟨19, _⟩ => ⟨S8448x8, .f32⟩
  | .hbm, ⟨20, _⟩ => ⟨S8448x8, .f32⟩
  | .hbm, ⟨21, _⟩ => ⟨S8448x8, .f32⟩
  | .hbm, ⟨22, _⟩ => ⟨S_, .f32⟩
  | .hbm, ⟨23, _⟩ => ⟨S8448x48, .f32⟩
  | .hbm, ⟨24, _⟩ => ⟨S8448x64, .f32⟩
  | .hbm, ⟨25, _⟩ => ⟨S8448x8, .f32⟩
  | .hbm, ⟨26, _⟩ => ⟨S_, .f32⟩
  | .hbm, ⟨27, _⟩ => ⟨S8448x56, .f32⟩
  | .hbm, ⟨28, _⟩ => ⟨S8448x64, .f32⟩
  | .hbm, ⟨29, _⟩ => ⟨S_, .f32⟩
  | .hbm, ⟨30, _⟩ => ⟨S8448x8, .f32⟩
  | .hbm, ⟨31, _⟩ => ⟨S_, .f32⟩
  | .hbm, ⟨32, _⟩ => ⟨S8448x48, .f32⟩
  | .hbm, ⟨33, _⟩ => ⟨S8448x64, .f32⟩
  | .hbm, ⟨34, _⟩ => ⟨S1x8448x1x64, .f32⟩
  | .hbm, ⟨35, _⟩ => ⟨S1x8448x2x64, .f32⟩
  | .hbm, ⟨36, _⟩ => ⟨S8448x128, .f32⟩
  | .hbm, ⟨37, _⟩ => ⟨S1x8448x1x64, .f32⟩
  | .hbm, ⟨38, _⟩ => ⟨S1x8448x2x64, .f32⟩
  | .hbm, ⟨39, _⟩ => ⟨S8448x128, .f32⟩
  | .hbm, ⟨40, _⟩ => ⟨S1x8448x1x64, .f32⟩
  | .hbm, ⟨41, _⟩ => ⟨S1x8448x2x64, .f32⟩
  | .hbm, ⟨42, _⟩ => ⟨S8448x128, .f32⟩
  | .hbm, ⟨43, _⟩ => ⟨S1x8448x128, .f32⟩
  | .hbm, ⟨44, _⟩ => ⟨S1x8448x128, .f32⟩
  | .hbm, ⟨45, _⟩ => ⟨S1x8448x128, .f32⟩
  | .hbm, ⟨46, _⟩ => ⟨S3x8448x128, .f32⟩
  | .hbm, ⟨47, _⟩ => ⟨S8448x2304, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x768, .f32⟩
  | .local _ .vmem, ⟨3, _⟩ => ⟨S1x2048x768, .f32⟩
  | .local _ .vmem, ⟨4, _⟩ => ⟨S3x1056x128, .f32⟩
  | .local _ .vmem, ⟨5, _⟩ => ⟨S3x1056x128, .f32⟩
  | .local _ .vmem, ⟨6, _⟩ => ⟨S1056x2304, .bf16⟩
  | .local _ .vmem, ⟨7, _⟩ => ⟨S1056x2304, .bf16⟩
  | .local _ .vmem, ⟨8, _⟩ => ⟨S2048x2304, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .sge arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.minsi arg0 c2_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8448x2048 : Shape := ⟨2, ![8448, 2048]⟩
abbrev S2x2048x4608 : Shape := ⟨3, ![2, 2048, 4608]⟩
abbrev S8448 : Shape := ⟨1, ![8448]⟩
abbrev S1x2048x4608 : Shape := ⟨3, ![1, 2048, 4608]⟩
abbrev S2048x4608 : Shape := ⟨2, ![2048, 4608]⟩
abbrev S8448x4608 : Shape := ⟨2, ![8448, 4608]⟩
abbrev S8448x256 : Shape := ⟨2, ![8448, 256]⟩
abbrev S8448x32x64 : Shape := ⟨3, ![8448, 32, 64]⟩
abbrev S8 : Shape := ⟨1, ![8]⟩
abbrev S_ : Shape := ⟨0, ![]⟩
abbrev S8448x1 : Shape := ⟨2, ![8448, 1]⟩
abbrev S1x8 : Shape := ⟨2, ![1, 8]⟩
abbrev S8448x8 : Shape := ⟨2, ![8448, 8]⟩
abbrev S8448x1x8 : Shape := ⟨3, ![8448, 1, 8]⟩
abbrev S8448x32x8 : Shape := ⟨3, ![8448, 32, 8]⟩
abbrev S8448x32x48 : Shape := ⟨3, ![8448, 32, 48]⟩
abbrev S8448x4x64 : Shape := ⟨3, ![8448, 4, 64]⟩
abbrev S8448x4x8 : Shape := ⟨3, ![8448, 4, 8]⟩
abbrev S8448x4x48 : Shape := ⟨3, ![8448, 4, 48]⟩
abbrev S8448x2304 : Shape := ⟨2, ![8448, 2304]⟩

abbrev nBuf : Space → Nat
  | .hbm => 90
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x4608, .f32⟩
  | .hbm, ⟨2, _⟩ => ⟨S8448, .i32⟩
  | .hbm, ⟨3, _⟩ => ⟨S8448x2048, .f32⟩
  | .hbm, ⟨4, _⟩ => ⟨S1x2048x4608, .f32⟩
  | .hbm, ⟨5, _⟩ => ⟨S2048x4608, .f32⟩
  | .hbm, ⟨6, _⟩ => ⟨S8448x4608, .f32⟩
  | .hbm, ⟨7, _⟩ => ⟨S8448x2048, .f32⟩
  | .hbm, ⟨8, _⟩ => ⟨S8448x256, .f32⟩
  | .hbm, ⟨9, _⟩ => ⟨S8448x256, .f32⟩
  | .hbm, ⟨10, _⟩ => ⟨S8448x2048, .f32⟩
  | .hbm, ⟨11, _⟩ => ⟨S8448x32x64, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8448, .f32⟩
  | .hbm, ⟨24, _⟩ => ⟨S8448x1, .f32⟩
  | .hbm, ⟨25, _⟩ => ⟨S1x8, .f32⟩
  | .hbm, ⟨26, _⟩ => ⟨S8448x8, .f32⟩
  | .hbm, ⟨27, _⟩ => ⟨S8448x8, .f32⟩
  | .hbm, ⟨28, _⟩ => ⟨S8448x8, .f32⟩
  | .hbm, ⟨29, _⟩ => ⟨S8448x8, .f32⟩
  | .hbm, ⟨30, _⟩ => ⟨S8448x1x8, .f32⟩
  | .hbm, ⟨31, _⟩ => ⟨S8448x8, .f32⟩
  | .hbm, ⟨32, _⟩ => ⟨S8448x1x8, .f32⟩
  | .hbm, ⟨33, _⟩ => ⟨S8448x32x8, .f32⟩
  | .hbm, ⟨34, _⟩ => ⟨S8448x32x8, .f32⟩
  | .hbm, ⟨35, _⟩ => ⟨S8448x32x8, .f32⟩
  | .hbm, ⟨36, _⟩ => ⟨S8448x32x8, .f32⟩
  | .hbm, ⟨37, _⟩ => ⟨S8448x32x8, .f32⟩
  | .hbm, ⟨38, _⟩ => ⟨S8448x32x8, .f32⟩
  | .hbm, ⟨39, _⟩ => ⟨S8448x32x8, .f32⟩
  | .hbm, ⟨40, _⟩ => ⟨S8448x32x8, .f32⟩
  | .hbm, ⟨41, _⟩ => ⟨S8448x32x8, .f32⟩
  | .hbm, ⟨42, _⟩ => ⟨S8448x32x8, .f32⟩
  | .hbm, ⟨43, _⟩ => ⟨S8448x32x8, .f32⟩
  | .hbm, ⟨44, _⟩ => ⟨S8448x32x8, .f32⟩
  | .hbm, ⟨45, _⟩ => ⟨S8448x32x48, .f32⟩
  | .hbm, ⟨46, _⟩ => ⟨S8448x32x64, .f32⟩
  | .hbm, ⟨47, _⟩ => ⟨S_, .f32⟩
  | .hbm, ⟨48, _⟩ => ⟨S8448x32x64, .f32⟩
  | .hbm, ⟨49, _⟩ => ⟨S8448x32x64, .f32⟩
  | .hbm, ⟨50, _⟩ => ⟨S8448x4x64, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8448, .f32⟩
  | .hbm, ⟨63, _⟩ => ⟨S8448x1, .f32⟩
  | .hbm, ⟨64, _⟩ => ⟨S1x8, .f32⟩
  | .hbm, ⟨65, _⟩ => ⟨S8448x8, .f32⟩
  | .hbm, ⟨66, _⟩ => ⟨S8448x8, .f32⟩
  | .hbm, ⟨67, _⟩ => ⟨S8448x8, .f32⟩
  | .hbm, ⟨68, _⟩ => ⟨S8448x8, .f32⟩
  | .hbm, ⟨69, _⟩ => ⟨S8448x1x8, .f32⟩
  | .hbm, ⟨70, _⟩ => ⟨S8448x8, .f32⟩
  | .hbm, ⟨71, _⟩ => ⟨S8448x1x8, .f32⟩
  | .hbm, ⟨72, _⟩ => ⟨S8448x4x8, .f32⟩
  | .hbm, ⟨73, _⟩ => ⟨S8448x4x8, .f32⟩
  | .hbm, ⟨74, _⟩ => ⟨S8448x4x8, .f32⟩
  | .hbm, ⟨75, _⟩ => ⟨S8448x4x8, .f32⟩
  | .hbm, ⟨76, _⟩ => ⟨S8448x4x8, .f32⟩
  | .hbm, ⟨77, _⟩ => ⟨S8448x4x8, .f32⟩
  | .hbm, ⟨78, _⟩ => ⟨S8448x4x8, .f32⟩
  | .hbm, ⟨79, _⟩ => ⟨S8448x4x8, .f32⟩
  | .hbm, ⟨80, _⟩ => ⟨S8448x4x8, .f32⟩
  | .hbm, ⟨81, _⟩ => ⟨S8448x4x8, .f32⟩
  | .hbm, ⟨82, _⟩ => ⟨S8448x4x8, .f32⟩
  | .hbm, ⟨83, _⟩ => ⟨S8448x4x8, .f32⟩
  | .hbm, ⟨84, _⟩ => ⟨S8448x4x48, .f32⟩
  | .hbm, ⟨85, _⟩ => ⟨S8448x4x64, .f32⟩
  | .hbm, ⟨86, _⟩ => ⟨S8448x2048, .f32⟩
  | .hbm, ⟨87, _⟩ => ⟨S8448x256, .f32⟩
  | .hbm, ⟨88, _⟩ => ⟨S8448x2304, .f32⟩
  | .hbm, ⟨89, _⟩ => ⟨S8448x2304, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩

abbrev nD : Nat := 1
abbrev τ : Topo := Topo.v7x

variable {F : FTy → Type} [FloatOps F]
-- ==== Proof.Tile.lean ====
module

public import proofs.«01_k».proof.Proof.Gen.KernelIdeal.Frame
public import proofs.«01_k».proof.Proof.Gen.KernelIdeal.Skeleton
public import Idealize.ShloMosaic.Lib.Pointwise
public import Idealize.ShloMosaic.Lib.WholeRead
public import Idealize.ShloMosaic.Lib.Writes
public import Idealize.ShloMosaic.Lib.TopK.GroupedStream

/-!
What one call of the kernel body leaves in its output blocks, in terms of what its input blocks hold: the three row
parts of the gated block, the rows of the tail block, and the concatenated weights.
-/

@[expose] public section

set_option maxRecDepth 16384

noncomputable section

namespace Cert.KernelIdeal.Conv

open Cert.KernelIdeal Cert.KernelIdeal.Gen
open Idealize.ShloMosaic Idealize.ShloMosaic.TcCoe

variable {F : FTy → Type} [FloatOps F]

/-- The row numbers of a part, as the body counts them. -/
abbrev rowIota : IVec S704x256 32 := iota .tc S704x256 32 [0] iota_S704x256_d0_w32

/-- The grid coordinate along the rows, as the word the body computes with. -/
abbrev tileWord (i : grid0.Coords) : BitVec 32 := BitVec.ofNat 32 (i 1).val

/-- The 704 activation rows from row `o` of a block on. -/
def rowsFrom (o : ℕ) (h : ∀ a, (![o, 0] : Fin 2 → ℕ) a + S704x2048.size a ≤ S2112x2048.size a) (x : Vec F S2112x2048 .bf16) :
    Vec F S704x2048 .bf16 := fun j => x ((Rect.unit (s := S2112x2048) ![o, 0] S704x2048.size h).emb j)

/-- Row `o` of the three taps. -/
def tapRow (o : ℕ) (h : ∀ a, (![o, 0] : Fin 2 → ℕ) a + S1x256.size a ≤ S3x256.size a) (x : Vec F S3x256 .f32) :
    Vec F S1x256 .f32 := fun j => x ((Rect.unit (s := S3x256) ![o, 0] S1x256.size h).emb j)

/-- Row `o` of the eight carried rows. -/
def carryRow (o : ℕ) (h : ∀ a, (![o, 0] : Fin 2 → ℕ) a + S1x256.size a ≤ S8x256.size a) (x : Vec F S8x256 .f32) :
    Vec F S1x256 .f32 := fun j => x ((Rect.unit (s := S8x256) ![o, 0] S1x256.size h).emb j)

/-- The four weight segments side by side, each rounded. -/
def wcat (x1 x2 x3 x4 : Vec F S1x2048x256 .f32) : Vec F S2048x1024 .bf16 := fun y =>
  have hk : (y 1).val % 256 < 256 := Nat.mod_lt _ (by decide)
  k0_pay2 (if (y 1).val / 256 = 0 then x1 else if (y 1).val / 256 = 1 then x2 else if (y 1).val / 256 = 2 then x3 else x4)
    (ix2 (n0 := 2048) (n1 := 256) (y 0) ⟨(y 1).val % 256, hk⟩)

/-- The gated rows of the first part. -/
def gated0 (i : grid0.Coords) (a : Vec F S704x2048 .bf16) (W : Vec F S2048x1024 .bf16) (p2 p1 w0 w1 w2 : Vec F S1x256 .f32) :
    FVec F S704x256 .bf16 :=
  k0_pay18 (k0_pay8 a W) (k0_pay9 a W) (k0_pay10 a W)
    (k0_pay15 p1 (k0_pay10 a W) rowIota (k0_pay11 i) (k0_pay12 i) (k0_pay13 i) 2048#32)
    (k0_pay16 p2 p1 (k0_pay10 a W) rowIota (k0_pay11 i) (k0_pay12 i) (k0_pay13 i) 2048#32) (k0_pay17 w0) w1 w2

/-- The gated rows of the second part; `u0` are the products of the first part. -/
def gated1 (s : BitVec 32) (u0 : FVec F S704x256 .f32) (a : Vec F S704x2048 .bf16) (W : Vec F S2048x1024 .bf16)
    (w0 w1 w2 : Vec F S1x256 .f32) : FVec F S704x256 .bf16 :=
  k0_pay33 (k0_pay22 a W) (k0_pay23 a W) (k0_pay24 a W)
    (k0_pay29 (k0_pay25 s) (k0_pay26 s) 8#32 (k0_pay27 s) (k0_pay28 s))
    (k0_pay30 (k0_pay20 u0) (k0_pay24 a W) rowIota) (k0_pay31 (k0_pay19 u0) (k0_pay20 u0) (k0_pay24 a W) rowIota)
    (k0_pay32 (k0_pay25 s) (k0_pay26 s) 8#32 (k0_pay27 s) (k0_pay28 s)) w0 w1 w2

/-- The gated rows of the third part; `u1` are the products of the second part, `q1` and `q2` the given past rows. -/
def gated2 (s : BitVec 32) (u1 : FVec F S704x256 .f32) (a : Vec F S704x2048 .bf16) (W : Vec F S2048x1024 .bf16)
    (q1 q2 : Vec F S256x256 .f32) (w0 w1 w2 : Vec F S1x256 .f32) : FVec F S704x256 .bf16 :=
  k0_pay46 (k0_pay45 (k0_pay34 u1) (k0_pay35 u1) (k0_pay37 a W) (k0_pay38 a W) (k0_pay39 a W) rowIota
    (k0_pay41 (k0_pay40 s)) (k0_pay42 (k0_pay40 s)) k0_pay43 (k0_pay44 (k0_pay40 s) q1) q2 w0 w1 w2)

/-- The three stores of the gated block, newest first. -/
def gPieces (i : grid0.Coords) (a0 a1 a2 : Vec F S704x2048 .bf16) (W : Vec F S2048x1024 .bf16) (p2 p1 : Vec F S1x256 .f32)
    (w0 w1 w2 : Vec F S1x256 .f32) (q1 q2 : Vec F S256x256 .f32) : List (View.Piece (Elt F) S2112x256 .bf16) :=
  [⟨Rect.unit ![1408, 0] S704x256.size inb_S2112x256_S704x256_1408_0, gated2 (tileWord i) (k0_pay24 a1 W) a2 W q1 q2 w0 w1 w2⟩,
    ⟨Rect.unit ![704, 0] S704x256.size inb_S2112x256_S704x256_704_0, gated1 (tileWord i) (k0_pay10 a0 W) a1 W w0 w1 w2⟩,
    ⟨Rect.unit ![0, 0] S704x256.size inb_S2112x256_S704x256_0_0, gated0 i a0 W p2 p1 w0 w1 w2⟩]

/-- The gated block as one array: its rows are those of the three parts in turn. -/
def gTile (i : grid0.Coords) (a0 a1 a2 : Vec F S704x2048 .bf16) (W : Vec F S2048x1024 .bf16) (p2 p1 : Vec F S1x256 .f32)
    (w0 w1 w2 : Vec F S1x256 .f32) (q1 q2 : Vec F S256x256 .f32) : Vec F S2112x256 .bf16 := fun y =>
  have hk : (y 0).val % 704 < 704 := Nat.mod_lt _ (by decide)
  (if (y 0).val / 704 = 0 then gated0 i a0 W p2 p1 w0 w1 w2
    else if (y 0).val / 704 = 1 then gated1 (tileWord i) (k0_pay10 a0 W) a1 W w0 w1 w2
    else gated2 (tileWord i) (k0_pay24 a1 W) a2 W q1 q2 w0 w1 w2) (ix2 (n0 := 704) (n1 := 256) ⟨(y 0).val % 704, hk⟩ (y 1))

/-- The tail block after the call: the row group of the sequence that ends in this row tile is replaced by products of the
third part, the others stay. -/
def tailOut (i : grid0.Coords) (u2 : FVec F S704x256 .f32) (x : Vec F S4x8x256 .f32) : Vec F S4x8x256 .f32 := fun y =>
  have hk : 632 - 64 * (y 0).val + (y 1).val < 704 := by have := (y 1).isLt; change (y 1).val < 8 at this; omega
  if (i 1).val = (y 0).val then u2 (ix2 (n0 := 704) (n1 := 256) ⟨632 - 64 * (y 0).val + (y 1).val, hk⟩ (y 2)) else x y

/-- The gated window after the three stores of a tile, read at an index: the part that holds its row. -/
theorem read_gPieces (m : Memref sig .tc .vmem S2112x256 .bf16) (f : m.view.ty.Contents (Elt F)) (i : grid0.Coords)
    (a0 a1 a2 : Vec F S704x2048 .bf16) (W : Vec F S2048x1024 .bf16) (p2 p1 : Vec F S1x256 .f32)
    (w0 w1 w2 : Vec F S1x256 .f32) (q1 q2 : Vec F S256x256 .f32) :
    m.view.read (Elt F) (m.view.writes (Elt F) f (gPieces i a0 a1 a2 W p2 p1 w0 w1 w2 q1 q2))
      = gTile i a0 a1 a2 W p2 p1 w0 w1 w2 q1 q2 := by
  funext y
  refine View.read_writes_apply_of_pieces m.view f _ _ ?_ y ?_
  · intro p hp x
    simp only [gPieces, List.mem_cons, List.not_mem_nil, or_false] at hp
    rcases hp with rfl | rfl | rfl
    all_goals
      have hx0 : (x 0).val < 704 := (x 0).isLt
      simp only [gTile]
    · have e : (((Rect.unit (s := S2112x256) ![1408, 0] S704x256.size inb_S2112x256_S704x256_1408_0).emb x) 0).val = 1408 + 1 * (x 0).val := rfl
      rw [if_neg (by rw [e]; omega), if_neg (by rw [e]; omega)]
      refine congrArg _ (funext fun a => ?_)
      match a with
      | ⟨0, _⟩ => exact Fin.ext (by show (x 0).val = _ % 704; rw [e]; omega)
      | ⟨1, _⟩ => exact Fin.ext (by show (x 1).val = 0 + 1 * (x 1).val; omega)
    · have e : (((Rect.unit (s := S2112x256) ![704, 0] S704x256.size inb_S2112x256_S704x256_704_0).emb x) 0).val = 704 + 1 * (x 0).val := rfl
      rw [if_neg (by rw [e]; omega), if_pos (by rw [e]; omega)]
      refine congrArg _ (funext fun a => ?_)
      match a with
      | ⟨0, _⟩ => exact Fin.ext (by show (x 0).val = _ % 704; rw [e]; omega)
      | ⟨1, _⟩ => exact Fin.ext (by show (x 1).val = 0 + 1 * (x 1).val; omega)
    · have e : (((Rect.unit (s := S2112x256) ![0, 0] S704x256.size inb_S2112x256_S704x256_0_0).emb x) 0).val = 0 + 1 * (x 0).val := rfl
      rw [if_pos (by rw [e]; omega)]
      refine congrArg _ (funext fun a => ?_)
      match a with
      | ⟨0, _⟩ => exact Fin.ext (by show (x 0).val = _ % 704; rw [e]; omega)
      | ⟨1, _⟩ => exact Fin.ext (by show (x 1).val = 0 + 1 * (x 1).val; omega)
  · exact View.cover_of_tiled _ ![704, 256] rfl y

/-- The four stores of the weight segments, newest first. -/
def wPieces (x1 x2 x3 x4 : Vec F S1x2048x256 .f32) : List (View.Piece (Elt F) S2048x1024 .bf16) :=
  [⟨Rect.unit ![0, 768] S2048x256.size inb_S2048x1024_S2048x256_0_768, k0_pay5 x4⟩,
    ⟨Rect.unit ![0, 512] S2048x256.size inb_S2048x1024_S2048x256_0_512, k0_pay4 x3⟩,
    ⟨Rect.unit ![0, 256] S2048x256.size inb_S2048x1024_S2048x256_0_256, k0_pay3 x2⟩,
    ⟨Rect.unit ![0, 0] S2048x256.size inb_S2048x1024_S2048x256_0_0, k0_pay2 x1⟩]

/-- The concatenated weights after the four segment stores, read at an index: the segment that holds its column. -/
theorem read_wPieces (m : Memref sig .tc .vmem S2048x1024 .bf16) (f : m.view.ty.Contents (Elt F)) (x1 x2 x3 x4 : Vec F S1x2048x256 .f32) :
    m.view.read (Elt F) (m.view.writes (Elt F) f (wPieces x1 x2 x3 x4)) = wcat x1 x2 x3 x4 := by
  funext y
  refine View.read_writes_apply_of_pieces m.view f _ _ ?_ y ?_
  · intro p hp x
    simp only [wPieces, List.mem_cons, List.not_mem_nil, or_false] at hp
    rcases hp with rfl | rfl | rfl | rfl
    all_goals
      have hx0 : (x 1).val < 256 := (x 1).isLt
      simp only [wcat]
    · have e : (((Rect.unit (s := S2048x1024) ![0, 768] S2048x256.size inb_S2048x1024_S2048x256_0_768).emb x) 1).val = 768 + 1 * (x 1).val := rfl
      rw [if_neg (by rw [e]; omega), if_neg (by rw [e]; omega), if_neg (by rw [e]; omega)]
      refine congrArg (k0_pay2 x4) (funext fun a => ?_)
      match a with
      | ⟨0, _⟩ => exact Fin.ext (by show (x 0).val = 0 + 1 * (x 0).val; omega)
      | ⟨1, _⟩ => exact Fin.ext (by show (x 1).val = _ % 256; rw [e]; omega)
    · have e : (((Rect.unit (s := S2048x1024) ![0, 512] S2048x256.size inb_S2048x1024_S2048x256_0_512).emb x) 1).val = 512 + 1 * (x 1).val := rfl
      rw [if_neg (by rw [e]; omega), if_neg (by rw [e]; omega), if_pos (by rw [e]; omega)]
      refine congrArg (k0_pay2 x3) (funext fun a => ?_)
      match a with
      | ⟨0, _⟩ => exact Fin.ext (by show (x 0).val = 0 + 1 * (x 0).val; omega)
      | ⟨1, _⟩ => exact Fin.ext (by show (x 1).val = _ % 256; rw [e]; omega)
    · have e : (((Rect.unit (s := S2048x1024) ![0, 256] S2048x256.size inb_S2048x1024_S2048x256_0_256).emb x) 1).val = 256 + 1 * (x 1).val := rfl
      rw [if_neg (by rw [e]; omega), if_pos (by rw [e]; omega)]
      refine congrArg (k0_pay2 x2) (funext fun a => ?_)
      match a with
      | ⟨0, _⟩ => exact Fin.ext (by show (x 0).val = 0 + 1 * (x 0).val; omega)
      | ⟨1, _⟩ => exact Fin.ext (by show (x 1).val = _ % 256; rw [e]; omega)
    · have e : (((Rect.unit (s := S2048x1024) ![0, 0] S2048x256.size inb_S2048x1024_S2048x256_0_0).emb x) 1).val = 0 + 1 * (x 1).val := rfl
      rw [if_pos (by rw [e]; omega)]
      refine congrArg (k0_pay2 x1) (funext fun a => ?_)
      match a with
      | ⟨0, _⟩ => exact Fin.ext (by show (x 0).val = 0 + 1 * (x 0).val; omega)
      | ⟨1, _⟩ => exact Fin.ext (by show (x 1).val = _ % 256; rw [e]; omega)
  · exact View.cover_of_tiled _ ![2048, 256] rfl y

/-- A store through a rectangle under a mask that is everywhere on or everywhere off, read inside the rectangle. -/
theorem read_masked_inside {s : Shape} {e : EltTy} (m : Memref sig .tc .vmem s e) (r : Rect s) (f : m.view.ty.Contents (Elt F))
    (w : r.shape.Idx → Elt F e) (v : IVec r.shape 1) (p : Prop) [Decidable p] (hv : ∀ x, v x = 1 ↔ p) (x : r.shape.Idx) :
    m.view.read (Elt F) (View.write (Elt F) (m.access r) f w v.on) (r.emb x)
      = if p then w x else m.view.read (Elt F) f (r.emb x) := by
  by_cases hp : p
  · rw [if_pos hp]
    exact View.read_slice_write_emb r f w ((IVec.mem_on_iff v x).2 ((hv x).2 hp))
  · rw [if_neg hp]
    refine View.read_slice_write_of_not_mem r f w _ fun hm => ?_
    obtain ⟨x', hx, -⟩ := Finset.mem_map.1 hm
    exact hp ((hv x').1 ((IVec.mem_on_iff v x').1 hx))

/-- The same store read outside the rectangle. -/
theorem read_masked_outside {s : Shape} {e : EltTy} (m : Memref sig .tc .vmem s e) (r : Rect s) (f : m.view.ty.Contents (Elt F))
    (w : r.shape.Idx → Elt F e) (v : IVec r.shape 1) (y : s.Idx) (hy : y ∉ r.set) :
    m.view.read (Elt F) (View.write (Elt F) (m.access r) f w v.on) y = m.view.read (Elt F) f y := by
  refine View.read_slice_write_of_not_mem r f w _ fun hm => hy ?_
  obtain ⟨x, -, rfl⟩ := Finset.mem_map.1 hm
  rw [← Rect.map_emb_univ]
  exact Finset.mem_map_of_mem _ (Finset.mem_univ x)

/-- A masked store of one row group whose mask is the same word everywhere. -/
theorem read_group_store (m : Memref sig .tc .vmem S4x8x256 .f32) (b : ℕ)
    (h : ∀ a, (![b, 0, 0] : Fin 3 → ℕ) a + S1x8x256.size a ≤ S4x8x256.size a)
    (f : m.view.ty.Contents (Elt F)) (w : FVec F S1x8x256 .f32) (v : IVec S1x8x256 1) (p : Prop) [Decidable p] (hv : ∀ x, v x = 1 ↔ p)
    (y : S4x8x256.Idx) :
    m.view.read (Elt F) (View.write (Elt F) (m.access (Rect.unit ![b, 0, 0] S1x8x256.size h)) f w v.on) y
      = if p ∧ (y 0).val = b then w (ix3 (n0 := 1) (n1 := 8) (n2 := 256) 0 (y 1) (y 2)) else m.view.read (Elt F) f y := by
  by_cases hy : (y 0).val = b
  · have e : (Rect.unit (s := S4x8x256) ![b, 0, 0] S1x8x256.size h).emb (ix3 (n0 := 1) (n1 := 8) (n2 := 256) 0 (y 1) (y 2)) = y :=
      Rect.emb_eq_of_coords _ _ _ fun a => by
        match a with
        | ⟨0, _⟩ => show (y 0).val = b + 1 * 0; omega
        | ⟨1, _⟩ => show (y 1).val = 0 + 1 * (y 1).val; omega
        | ⟨2, _⟩ => show (y 2).val = 0 + 1 * (y 2).val; omega
    have := read_masked_inside m (Rect.unit (s := S4x8x256) ![b, 0, 0] S1x8x256.size h) f w v p hv
      (ix3 (n0 := 1) (n1 := 8) (n2 := 256) 0 (y 1) (y 2))
    rw [e] at this
    refine this.trans ?_
    by_cases hp : p
    · rw [if_pos hp, if_pos ⟨hp, hy⟩]
    · rw [if_neg hp, if_neg fun h => hp h.1]
  · rw [if_neg fun h => hy h.2]
    have ho : (y 0).val < b ∨ b + 1 ≤ (y 0).val := by omega
    exact read_masked_outside m (Rect.unit (s := S4x8x256) ![b, 0, 0] S1x8x256.size h) f w v y
      (Rect.not_mem_set_of_axis _ y 0 b 1 rfl rfl rfl ho)

/-- The four masked stores of the tail block, as the body makes them. -/
def tailWrites (m : Memref sig .tc .vmem S4x8x256 .f32) (i : grid0.Coords) (u2 : FVec F S704x256 .f32)
    (f : m.view.ty.Contents (Elt F)) : m.view.ty.Contents (Elt F) :=
  View.write (Elt F) (m.access (Rect.unit ![3, 0, 0] S1x8x256.size inb_S4x8x256_S1x8x256_3_0_0))
    (View.write (Elt F) (m.access (Rect.unit ![2, 0, 0] S1x8x256.size inb_S4x8x256_S1x8x256_2_0_0))
      (View.write (Elt F) (m.access (Rect.unit ![1, 0, 0] S1x8x256.size inb_S4x8x256_S1x8x256_1_0_0))
        (View.write (Elt F) (m.access (Rect.unit ![0, 0, 0] S1x8x256.size inb_S4x8x256_S1x8x256_0_0_0)) f
          (k0_pay47 u2) (k0_pay48 (tileWord i)).on)
        (k0_pay49 u2) (k0_pay50 (tileWord i)).on)
      (k0_pay51 u2) (k0_pay52 (tileWord i)).on)
    (k0_pay53 u2) (k0_pay54 (tileWord i)).on

/-- Small numbers, as words, are equal exactly if they are equal. -/
theorem word_eq_iff : ∀ n < 4, ∀ b < 4, Scalar.cmpi .eq (BitVec.ofNat 32 n) (BitVec.ofNat 32 b) = 1 ↔ n = b := by decide

/-- The word that the body computes for a row tile, as a number. -/
theorem tileWord_eq (i : grid0.Coords) (b : ℕ) (hb : b < 4) :
    Scalar.cmpi .eq (tileWord i) (BitVec.ofNat 32 b) = 1 ↔ (i 1).val = b :=
  word_eq_iff _ (i 1).isLt b hb

/-- The tail window after the masked stores of a row tile, read at an index. -/
theorem read_tailWrites (m : Memref sig .tc .vmem S4x8x256 .f32) (i : grid0.Coords) (u2 : FVec F S704x256 .f32)
    (f : m.view.ty.Contents (Elt F)) :
    m.view.read (Elt F) (tailWrites m i u2 f) = tailOut i u2 (m.view.read (Elt F) f) := by
  funext y
  have hy : (y 0).val < 4 := (y 0).isLt
  have hy1 : (y 1).val < 8 := (y 1).isLt
  unfold tailWrites
  rw [read_group_store m 3 _ _ _ _ ((i 1).val = 3) (fun x => by
      rw [← tileWord_eq i 3 (by decide)]; pointwise [k0_pay54]),
    read_group_store m 2 _ _ _ _ ((i 1).val = 2) (fun x => by
      rw [← tileWord_eq i 2 (by decide)]; pointwise [k0_pay52]),
    read_group_store m 1 _ _ _ _ ((i 1).val = 1) (fun x => by
      rw [← tileWord_eq i 1 (by decide)]; pointwise [k0_pay50]),
    read_group_store m 0 _ _ _ _ ((i 1).val = 0) (fun x => by
      rw [← tileWord_eq i 0 (by decide)]; pointwise [k0_pay48])]
  simp only [tailOut]
  pointwise [k0_pay47, k0_pay49, k0_pay51, k0_pay53]
  split_ifs
  all_goals first
    | rfl
    | omega
    | exact congrArg u2 (congrArg (fun k => ix2 k (y 2)) (Fin.ext (by simp only []; omega)))

end Cert.KernelIdeal.Conv
-- ==== Proof.Run.lean ====
module

public import proofs.«01_k».proof.Proof.Tile

/-!
One run of the kernel body: at the first row tile of a column block, where the weights are loaded, and at the other three.
The run is stated once, over any floating-point interpretation.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which the body loads the weights: the second grid coordinate is zero. -/
abbrev cond0_0 (i : grid0.Coords) : Prop := (Scalar.cmpi .ne (Scalar.extui (Scalar.cmpi .eq (BitVec.ofNat 32 (i 1).val) 0#32)) 0#32) = 1#1

/-- The gated block after a call, from its input blocks, the weights `W` and the carried rows `C`. -/
def gAfter (i : grid0.Coords) (x0 : Vec F S2112x2048 .bf16) (x5 : Vec F S3x256 .f32) (x6 x7 : Vec F S256x256 .f32)
    (W : Vec F S2048x1024 .bf16) (C : Vec F S8x256 .f32) : Vec F S2112x256 .bf16 :=
  gTile i (rowsFrom 0 inb_S2112x2048_S704x2048_0_0 x0) (rowsFrom 704 inb_S2112x2048_S704x2048_704_0 x0)
    (rowsFrom 1408 inb_S2112x2048_S704x2048_1408_0 x0) W (carryRow 6 inb_S8x256_S1x256_6_0 C) (carryRow 7 inb_S8x256_S1x256_7_0 C)
    (tapRow 0 inb_S3x256_S1x256_0_0 x5) (tapRow 1 inb_S3x256_S1x256_1_0 x5) (tapRow 2 inb_S3x256_S1x256_2_0 x5) x6 x7

/-- The products of the third part of a row tile. -/
def uLast (x0 : Vec F S2112x2048 .bf16) (W : Vec F S2048x1024 .bf16) : FVec F S704x256 .f32 :=
  k0_pay39 (rowsFrom 1408 inb_S2112x2048_S704x2048_1408_0 x0) W

/-- A load of 704 rows of the activation block, entry by entry. -/
theorem load_rows (m : Memref sig .tc .vmem S2112x2048 .bf16) (hm : m.IsWhole) (o : ℕ)
    (h : ∀ a, (![o, 0] : Fin 2 → ℕ) a + S704x2048.size a ≤ S2112x2048.size a) (x : Vec F S2112x2048 .bf16) :
    View.readAt (Elt F) m.view (Rect.unit (s := S2112x2048) ![o, 0] S704x2048.size h).toLoadRect (hm.unread x) = rowsFrom o h x :=
  funext fun j => hm.readAt_unread x _ j

/-- A load of one row of the taps, entry by entry. -/
theorem load_tap (m : Memref sig .tc .vmem S3x256 .f32) (hm : m.IsWhole) (o : ℕ)
    (h : ∀ a, (![o, 0] : Fin 2 → ℕ) a + S1x256.size a ≤ S3x256.size a) (x : Vec F S3x256 .f32) :
    View.readAt (Elt F) m.view (Rect.unit (s := S3x256) ![o, 0] S1x256.size h).toLoadRect (hm.unread x) = tapRow o h x :=
  funext fun j => hm.readAt_unread x _ j

/-- A load of the carried rows, entry by entry. -/
theorem load_carry (m : Memref sig .tc .vmem S8x256 .f32) (hm : m.IsWhole) (o : ℕ)
    (h : ∀ a, (![o, 0] : Fin 2 → ℕ) a + S1x256.size a ≤ S8x256.size a) (x : Vec F S8x256 .f32) :
    View.readAt (Elt F) m.view (Rect.unit (s := S8x256) ![o, 0] S1x256.size h).toLoadRect (hm.unread x) = carryRow o h x :=
  funext fun j => hm.readAt_unread x _ j

/-- A load of a whole block of past rows gives the block. -/
theorem load_past (m : Memref sig .tc .vmem S256x256 .f32) (hm : m.IsWhole) (x : Vec F S256x256 .f32) :
    View.readAt (Elt F) m.view (Rect.unit ![0, 0] S256x256.size inb_S256x256_S256x256_0_0).toLoadRect (hm.unread x) = x :=
  funext fun j => (hm.readAt_unread x _ j).trans (congrArg x (funext fun a => Fin.ext (by
    match a with
    | ⟨0, _⟩ => show 0 + 1 * (j 0).val = (j 0).val; omega
    | ⟨1, _⟩ => show 0 + 1 * (j 1).val = (j 1).val; omega)))

/-- A load of a whole weight segment gives the segment. -/
theorem load_seg (m : Memref sig .tc .vmem S1x2048x256 .f32) (hm : m.IsWhole) (x : Vec F S1x2048x256 .f32) :
    View.readAt (Elt F) m.view (Rect.unit ![0, 0, 0] S1x2048x256.size inb_S1x2048x256_S1x2048x256_0_0_0).toLoadRect (hm.unread x) = x :=
  funext fun j => (hm.readAt_unread x _ j).trans (congrArg x (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega)))

/-- The place of an index in the whole rectangle of the concatenated weights is the index itself. -/
theorem whole_wcat (j : S2048x1024.Idx) :
    (Rect.unit (s := S2048x1024) ![0, 0] S2048x1024.size inb_S2048x1024_S2048x1024_0_0).toLoadRect.idx j = j :=
  funext fun a => Fin.ext (by
    match a with
    | ⟨0, _⟩ => show 0 + 1 * (j 0).val = (j 0).val; omega
    | ⟨1, _⟩ => show 0 + 1 * (j 1).val = (j 1).val; omega)

/-- A load of the whole concatenated weights gives them. -/
theorem load_wcat (m : Memref sig .tc .vmem S2048x1024 .bf16) (hm : m.IsWhole) (x : Vec F S2048x1024 .bf16) :
    View.readAt (Elt F) m.view (Rect.unit ![0, 0] S2048x1024.size inb_S2048x1024_S2048x1024_0_0).toLoadRect (hm.unread x) = x :=
  funext fun j => (hm.readAt_unread x _ j).trans (congrArg x (whole_wcat j))

/-- The four segment stores cover the concatenated weights: what is read afterwards does not depend on what was there. -/
theorem cov_wcat (m : Memref sig .tc .vmem S2048x1024 .bf16) (x1 x2 x3 x4 : Vec F S1x2048x256 .f32) :
    m.view.readCov (wPieces x1 x2 x3 x4) (Rect.unit ![0, 0] S2048x1024.size inb_S2048x1024_S2048x1024_0_0).toLoadRect
      = wcat x1 x2 x3 x4 :=
  funext fun j => (congrFun (read_wPieces m _ x1 x2 x3 x4) _).trans (congrArg (wcat x1 x2 x3 x4) (whole_wcat j))

/-- The rectangle of the whole 8 by 256 buffer places each index at itself. -/
theorem whole_S8x256 (j : S8x256.Idx) : (Rect.unit (s := S8x256) ![0, 0] S8x256.size inb_S8x256_S8x256_0_0).emb j = j :=
  funext fun a => Fin.ext (by
    match a with
    | ⟨0, _⟩ => show 0 + 1 * (j 0).val = (j 0).val; omega
    | ⟨1, _⟩ => show 0 + 1 * (j 1).val = (j 1).val; omega)

/-- The rectangle of the whole 256 by 256 buffer places each index at itself. -/
theorem whole_S256x256 (j : S256x256.Idx) : (Rect.unit (s := S256x256) ![0, 0] S256x256.size inb_S256x256_S256x256_0_0).emb j = j :=
  funext fun a => Fin.ext (by
    match a with
    | ⟨0, _⟩ => show 0 + 1 * (j 0).val = (j 0).val; omega
    | ⟨1, _⟩ => show 0 + 1 * (j 1).val = (j 1).val; omega)

/-- One store over all eight carried rows leaves what was stored, whatever was stored before. -/
theorem read_carry_store (m : Memref sig .tc .vmem S8x256 .f32) (f : m.view.ty.Contents (Elt F)) (w : FVec F S8x256 .f32)
    (L : List (View.Piece (Elt F) S8x256 .f32)) :
    m.view.read (Elt F) (m.view.writes (Elt F) f (⟨Rect.unit ![0, 0] S8x256.size inb_S8x256_S8x256_0_0, w⟩ :: L)) = w :=
  funext fun y => View.read_writes_cons_hit m.view f (Rect.unit (s := S8x256) ![0, 0] S8x256.size inb_S8x256_S8x256_0_0) w L y y
    (whole_S8x256 y)

/-- A store of the whole carry buffer leaves what was stored. -/
theorem cov_carry (m : Memref sig .tc .vmem S8x256 .f32) (o : ℕ)
    (h : ∀ a, (![o, 0] : Fin 2 → ℕ) a + S1x256.size a ≤ S8x256.size a) (w : FVec F S8x256 .f32) :
    m.view.readCov [⟨Rect.unit ![0, 0] S8x256.size inb_S8x256_S8x256_0_0, w⟩]
      (Rect.unit (s := S8x256) ![o, 0] S1x256.size h).toLoadRect = carryRow o h w :=
  funext fun j => congrFun (read_carry_store m _ w []) _

/-- A store of a whole 256 by 256 block leaves what was stored. -/
theorem read_past_store (m : Memref sig .tc .vmem S256x256 .f32) (f : m.view.ty.Contents (Elt F)) (w : FVec F S256x256 .f32) :
    m.view.read (Elt F) (m.view.writes (Elt F) f [⟨Rect.unit ![0, 0] S256x256.size inb_S256x256_S256x256_0_0, w⟩]) = w :=
  funext fun y => View.read_writes_cons_hit m.view f (Rect.unit (s := S256x256) ![0, 0] S256x256.size inb_S256x256_S256x256_0_0) w [] y y
    (whole_S256x256 y)

set_option maxHeartbeats 1000000 in
/-- The body at the first row tile of a column block: the four weight segments and a zero carry are put in place first. -/
theorem runA (c : Dev nD) (i : grid0.Coords) (arg2 : Memref sig .tc .vmem S2112x2048 .bf16) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S3x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S2112x256 .bf16) (harg10 : arg10.IsWhole) (arg11 : Memref sig .tc .vmem S4x8x256 .f32) (harg11 : arg11.IsWhole) (arg12 : Memref sig .tc .vmem S256x256 .f32) (harg12 : arg12.IsWhole) (arg13 : Memref sig .tc .vmem S2048x1024 .bf16) (harg13 : arg13.IsWhole) (arg14 : Memref sig .tc .vmem S8x256 .f32) (harg14 : arg14.IsWhole) (hc0 : cond0_0 i)
    (x0 : Vec F S2112x2048 .bf16) (x1 : Vec F S1x2048x256 .f32) (x2 : Vec F S1x2048x256 .f32) (x3 : Vec F S1x2048x256 .f32) (x4 : Vec F S1x2048x256 .f32) (x5 : Vec F S3x256 .f32) (x6 : Vec F S256x256 .f32) (x7 : Vec F S256x256 .f32) (y9 : Vec F S4x8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y9 ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (gAfter i x0 x5 x6 x7 (wcat x1 x2 x3 x4) k0_pay6) ∗ owns (c : Thread nD τ) arg11 fullShare (tailOut i (uLast x0 (wcat x1 x2 x3 x4)) y9) ∗ owns (c : Thread nD τ) arg12 fullShare (k0_pay55 (uLast x0 (wcat x1 x2 x3 x4))) ∗ owns (c : Thread nD τ) arg13 fullShare ((wcat x1 x2 x3 x4)) ∗ owns (c : Thread nD τ) arg14 fullShare (k0_pay1 (k0_pay56 (uLast x0 (wcat x1 x2 x3 x4))))) -∗ K ⟨⟩))
      ⊢ wp frame (wpE (defs₀ (F := F)) Variants.none c none) E (cc0_conv_mixer i arg2 harg2 arg3 harg3 arg4 harg4 arg5 harg5 arg6 harg6 arg7 harg7 arg8 harg8 arg9 harg9 arg10 harg10 arg11 harg11 arg12 harg12 arg13 harg13 arg14 harg14) K := by
  simp only [cc0_conv_mixer_eq_skeleton]; unfold cc0_conv_mixer_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists (arg10.view.writes (Elt F) f8 (gPieces i (View.readAt (Elt F) arg2.view (Rect.unit (s := S2112x2048) ![0, 0] S704x2048.size inb_S2112x2048_S704x2048_0_0).toLoadRect (harg2.unread x0)) (View.readAt (Elt F) arg2.view (Rect.unit (s := S2112x2048) ![704, 0] S704x2048.size inb_S2112x2048_S704x2048_704_0).toLoadRect (harg2.unread x0)) (View.readAt (Elt F) arg2.view (Rect.unit (s := S2112x2048) ![1408, 0] S704x2048.size inb_S2112x2048_S704x2048_1408_0).toLoadRect (harg2.unread x0)) (arg13.view.readCov (wPieces (View.readAt (Elt F) arg3.view (Rect.unit (s := S1x2048x256) ![0, 0, 0] S1x2048x256.size inb_S1x2048x256_S1x2048x256_0_0_0).toLoadRect (harg3.unread x1)) (View.readAt (Elt F) arg4.view (Rect.unit (s := S1x2048x256) ![0, 0, 0] S1x2048x256.size inb_S1x2048x256_S1x2048x256_0_0_0).toLoadRect (harg4.unread x2)) (View.readAt (Elt F) arg5.view (Rect.unit (s := S1x2048x256) ![0, 0, 0] S1x2048x256.size inb_S1x2048x256_S1x2048x256_0_0_0).toLoadRect (harg5.unread x3)) (View.readAt (Elt F) arg6.view (Rect.unit (s := S1x2048x256) ![0, 0, 0] S1x2048x256.size inb_S1x2048x256_S1x2048x256_0_0_0).toLoadRect (harg6.unread x4))) (Rect.unit (s := S2048x1024) ![0, 0] S2048x1024.size inb_S2048x1024_S2048x1024_0_0).toLoadRect) (arg14.view.readCov [⟨Rect.unit ![0, 0] S8x256.size inb_S8x256_S8x256_0_0, k0_pay6⟩] (Rect.unit (s := S8x256) ![6, 0] S1x256.size inb_S8x256_S1x256_6_0).toLoadRect) (arg14.view.readCov [⟨Rect.unit ![0, 0] S8x256.size inb_S8x256_S8x256_0_0, k0_pay6⟩] (Rect.unit (s := S8x256) ![7, 0] S1x256.size inb_S8x256_S1x256_7_0).toLoadRect) (View.readAt (Elt F) arg7.view (Rect.unit (s := S3x256) ![0, 0] S1x256.size inb_S3x256_S1x256_0_0).toLoadRect (harg7.unread x5)) (View.readAt (Elt F) arg7.view (Rect.unit (s := S3x256) ![1, 0] S1x256.size inb_S3x256_S1x256_1_0).toLoadRect (harg7.unread x5)) (View.readAt (Elt F) arg7.view (Rect.unit (s := S3x256) ![2, 0] S1x256.size inb_S3x256_S1x256_2_0).toLoadRect (harg7.unread x5)) (View.readAt (Elt F) arg8.view (Rect.unit (s := S256x256) ![0, 0] S256x256.size inb_S256x256_S256x256_0_0).toLoadRect (harg8.unread x6)) (View.readAt (Elt F) arg9.view (Rect.unit (s := S256x256) ![0, 0] S256x256.size inb_S256x256_S256x256_0_0).toLoadRect (harg9.unread x7)))); isplitr
    · ipureintro; rw [read_gPieces]; unfold gAfter; rw [load_rows, load_rows, load_rows, load_seg, load_seg, load_seg, load_seg, cov_wcat, cov_carry, cov_carry, load_tap, load_tap, load_tap, load_past, load_past]
    iexact H8
  isplitl [H9]
  · iexists (tailWrites arg11 i (k0_pay39 (View.readAt (Elt F) arg2.view (Rect.unit (s := S2112x2048) ![1408, 0] S704x2048.size inb_S2112x2048_S704x2048_1408_0).toLoadRect (harg2.unread x0)) (arg13.view.readCov (wPieces (View.readAt (Elt F) arg3.view (Rect.unit (s := S1x2048x256) ![0, 0, 0] S1x2048x256.size inb_S1x2048x256_S1x2048x256_0_0_0).toLoadRect (harg3.unread x1)) (View.readAt (Elt F) arg4.view (Rect.unit (s := S1x2048x256) ![0, 0, 0] S1x2048x256.size inb_S1x2048x256_S1x2048x256_0_0_0).toLoadRect (harg4.unread x2)) (View.readAt (Elt F) arg5.view (Rect.unit (s := S1x2048x256) ![0, 0, 0] S1x2048x256.size inb_S1x2048x256_S1x2048x256_0_0_0).toLoadRect (harg5.unread x3)) (View.readAt (Elt F) arg6.view (Rect.unit (s := S1x2048x256) ![0, 0, 0] S1x2048x256.size inb_S1x2048x256_S1x2048x256_0_0_0).toLoadRect (harg6.unread x4))) (Rect.unit (s := S2048x1024) ![0, 0] S2048x1024.size inb_S2048x1024_S2048x1024_0_0).toLoadRect)) (harg11.unread y9)); isplitr
    · ipureintro; rw [read_tailWrites, harg11.read_unread]; unfold uLast; rw [load_rows, load_seg, load_seg, load_seg, load_seg, cov_wcat]
    iexact H9
  isplitl [H10]
  · iexists (arg12.view.writes (Elt F) f10 [⟨Rect.unit ![0, 0] S256x256.size inb_S256x256_S256x256_0_0, k0_pay55 (k0_pay39 (View.readAt (Elt F) arg2.view (Rect.unit (s := S2112x2048) ![1408, 0] S704x2048.size inb_S2112x2048_S704x2048_1408_0).toLoadRect (harg2.unread x0)) (arg13.view.readCov (wPieces (View.readAt (Elt F) arg3.view (Rect.unit (s := S1x2048x256) ![0, 0, 0] S1x2048x256.size inb_S1x2048x256_S1x2048x256_0_0_0).toLoadRect (harg3.unread x1)) (View.readAt (Elt F) arg4.view (Rect.unit (s := S1x2048x256) ![0, 0, 0] S1x2048x256.size inb_S1x2048x256_S1x2048x256_0_0_0).toLoadRect (harg4.unread x2)) (View.readAt (Elt F) arg5.view (Rect.unit (s := S1x2048x256) ![0, 0, 0] S1x2048x256.size inb_S1x2048x256_S1x2048x256_0_0_0).toLoadRect (harg5.unread x3)) (View.readAt (Elt F) arg6.view (Rect.unit (s := S1x2048x256) ![0, 0, 0] S1x2048x256.size inb_S1x2048x256_S1x2048x256_0_0_0).toLoadRect (harg6.unread x4))) (Rect.unit (s := S2048x1024) ![0, 0] S2048x1024.size inb_S2048x1024_S2048x1024_0_0).toLoadRect))⟩]); isplitr
    · ipureintro; rw [read_past_store]; unfold uLast; rw [load_rows, load_seg, load_seg, load_seg, load_seg, cov_wcat]
    iexact H10
  isplitl [HS0]
  · iexists (arg13.view.writes (Elt F) fs0 (wPieces (View.readAt (Elt F) arg3.view (Rect.unit (s := S1x2048x256) ![0, 0, 0] S1x2048x256.size inb_S1x2048x256_S1x2048x256_0_0_0).toLoadRect (harg3.unread x1)) (View.readAt (Elt F) arg4.view (Rect.unit (s := S1x2048x256) ![0, 0, 0] S1x2048x256.size inb_S1x2048x256_S1x2048x256_0_0_0).toLoadRect (harg4.unread x2)) (View.readAt (Elt F) arg5.view (Rect.unit (s := S1x2048x256) ![0, 0, 0] S1x2048x256.size inb_S1x2048x256_S1x2048x256_0_0_0).toLoadRect (harg5.unread x3)) (View.readAt (Elt F) arg6.view (Rect.unit (s := S1x2048x256) ![0, 0, 0] S1x2048x256.size inb_S1x2048x256_S1x2048x256_0_0_0).toLoadRect (harg6.unread x4)))); isplitr
    · ipureintro; rw [read_wPieces]; rw [load_seg, load_seg, load_seg, load_seg]
    iexact HS0
  · iexists (arg14.view.writes (Elt F) fs1 (⟨Rect.unit ![0, 0] S8x256.size inb_S8x256_S8x256_0_0, k0_pay1 (k0_pay56 (k0_pay39 (View.readAt (Elt F) arg2.view (Rect.unit (s := S2112x2048) ![1408, 0] S704x2048.size inb_S2112x2048_S704x2048_1408_0).toLoadRect (harg2.unread x0)) (arg13.view.readCov (wPieces (View.readAt (Elt F) arg3.view (Rect.unit (s := S1x2048x256) ![0, 0, 0] S1x2048x256.size inb_S1x2048x256_S1x2048x256_0_0_0).toLoadRect (harg3.unread x1)) (View.readAt (Elt F) arg4.view (Rect.unit (s := S1x2048x256) ![0, 0, 0] S1x2048x256.size inb_S1x2048x256_S1x2048x256_0_0_0).toLoadRect (harg4.unread x2)) (View.readAt (Elt F) arg5.view (Rect.unit (s := S1x2048x256) ![0, 0, 0] S1x2048x256.size inb_S1x2048x256_S1x2048x256_0_0_0).toLoadRect (harg5.unread x3)) (View.readAt (Elt F) arg6.view (Rect.unit (s := S1x2048x256) ![0, 0, 0] S1x2048x256.size inb_S1x2048x256_S1x2048x256_0_0_0).toLoadRect (harg6.unread x4))) (Rect.unit (s := S2048x1024) ![0, 0] S2048x1024.size inb_S2048x1024_S2048x1024_0_0).toLoadRect)))⟩ :: [⟨Rect.unit ![0, 0] S8x256.size inb_S8x256_S8x256_0_0, k0_pay6⟩])); isplitr
    · ipureintro; rw [read_carry_store]; unfold uLast; rw [load_rows, load_seg, load_seg, load_seg, load_seg, cov_wcat]
    iexact HS1

set_option maxHeartbeats 1000000 in
/-- The body at a later row tile: the weights and the carried rows are what the earlier calls left. -/
theorem runB (c : Dev nD) (i : grid0.Coords) (arg2 : Memref sig .tc .vmem S2112x2048 .bf16) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S3x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S2112x256 .bf16) (harg10 : arg10.IsWhole) (arg11 : Memref sig .tc .vmem S4x8x256 .f32) (harg11 : arg11.IsWhole) (arg12 : Memref sig .tc .vmem S256x256 .f32) (harg12 : arg12.IsWhole) (arg13 : Memref sig .tc .vmem S2048x1024 .bf16) (harg13 : arg13.IsWhole) (arg14 : Memref sig .tc .vmem S8x256 .f32) (harg14 : arg14.IsWhole) (hc0 : ¬ cond0_0 i)
    (x0 : Vec F S2112x2048 .bf16) (x1 : Vec F S1x2048x256 .f32) (x2 : Vec F S1x2048x256 .f32) (x3 : Vec F S1x2048x256 .f32) (x4 : Vec F S1x2048x256 .f32) (x5 : Vec F S3x256 .f32) (x6 : Vec F S256x256 .f32) (x7 : Vec F S256x256 .f32) (y9 : Vec F S4x8x256 .f32) (xs0 : Vec F S2048x1024 .bf16) (xs1 : Vec F S8x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare y9 ∗ (∃ d, owns (c : Thread nD τ) arg12 fullShare d) ∗ owns (c : Thread nD τ) arg13 fullShare xs0 ∗ owns (c : Thread nD τ) arg14 fullShare xs1
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (gAfter i x0 x5 x6 x7 xs0 xs1) ∗ owns (c : Thread nD τ) arg11 fullShare (tailOut i (uLast x0 xs0) y9) ∗ owns (c : Thread nD τ) arg12 fullShare (k0_pay55 (uLast x0 xs0)) ∗ owns (c : Thread nD τ) arg13 fullShare (xs0) ∗ owns (c : Thread nD τ) arg14 fullShare (k0_pay1 (k0_pay56 (uLast x0 xs0)))) -∗ K ⟨⟩))
      ⊢ wp frame (wpE (defs₀ (F := F)) Variants.none c none) E (cc0_conv_mixer i arg2 harg2 arg3 harg3 arg4 harg4 arg5 harg5 arg6 harg6 arg7 harg7 arg8 harg8 arg9 harg9 arg10 harg10 arg11 harg11 arg12 harg12 arg13 harg13 arg14 harg14) K := by
  simp only [cc0_conv_mixer_eq_skeleton]; unfold cc0_conv_mixer_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg13.eq_unread hfs0; obtain rfl := harg14.eq_unread hfs1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists (arg10.view.writes (Elt F) f8 (gPieces i (View.readAt (Elt F) arg2.view (Rect.unit (s := S2112x2048) ![0, 0] S704x2048.size inb_S2112x2048_S704x2048_0_0).toLoadRect (harg2.unread x0)) (View.readAt (Elt F) arg2.view (Rect.unit (s := S2112x2048) ![704, 0] S704x2048.size inb_S2112x2048_S704x2048_704_0).toLoadRect (harg2.unread x0)) (View.readAt (Elt F) arg2.view (Rect.unit (s := S2112x2048) ![1408, 0] S704x2048.size inb_S2112x2048_S704x2048_1408_0).toLoadRect (harg2.unread x0)) (View.readAt (Elt F) arg13.view (Rect.unit (s := S2048x1024) ![0, 0] S2048x1024.size inb_S2048x1024_S2048x1024_0_0).toLoadRect (harg13.unread xs0)) (View.readAt (Elt F) arg14.view (Rect.unit (s := S8x256) ![6, 0] S1x256.size inb_S8x256_S1x256_6_0).toLoadRect (harg14.unread xs1)) (View.readAt (Elt F) arg14.view (Rect.unit (s := S8x256) ![7, 0] S1x256.size inb_S8x256_S1x256_7_0).toLoadRect (harg14.unread xs1)) (View.readAt (Elt F) arg7.view (Rect.unit (s := S3x256) ![0, 0] S1x256.size inb_S3x256_S1x256_0_0).toLoadRect (harg7.unread x5)) (View.readAt (Elt F) arg7.view (Rect.unit (s := S3x256) ![1, 0] S1x256.size inb_S3x256_S1x256_1_0).toLoadRect (harg7.unread x5)) (View.readAt (Elt F) arg7.view (Rect.unit (s := S3x256) ![2, 0] S1x256.size inb_S3x256_S1x256_2_0).toLoadRect (harg7.unread x5)) (View.readAt (Elt F) arg8.view (Rect.unit (s := S256x256) ![0, 0] S256x256.size inb_S256x256_S256x256_0_0).toLoadRect (harg8.unread x6)) (View.readAt (Elt F) arg9.view (Rect.unit (s := S256x256) ![0, 0] S256x256.size inb_S256x256_S256x256_0_0).toLoadRect (harg9.unread x7)))); isplitr
    · ipureintro; rw [read_gPieces]; unfold gAfter; rw [load_rows, load_rows, load_rows, load_wcat, load_carry, load_carry, load_tap, load_tap, load_tap, load_past, load_past]
    iexact H8
  isplitl [H9]
  · iexists (tailWrites arg11 i (k0_pay39 (View.readAt (Elt F) arg2.view (Rect.unit (s := S2112x2048) ![1408, 0] S704x2048.size inb_S2112x2048_S704x2048_1408_0).toLoadRect (harg2.unread x0)) (View.readAt (Elt F) arg13.view (Rect.unit (s := S2048x1024) ![0, 0] S2048x1024.size inb_S2048x1024_S2048x1024_0_0).toLoadRect (harg13.unread xs0))) (harg11.unread y9)); isplitr
    · ipureintro; rw [read_tailWrites, harg11.read_unread]; unfold uLast; rw [load_rows, load_wcat]
    iexact H9
  isplitl [H10]
  · iexists (arg12.view.writes (Elt F) f10 [⟨Rect.unit ![0, 0] S256x256.size inb_S256x256_S256x256_0_0, k0_pay55 (k0_pay39 (View.readAt (Elt F) arg2.view (Rect.unit (s := S2112x2048) ![1408, 0] S704x2048.size inb_S2112x2048_S704x2048_1408_0).toLoadRect (harg2.unread x0)) (View.readAt (Elt F) arg13.view (Rect.unit (s := S2048x1024) ![0, 0] S2048x1024.size inb_S2048x1024_S2048x1024_0_0).toLoadRect (harg13.unread xs0)))⟩]); isplitr
    · ipureintro; rw [read_past_store]; unfold uLast; rw [load_rows, load_wcat]
    iexact H10
  isplitl [HS0]
  · iexists _; isplitr; · ipureintro; exact harg13.read_unread _
    iexact HS0
  · iexists (arg14.view.writes (Elt F) (harg14.unread xs1) (⟨Rect.unit ![0, 0] S8x256.size inb_S8x256_S8x256_0_0, k0_pay1 (k0_pay56 (k0_pay39 (View.readAt (Elt F) arg2.view (Rect.unit (s := S2112x2048) ![1408, 0] S704x2048.size inb_S2112x2048_S704x2048_1408_0).toLoadRect (harg2.unread x0)) (View.readAt (Elt F) arg13.view (Rect.unit (s := S2048x1024) ![0, 0] S2048x1024.size inb_S2048x1024_S2048x1024_0_0).toLoadRect (harg13.unread xs0))))⟩ :: [])); isplitr
    · ipureintro; rw [read_carry_store]; unfold uLast; rw [load_rows, load_wcat]
    iexact HS1

end Cert.KernelIdeal.Conv
-- ==== Proof.Launch.lean ====
module

public import proofs.«01_k».proof.Proof.Run
public import Idealize.ShloMosaic.Lib.Pipeline.DatRel
public import Idealize.ShloMosaic.Lib.Pipeline.ArrRel

/-!
The launch: what the body leaves in each block at each grid point, over any floating-point interpretation, and the run of the
whole program. A grid point `t` works on row tile `t % 4` of column block `t / 4`.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two buffers the body keeps between points: the joined weights and the last rows of products. -/
abbrev keptW : Memref sig .tc .vmem S2048x1024 .bf16 := Memref.whole cc0_scratch0
/-- The buffer that carries the last rows of u from one row tile to the next. -/
abbrev keptU : Memref sig .tc .vmem S8x256 .f32 := Memref.whole cc0_scratch1

/-- The grid has 32 points. -/
theorem points_lt (t : Fin cfg0.N) : t.val < 32 := lt_of_lt_of_eq t.isLt (show cfg0.N = 32 from N_0)

/-- Tile `b` of the column block of point `t`, as a grid point. -/
def tileAt (t : Fin cfg0.N) (b : ℕ) (hb : b < 4) : Fin cfg0.N :=
  ⟨4 * (t.val / 4) + b, lt_of_lt_of_eq (by have := points_lt t; omega : 4 * (t.val / 4) + b < 32) (show 32 = cfg0.N from N_0.symm)⟩

/-- The row tile of a point. -/
theorem tile_of_point (t : Fin cfg0.N) : (grid0.coords t 1).val = t.val % 4 := by
  have e1 : (grid0.coords t 1).val = t.val / 1 % 4 := Pipeline.Grid.coords_val t 1 (by decide) rfl
  rw [e1, Nat.div_one]

/-- The weights are loaded at the points of the first row tile. -/
theorem loads_iff (t : Fin cfg0.N) : cond0_0 (grid0.coords t) ↔ t.val % 4 = 0 := by
  have e0 := tile_of_point t
  simp only [cond0_0, e0]
  word_cmp

/-- The joined weights during the column block of point `t`: the four weight blocks of its first point. -/
def joined (c : Dev nD) (t : Fin cfg0.N) : Vec F S2048x1024 .bf16 :=
  wcat (iblk m c 1 (tileAt t 0 (by decide))) (iblk m c 2 (tileAt t 0 (by decide))) (iblk m c 3 (tileAt t 0 (by decide)))
    (iblk m c 4 (tileAt t 0 (by decide)))

/-- The products of the last part of the row tile of point `t`. -/
def lastPart (c : Dev nD) (t : Fin cfg0.N) : FVec F S704x256 .f32 := uLast (iblk m c 0 t) (joined m c t)

/-- The kept rows of products after point `t`. -/
def keptRows (c : Dev nD) (t : Fin cfg0.N) : Vec F S8x256 .f32 := k0_pay1 (k0_pay56 (lastPart m c t))

/-- The kept rows that point `t` reads: zeros at a first tile, else what the point before left. -/
def readRows (c : Dev nD) (t : Fin cfg0.N) : Vec F S8x256 .f32 :=
  if t.val % 4 = 0 then k0_pay6 else keptRows m c ⟨t.val - 1, Nat.lt_of_le_of_lt (Nat.sub_le _ _) t.isLt⟩

/-- The gated block after point `t`. -/
def gatedBlock (c : Dev nD) (t : Fin cfg0.N) : Vec F S2112x256 .bf16 :=
  gAfter (grid0.coords t) (iblk m c 0 t) (iblk m c 5 t) (iblk m c 6 t) (iblk m c 7 t) (joined m c t) (readRows m c t)

/-- The block of sample rows after point `t`. -/
def sampleBlock (c : Dev nD) (t : Fin cfg0.N) : Vec F S256x256 .f32 := k0_pay55 (lastPart m c t)

/-- What is known of the tail block after point `t`: the rows of every sequence that has ended are in place. -/
def TailRows (c : Dev nD) (t : Fin cfg0.N) (X : Vec F S4x8x256 .f32) : Prop :=
  ∀ (b : Fin 4) (k : Fin 8) (j : Fin 256), b.val ≤ t.val % 4 →
    X (ix3 b k j) = lastPart m c (tileAt t b.val b.isLt) (ix2 (⟨632 - 64 * b.val + k.val, by omega⟩ : Fin 704) j)

/-- Two points of one column block have the same joined weights. -/
theorem joined_congr (c : Dev nD) (t t' : Fin cfg0.N) (h : t.val / 4 = t'.val / 4) : joined m c t = joined m c t' := by
  have e : tileAt t 0 (by decide) = tileAt t' 0 (by decide) := Fin.ext (by show 4 * (t.val / 4) + 0 = 4 * (t'.val / 4) + 0; rw [h])
  unfold joined
  rw [e]

/-- At a first tile the joined weights are the point's own weight blocks. -/
theorem joined_first (c : Dev nD) (t : Fin cfg0.N) (h : t.val % 4 = 0) :
    joined m c t = wcat (iblk m c 1 t) (iblk m c 2 t) (iblk m c 3 t) (iblk m c 4 t) := by
  have e : tileAt t 0 (by decide) = t := Fin.ext (by show 4 * (t.val / 4) + 0 = t.val; omega)
  unfold joined
  rw [e]

/-- Storing the tail rows of a tile keeps what is known of the tail block and adds the tile's sequence. -/
theorem tailRows_step (c : Dev nD) (t : Fin cfg0.N) (Y : Vec F S4x8x256 .f32)
    (hY : t.val % 4 ≠ 0 → ∃ h, TailRows m c ⟨t.val - 1, h⟩ Y) :
    TailRows m c t (tailOut (grid0.coords t) (lastPart m c t) Y) := by
  intro b k j hb
  have htile := tile_of_point t
  unfold tailOut
  show (if (grid0.coords t 1).val = b.val then lastPart m c t (ix2 (⟨632 - 64 * b.val + k.val, by omega⟩ : Fin 704) j)
    else Y (ix3 b k j)) = _
  by_cases h : (grid0.coords t 1).val = b.val
  · rw [if_pos h]
    have e : tileAt t b.val b.isLt = t := Fin.ext (by show 4 * (t.val / 4) + b.val = t.val; omega)
    rw [e]
  · rw [if_neg h]
    obtain ⟨hl, hT⟩ := hY (by omega)
    rw [hT b k j (by show b.val ≤ (t.val - 1) % 4; omega)]
    have e : tileAt ⟨t.val - 1, hl⟩ b.val b.isLt = tileAt t b.val b.isLt :=
      Fin.ext (by show 4 * ((t.val - 1) / 4) + b.val = 4 * (t.val / 4) + b.val; omega)
    rw [e]

/-! ## The proof data -/

/-- The buffers the body keeps, at position `n`: at the ends of a column block at any contents, inside one at what the point
before left. -/
def kept (c : Dev nD) : (n : ℕ) → n ≤ cfg0.N → sProp 𝕄
  | 0, _ => Pipeline.ΦA spec0 c
  | n + 1, hn => iprop((owns (c : Thread nD τ) keptW fullShare (joined m c ⟨n, hn⟩)
      ∗ owns (c : Thread nD τ) keptU fullShare (keptRows m c ⟨n, hn⟩)) ∗ ∃ r, prngReg c r)

/-- At any point the region's own buffers are the two kept ones. -/
theorem class_inv (c : Dev nD) : (Pipeline.ΦA spec0 c : sProp 𝕄)
    = iprop(((∃ d, owns (c : Thread nD τ) keptW fullShare d) ∗ (∃ d, owns (c : Thread nD τ) keptU fullShare d)) ∗ ∃ r, prngReg c r) := by
  unfold Pipeline.ΦA
  rw [scopedRest0_eq]
  simp only [keptW, keptU, owns_whole]
  try rfl

/-- The proof data of the region: inputs keep their blocks, the gated and the sample block are named; the tail block's contents
are held to a predicate below. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gatedBlock m c t
    | ⟨9, h⟩ => Pipeline.Dat.unnamed (cfg := cfg0) ⟨9, h⟩ t
    | ⟨10, _⟩ => sampleBlock m c t
  Φ t := kept m c t.val (Nat.le_of_lt_succ t.isLt)
  q w := Pipeline.shareOf spec0 w
  owed _ := 0

/-- The tail window is the one held to a predicate. -/
def held : Fin cfg0.W → Bool := fun w => w.val == 9

/-- The predicate: of the tail window, the rows of the ended sequences; of the others nothing. -/
def heldTo (c : Dev nD) (w : Fin cfg0.W) (t : Fin cfg0.N) (X : (cfg0.win w).block.Idx → Elt F (cfg0.win w).elt) : Prop :=
  match w, X with
  | ⟨9, _⟩, X => TailRows m c t X
  | _, _ => True

/-- The arrays are what the region finds. -/
theorem data_A (c : Dev nD) (w : Fin cfg0.W) : (data m 0 c).A w = V m c (Pipeline.arrRef spec0 w) := by
  dsimp only [data]

/-- What the proof data say is left in this window at a point. -/
theorem left_0 (c : Dev nD) (t : Fin cfg0.N) : (data m 0 c).after 0 t = iblk m c 0 t := by dsimp only [data]
/-- What the proof data say is left in this window at a point. -/
theorem left_1 (c : Dev nD) (t : Fin cfg0.N) : (data m 0 c).after 1 t = iblk m c 1 t := by dsimp only [data]
/-- What the proof data say is left in this window at a point. -/
theorem left_2 (c : Dev nD) (t : Fin cfg0.N) : (data m 0 c).after 2 t = iblk m c 2 t := by dsimp only [data]
/-- What the proof data say is left in this window at a point. -/
theorem left_3 (c : Dev nD) (t : Fin cfg0.N) : (data m 0 c).after 3 t = iblk m c 3 t := by dsimp only [data]
/-- What the proof data say is left in this window at a point. -/
theorem left_4 (c : Dev nD) (t : Fin cfg0.N) : (data m 0 c).after 4 t = iblk m c 4 t := by dsimp only [data]
/-- What the proof data say is left in this window at a point. -/
theorem left_5 (c : Dev nD) (t : Fin cfg0.N) : (data m 0 c).after 5 t = iblk m c 5 t := by dsimp only [data]
/-- What the proof data say is left in this window at a point. -/
theorem left_6 (c : Dev nD) (t : Fin cfg0.N) : (data m 0 c).after 6 t = iblk m c 6 t := by dsimp only [data]
/-- What the proof data say is left in this window at a point. -/
theorem left_7 (c : Dev nD) (t : Fin cfg0.N) : (data m 0 c).after 7 t = iblk m c 7 t := by dsimp only [data]
/-- What the proof data say is left in this window at a point. -/
theorem left_8 (c : Dev nD) (t : Fin cfg0.N) : (data m 0 c).after 8 t = gatedBlock m c t := by dsimp only [data]
/-- What the proof data say is left in this window at a point. -/
theorem left_10 (c : Dev nD) (t : Fin cfg0.N) : (data m 0 c).after 10 t = sampleBlock m c t := by dsimp only [data]

/-- What the body finds in this window at a point: its block. -/
theorem found_0 (c : Dev nD) (t : Fin cfg0.N) (d) : (data m 0 c).before 0 t d = iblk m c 0 t :=
  before0_0_of m (data m 0 c) (data_A m c 0) (left_0 m c) t d
/-- What the body finds in this window at a point: its block. -/
theorem found_1 (c : Dev nD) (t : Fin cfg0.N) (d) : (data m 0 c).before 1 t d = iblk m c 1 t :=
  before0_1_of m (data m 0 c) (data_A m c 1) (left_1 m c) t d
/-- What the body finds in this window at a point: its block. -/
theorem found_2 (c : Dev nD) (t : Fin cfg0.N) (d) : (data m 0 c).before 2 t d = iblk m c 2 t :=
  before0_2_of m (data m 0 c) (data_A m c 2) (left_2 m c) t d
/-- What the body finds in this window at a point: its block. -/
theorem found_3 (c : Dev nD) (t : Fin cfg0.N) (d) : (data m 0 c).before 3 t d = iblk m c 3 t :=
  before0_3_of m (data m 0 c) (data_A m c 3) (left_3 m c) t d
/-- What the body finds in this window at a point: its block. -/
theorem found_4 (c : Dev nD) (t : Fin cfg0.N) (d) : (data m 0 c).before 4 t d = iblk m c 4 t :=
  before0_4_of m (data m 0 c) (data_A m c 4) (left_4 m c) t d
/-- What the body finds in this window at a point: its block. -/
theorem found_5 (c : Dev nD) (t : Fin cfg0.N) (d) : (data m 0 c).before 5 t d = iblk m c 5 t :=
  before0_5_of m (data m 0 c) (data_A m c 5) (left_5 m c) t d
/-- What the body finds in this window at a point: its block. -/
theorem found_6 (c : Dev nD) (t : Fin cfg0.N) (d) : (data m 0 c).before 6 t d = iblk m c 6 t :=
  before0_6_of m (data m 0 c) (data_A m c 6) (left_6 m c) t d
/-- What the body finds in this window at a point: its block. -/
theorem found_7 (c : Dev nD) (t : Fin cfg0.N) (d) : (data m 0 c).before 7 t d = iblk m c 7 t :=
  before0_7_of m (data m 0 c) (data_A m c 7) (left_7 m c) t d

/-- What the body finds in the tail window inside a column block: the rows of the sequences that ended before. -/
theorem found_tail (c : Dev nD) (t : Fin cfg0.N) (h : t.val % 4 ≠ 0) (Y : Vec F S4x8x256 .f32)
    (hY : ((data m 0 c).toRRel held (heldTo m c)).Finds 9 t Y) : ∃ hl, TailRows m c ⟨t.val - 1, hl⟩ Y := by
  have hfetch : (cfg0.win 9).fetch t = false := rfl
  refine ⟨Nat.lt_of_le_of_lt (Nat.sub_le _ _) t.isLt, ?_⟩
  rcases (Pipeline.RDat.finds_of_pos _ hfetch (by intro h0; rw [h0] at h; exact h rfl) Y).mp hY with hf | hl
  · have := (flush0_9 _).mp hf
    have e : (t.val - 1) % 4 = 3 := this
    omega
  · exact (data m 0 c).toRRel_leaves (w := 9) rfl hl

/-! ## The body at a point -/

/-- What the body is called with. -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ Y, ⌜((data m 0 c).toRRel held (heldTo m c)).Finds 9 t Y⌝ ∗ owns (c : Thread nD τ) (st0_9 t) fullShare Y)
    ∗ (∃ d, owns (c : Thread nD τ) (st0_10 t) fullShare ((data m 0 c).before 10 t d)))

/-- What it returns. -/
def post (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ (∃ X, ⌜heldTo m c 9 t X⌝ ∗ owns (c : Thread nD τ) (st0_9 t) fullShare X)
    ∗ owns (c : Thread nD τ) (st0_10 t) fullShare ((data m 0 c).after 10 t))

/-- The invariant at a point's start. -/
theorem kept_castSucc (c : Dev nD) (t : Fin cfg0.N) : (data m 0 c).Φ t.castSucc = kept m c t.val (Nat.le_of_lt t.isLt) := by
  dsimp only [data]; exact Pipeline.Dat.Φ_castSucc (kept m c) t

/-- After a point the invariant names the kept buffers. -/
theorem kept_pos (c : Dev nD) (n : ℕ) (hn : n ≤ cfg0.N) (h : n ≠ 0) : kept m c n hn
    = iprop((owns (c : Thread nD τ) keptW fullShare (joined m c ⟨n - 1, by omega⟩)
      ∗ owns (c : Thread nD τ) keptU fullShare (keptRows m c ⟨n - 1, by omega⟩)) ∗ ∃ r, prngReg c r) := by
  cases n with
  | zero => exact absurd rfl h
  | succ n => rfl

set_option maxHeartbeats 400000 in
/-- The body at a point: it reads its blocks and the kept buffers, and leaves what the proof data say. -/
theorem body_at (c : Dev nD) (t : Fin cfg0.N) :
    pre m c t ⊢ wp frame (wpE (defs₀ (F := F)) Variants.none c none) Set.univ (bodyAt0 t) (fun _ => post m c t) := by
  unfold pre post bodyAt0
  simp only [found_0, found_1, found_2, found_3, found_4, found_5, found_6, found_7]
  rw [show (data m 0 c).owesAt () t.succ = (data m 0 c).owesAt () t.castSucc from rfl,
    left_0, left_1, left_2, left_3, left_4, left_5, left_6, left_7, left_8, left_10]
  rw [show (data m 0 c).Φ t.succ = kept m c (t.val + 1) t.isLt from rfl, kept_pos m c _ _ (Nat.succ_ne_zero _)]
  rw [show ∀ h, (⟨t.val + 1 - 1, h⟩ : Fin cfg0.N) = t from fun _ => rfl]
  have hN := points_lt t
  by_cases h0 : t.val % 4 = 0
  · unfold gatedBlock sampleBlock keptRows lastPart readRows
    have hT : ∀ Y, heldTo m c 9 t (tailOut (grid0.coords t) (uLast (iblk m c 0 t)
        (wcat (iblk m c 1 t) (iblk m c 2 t) (iblk m c 3 t) (iblk m c 4 t))) Y) := fun Y => by
      rw [← joined_first m c t h0]
      exact tailRows_step m c t Y (fun h => absurd h0 h)
    rw [if_pos h0, joined_first m c t h0]
    by_cases hz : t.val = 0
    · rw [kept_castSucc m c t, show kept m c t.val (Nat.le_of_lt t.isLt) = Pipeline.ΦA spec0 c from by
        cases t; subst hz; rfl, class_inv]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩, ⟨%d10, H10⟩⟩
      iapply (runA c (grid0.coords t) _ _ _ _ _ _ _ _ _ _ _ _ _ _ _ _ _ _ _ _ _ _ _ _ _ _ ((loads_iff t).mpr h0) (iblk m c 0 t) (iblk m c 1 t) (iblk m c 2 t) (iblk m c 3 t) (iblk m c 4 t) (iblk m c 5 t) (iblk m c 6 t) (iblk m c 7 t) Y Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _; isplitr
        swap; · iexact H9
        ipureintro; exact hT Y
      iexact H10
    · rw [kept_castSucc m c t, kept_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩, ⟨%d10, H10⟩⟩
      iapply (runA c (grid0.coords t) _ _ _ _ _ _ _ _ _ _ _ _ _ _ _ _ _ _ _ _ _ _ _ _ _ _ ((loads_iff t).mpr h0) (iblk m c 0 t) (iblk m c 1 t) (iblk m c 2 t) (iblk m c 3 t) (iblk m c 4 t) (iblk m c 5 t) (iblk m c 6 t) (iblk m c 7 t) Y Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [HS0]; · iexists _; iexact HS0
      isplitl [HS1]; · iexists _; iexact HS1
      iintro ⟨H0, H1, H2, H3, H4, H5, H6, H7, H8, H9, H10, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _; isplitr
        swap; · iexact H9
        ipureintro; exact hT Y
      iexact H10
  · rw [kept_castSucc m c t, kept_pos m c _ _ (by intro h; rw [h] at h0; exact h0 rfl)]
    rw [joined_congr m c ⟨t.val - 1, _⟩ t (by show (t.val - 1) / 4 = t.val / 4; omega)]
    have hread : readRows m c t = keptRows m c ⟨t.val - 1, Nat.lt_of_le_of_lt (Nat.sub_le _ _) t.isLt⟩ := if_neg h0
    unfold gatedBlock sampleBlock
    rw [hread]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩, ⟨%d10, H10⟩⟩
    iapply (runB c (grid0.coords t) _ _ _ _ _ _ _ _ _ _ _ _ _ _ _ _ _ _ _ _ _ _ _ _ _ _ (fun h => h0 ((loads_iff t).mp h)) (iblk m c 0 t) (iblk m c 1 t) (iblk m c 2 t) (iblk m c 3 t) (iblk m c 4 t) (iblk m c 5 t) (iblk m c 6 t) (iblk m c 7 t) Y (joined m c t) (keptRows m c ⟨t.val - 1, Nat.lt_of_le_of_lt (Nat.sub_le _ _) t.isLt⟩) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr
      swap; · iexact H9
      ipureintro; exact tailRows_step m c t Y (fun h => found_tail m c t h Y hY)
    iexact H10

/-- The body table's row at a point is the body. -/
theorem row_at (t : Fin cfg0.N) : defs₀ (F := F) .tc cfg0.body (cfg0.bodyArgs t (cfg0.slots t)) = bodyAt0 t := by
  unfold defs₀; rw [Defs.onTc_tc]

/-- The body obligation, the tail window held to its predicate. -/
theorem obligation (c : Dev nD) : BodyObligationRel (data (F := F) m 0 c) (defs₀ (F := F)) Variants.none () Set.univ held (heldTo m c) := fun t => by
  rw [bigSep_W0, bigSep_W0, row_at]
  exact triple_restated (body_at m c t) rfl .rfl fun _ => .rfl

/-- On entry to the launch nothing is said of the kept buffers. -/
theorem enter (c : Dev nD) : Pipeline.ΦA spec0 c ⊢ (data m 0 c).Φ 0 := by
  rw [show (data m 0 c).Φ 0 = Pipeline.ΦA spec0 c from rfl]

/-- On leaving the launch what is known of the kept buffers is forgotten. -/
theorem leave (c : Dev nD) : (data m 0 c).Φ (Fin.last cfg0.N) ⊢ Pipeline.ΦA spec0 c := by
  rw [show (data m 0 c).Φ (Fin.last cfg0.N) = kept m c (Fin.last cfg0.N).val (Nat.le_of_lt_succ (Fin.last cfg0.N).isLt) from rfl,
    kept_pos m c _ _ (by rw [Fin.val_last]; have : cfg0.N = 32 := N_0; omega), class_inv]
  iintro ⟨⟨HS0, HS1⟩, Hg⟩
  isplitl [HS0 HS1]
  · isplitl [HS0]
    · iexists _; iexact HS0
    iexists _; iexact HS1
  iexact Hg

set_option backward.isDefEq.respectTransparency.types false in
/-- The launch: every run ends, the arrays hold what the write-backs put there, and every semaphore counter is zero. -/
theorem run_main : θ_run defs (onTc (τ := τ) (main (F := F))) (s₀ m ρ) (fun r =>
    Pipeline.RDat.FramePost (cfgs 0) (fun c => (data m 0 c).toRRel held (heldTo m c)) (V m) r ∧ r.2.sem = fun _ => 0) :=
  Pipeline.RDat.θ_run_frame_track_shared (Q' := _) cfgs (0 : Fin 1) launch₀0 defs₀ Variants.none
    (fun c => (data m 0 c).toRRel held (heldTo m c)) m ρ main
    (hbody := fun c => (obligation m c).toRRel) (hq := fun _ _ _ => rfl)
    (howed := fun _ _ => rfl) (V := V m) (hmain := hmain m Variants.none) (hA := data_A m) (hin := enter m) (hout := leave m)

end Cert.KernelIdeal.Conv
-- ==== Proof.Words.lean ====
module

public import proofs.«01_k».proof.Proof.Tile
public import Idealize.ShloMosaic.Lib.WordCmp

/-!
The position of a row inside its sequence, as the body computes it in 32-bit words and as a natural number.
-/

@[expose] public section

set_option maxRecDepth 16384

noncomputable section

namespace Cert.KernelIdeal.Conv

open Idealize.ShloMosaic

/-- The position of row `n` in its sequence: the last 256 rows are 32 sequences of eight rows, the rows before are four
sequences of 2048 rows. -/
def stepOf (n : ℕ) : ℕ := if 8192 ≤ n then n % 8 else n % 2048

/-- The nonnegative remainder of a small word by a small divisor is the remainder of the numbers. -/
theorem remsi_small (u : ArithUnit) (n k : ℕ) (hn : n < 2 ^ 31) (hk : 0 < k) (hk' : k < 2 ^ 31) :
    IntOp.remsi u (BitVec.ofNat 32 n) (BitVec.ofNat 32 k) = BitVec.ofNat 32 (n % k) := by
  have e : (BitVec.ofNat 32 n).toNat = n := by rw [BitVec.toNat_ofNat]; omega
  have hlt : n % k < k := Nat.mod_lt _ hk
  refine BitVec.eq_of_toNat_eq ?_
  rw [IntOp.toNat_remsi u (by rw [e]; omega) k hk (by omega), e, BitVec.toNat_ofNat]
  omega

/-- The body's sign-corrected remainder of a small word is the remainder. -/
theorem flooredRem (n : ℕ) (d : BitVec 32) (k : ℕ) (hd : d = BitVec.ofNat 32 k) (hn : n < 2 ^ 31) (hk : 0 < k) (hk' : k < 2 ^ 31) :
    Scalar.select
        (IntOp.andi
          (IntOp.xori (IntOp.cmpi CmpIPredicate.slt (IntOp.remsi ArithUnit.vector (BitVec.ofNat 32 n) d) 0#32)
            (Scalar.cmpi CmpIPredicate.slt d 0#32))
          (IntOp.cmpi CmpIPredicate.ne (IntOp.remsi ArithUnit.vector (BitVec.ofNat 32 n) d) 0#32))
        (IntOp.addi (IntOp.remsi ArithUnit.vector (BitVec.ofNat 32 n) d) d)
        (IntOp.remsi ArithUnit.vector (BitVec.ofNat 32 n) d) = BitVec.ofNat 32 (n % k) := by
  subst hd
  have hlt : n % k < k := Nat.mod_lt _ hk
  rw [remsi_small _ n k hn hk hk']
  have e1 : IntOp.cmpi CmpIPredicate.slt (BitVec.ofNat 32 (n % k)) 0#32 = 0#1 :=
    (WordCmp.cmpi_slt_ofNat_eq_zero_iff (w := 32) (a := n % k) (b := 0) (by omega) (by omega)).2 (by omega)
  have e2 : Scalar.cmpi CmpIPredicate.slt (BitVec.ofNat 32 k) 0#32 = 0#1 :=
    (WordCmp.cmpi_slt_ofNat_eq_zero_iff (w := 32) (a := k) (b := 0) (by omega) (by omega)).2 (by omega)
  rw [e1, e2]
  have e3 : ∀ b : BitVec 1, IntOp.andi (IntOp.xori 0#1 0#1) b = 0#1 := by decide
  rw [e3]
  rfl

/-- The word of a row number, from the tile, the part's first row and the row of the part. -/
theorem rowWord (m o r : ℕ) :
    IntOp.addi (Scalar.addi (Scalar.muli (BitVec.ofNat 32 m) 2112#32) (BitVec.ofNat 32 o)) (BitVec.ofNat 32 r)
      = BitVec.ofNat 32 (2112 * m + o + r) := by
  show BitVec.ofNat 32 m * BitVec.ofNat 32 2112 + BitVec.ofNat 32 o + BitVec.ofNat 32 r = _
  rw [← BitVec.ofNat_mul, ← BitVec.ofNat_add, ← BitVec.ofNat_add, Nat.mul_comm]

/-- The word the body computes for a row's position in its sequence. -/
def stepWord (x : BitVec 32) : BitVec 32 :=
  Scalar.select (IntOp.cmpi CmpIPredicate.sge x 8192#32)
    (Scalar.select
      (IntOp.andi
        (IntOp.xori (IntOp.cmpi CmpIPredicate.slt (IntOp.remsi ArithUnit.vector x 8#32) 0#32)
          (Scalar.cmpi CmpIPredicate.slt 8#32 0#32))
        (IntOp.cmpi CmpIPredicate.ne (IntOp.remsi ArithUnit.vector x 8#32) 0#32))
      (IntOp.addi (IntOp.remsi ArithUnit.vector x 8#32) 8#32) (IntOp.remsi ArithUnit.vector x 8#32))
    (Scalar.select
      (IntOp.andi
        (IntOp.xori (IntOp.cmpi CmpIPredicate.slt (IntOp.remsi ArithUnit.vector x 2048#32) 0#32)
          (Scalar.cmpi CmpIPredicate.slt 2048#32 0#32))
        (IntOp.cmpi CmpIPredicate.ne (IntOp.remsi ArithUnit.vector x 2048#32) 0#32))
      (IntOp.addi (IntOp.remsi ArithUnit.vector x 2048#32) 2048#32) (IntOp.remsi ArithUnit.vector x 2048#32))

/-- A choice on a test of two small words is the choice on the test of the numbers. -/
theorem select_sge (n k : ℕ) (hn : n < 2 ^ 31) (hk : k < 2 ^ 31) {α : Type} (x y : α) :
    Scalar.select (IntOp.cmpi CmpIPredicate.sge (BitVec.ofNat 32 n) (BitVec.ofNat 32 k)) x y = if k ≤ n then x else y := by
  unfold Scalar.select
  exact if_congr (WordCmp.cmpi_sge_ofNat_eq_one_iff (by omega) (by omega)) rfl rfl

/-- The same for the test "at most". -/
theorem select_sle (n k : ℕ) (hn : n < 2 ^ 31) (hk : k < 2 ^ 31) {α : Type} (x y : α) :
    Scalar.select (IntOp.cmpi CmpIPredicate.sle (BitVec.ofNat 32 n) (BitVec.ofNat 32 k)) x y = if n ≤ k then x else y := by
  unfold Scalar.select
  exact if_congr (WordCmp.cmpi_sle_ofNat_eq_one_iff (by omega) (by omega)) rfl rfl

/-- The same for equality. -/
theorem select_eq (n k : ℕ) (hn : n < 2 ^ 31) (hk : k < 2 ^ 31) {α : Type} (x y : α) :
    Scalar.select (IntOp.cmpi CmpIPredicate.eq (BitVec.ofNat 32 n) (BitVec.ofNat 32 k)) x y = if n = k then x else y := by
  unfold Scalar.select
  exact if_congr (by
    rw [WordCmp.cmpi_eq_ofNat (by omega) (by omega)]
    by_cases h : n = k <;> simp [h]) rfl rfl

/-- The body's word for a row's position is the position. -/
theorem stepWord_eq (n : ℕ) (hn : n < 2 ^ 31) : stepWord (BitVec.ofNat 32 n) = BitVec.ofNat 32 (stepOf n) := by
  unfold stepWord stepOf
  rw [flooredRem n 8#32 8 rfl hn (by omega) (by omega), flooredRem n 2048#32 2048 rfl hn (by omega) (by omega)]
  rw [select_sge n 8192 hn (by omega)]
  split <;> rfl

/-- A position is smaller than 2048. -/
theorem stepOf_lt (n : ℕ) : stepOf n < 2048 := by
  unfold stepOf
  split <;> omega

end Cert.KernelIdeal.Conv
-- ==== Proof.Parts.lean ====
module

public import proofs.«01_k».proof.Proof.Words

/-!
The three row parts of a gated block over the reals: each entry in terms of the activations, the weights, the rows before
the part and the given past rows.
-/

@[expose] public section

set_option maxRecDepth 16384

noncomputable section

namespace Cert.KernelIdeal.Conv

open Cert.KernelIdeal Cert.KernelIdeal.Gen
open Idealize.ShloMosaic Idealize.ShloMosaic.TcCoe

/-- The divisor eight is not zero, so the body's guard keeps it. -/
theorem guard8 : Scalar.select (Scalar.cmpi CmpIPredicate.eq 8#32 0#32) 1#32 8#32 = 8#32 := by decide

/-- The divisor 2048 is not zero, so the body's guard keeps it. -/
theorem guard2048 : Scalar.select (Scalar.cmpi CmpIPredicate.eq 2048#32 0#32) 1#32 2048#32 = 2048#32 := by decide

/-- The position word of the first part. -/
theorem step_part0 (i : grid0.Coords) (r : Fin 704) (j : Fin 256) :
    k0_pay14 (k0_pay11 i) (k0_pay12 i) (k0_pay13 i) 2048#32 (ix2 r j)
      = BitVec.ofNat 32 (stepOf (2112 * (i 1).val + 0 + r.val)) := by
  have hm : (i 1).val < 4 := (i 1).isLt
  rw [← stepWord_eq _ (by omega), ← rowWord]
  pointwise [k0_pay14, k0_pay11, k0_pay12, k0_pay13]
  rw [guard8, guard2048]
  rfl

/-- The position word of the second part. -/
theorem step_part1 (m : ℕ) (hm : m < 4) (r : Fin 704) (j : Fin 256) :
    k0_pay29 (k0_pay25 (BitVec.ofNat 32 m)) (k0_pay26 (BitVec.ofNat 32 m)) 8#32 (k0_pay27 (BitVec.ofNat 32 m))
      (k0_pay28 (BitVec.ofNat 32 m)) (ix2 r j) = BitVec.ofNat 32 (stepOf (2112 * m + 704 + r.val)) := by
  rw [← stepWord_eq _ (by omega), ← rowWord]
  pointwise [k0_pay29, k0_pay25, k0_pay26, k0_pay27, k0_pay28]
  rw [guard8, guard2048]
  rfl

/-- The position word of the third part. -/
theorem step_part2 (m : ℕ) (hm : m < 4) (r : Fin 704) (j : Fin 256) :
    k0_pay42 (k0_pay40 (BitVec.ofNat 32 m)) (ix2 r j) = BitVec.ofNat 32 (stepOf (2112 * m + 1408 + r.val)) := by
  rw [← stepWord_eq _ (by omega), ← rowWord]
  pointwise [k0_pay42, k0_pay40, k0_pay41]
  rw [guard8, guard2048]
  rfl

/-- One entry of the product of a part's activations and the joined weights. -/
def dotAt (a : Vec Ideal S704x2048 .bf16) (W : Vec Ideal S2048x1024 .bf16) (r : Fin 704) (s : Fin 1024) : EReal :=
  ∑ x : Fin 2048, a (ix2 r x) * W (ix2 x s)

/-- One entry of the gated input: the product of the second and third segments. -/
def prodAt (a : Vec Ideal S704x2048 .bf16) (W : Vec Ideal S2048x1024 .bf16) (r : Fin 704) (j : Fin 256) : EReal :=
  dotAt a W r ⟨256 + j.val, by omega⟩ * dotAt a W r ⟨512 + j.val, by omega⟩

/-- One gated entry from its gate, its output gate, the three taps and the three rows under them. -/
def gatedAt (z b t0 t1 t2 e2 e1 e0 : EReal) : EReal := z * Ideal.logistic z * b * (t0 * e2 + t1 * e1 + t2 * e0)

/-- The products of the first part. -/
theorem prod_part0 (a : Vec Ideal S704x2048 .bf16) (W : Vec Ideal S2048x1024 .bf16) (r : Fin 704) (j : Fin 256) :
    k0_pay10 a W (ix2 r j) = prodAt a W r j := by
  pointwise [k0_pay10, k0_pay7]
  rfl

/-- The products of the second part. -/
theorem prod_part1 (a : Vec Ideal S704x2048 .bf16) (W : Vec Ideal S2048x1024 .bf16) (r : Fin 704) (j : Fin 256) :
    k0_pay24 a W (ix2 r j) = prodAt a W r j := by
  pointwise [k0_pay24, k0_pay21]
  rfl

/-- The products of the third part. -/
theorem prod_part2 (a : Vec Ideal S704x2048 .bf16) (W : Vec Ideal S2048x1024 .bf16) (r : Fin 704) (j : Fin 256) :
    k0_pay39 a W (ix2 r j) = prodAt a W r j := by
  pointwise [k0_pay39, k0_pay36]
  rfl

/-- An entry of the first part. The two rows before a row come from the part itself, or from the two carried rows at the
part's beginning, and are zero at the beginning of a sequence. -/
theorem gated0_apply (i : grid0.Coords) (a : Vec Ideal S704x2048 .bf16) (W : Vec Ideal S2048x1024 .bf16)
    (p2 p1 w0 w1 w2 : Vec Ideal S1x256 .f32) (r : Fin 704) (j : Fin 256) :
    gated0 i a W p2 p1 w0 w1 w2 (ix2 r j)
      = gatedAt (dotAt a W r ⟨768 + j.val, by omega⟩) (dotAt a W r ⟨j.val, by omega⟩) (w0 (ix2 0 j)) (w1 (ix2 0 j)) (w2 (ix2 0 j))
          (if stepOf (2112 * (i 1).val + 0 + r.val) ≤ 1 then 0 else if r.val = 0 then p2 (ix2 0 j) else if r.val = 1 then p1 (ix2 0 j)
            else prodAt a W ⟨(r.val + 704 - 2) % 704, Nat.mod_lt _ (by decide)⟩ j)
          (if stepOf (2112 * (i 1).val + 0 + r.val) = 0 then 0 else if r.val = 0 then p1 (ix2 0 j)
            else prodAt a W ⟨(r.val + 704 - 1) % 704, Nat.mod_lt _ (by decide)⟩ j)
          (prodAt a W r j) := by
  have hs := stepOf_lt (2112 * (i 1).val + 0 + r.val)
  have hr := r.isLt
  pointwise [gated0, k0_pay18, k0_pay15, k0_pay16, k0_pay17, k0_pay8, k0_pay9, k0_pay10, k0_pay7, rowIota]
  simp only [step_part0]
  rw [select_sle (stepOf (2112 * (i 1).val + 0 + r.val)) 1 (by omega) (by omega), select_eq (stepOf (2112 * (i 1).val + 0 + r.val)) 0 (by omega) (by omega), select_eq r.val 0 (by omega) (by omega),
    select_eq r.val 1 (by omega) (by omega), select_eq r.val 0 (by omega) (by omega)]
  simp only [gatedAt, mul_ite, mul_zero]
  rfl

/-- An entry of the second part; the rows before the part are the last two rows of products of the first. -/
theorem gated1_apply (m : ℕ) (hm : m < 4) (u : FVec Ideal S704x256 .f32) (a : Vec Ideal S704x2048 .bf16)
    (W : Vec Ideal S2048x1024 .bf16) (w0 w1 w2 : Vec Ideal S1x256 .f32) (r : Fin 704) (j : Fin 256) :
    gated1 (BitVec.ofNat 32 m) u a W w0 w1 w2 (ix2 r j)
      = gatedAt (dotAt a W r ⟨768 + j.val, by omega⟩) (dotAt a W r ⟨j.val, by omega⟩) (w0 (ix2 0 j)) (w1 (ix2 0 j)) (w2 (ix2 0 j))
          (if stepOf (2112 * m + 704 + r.val) ≤ 1 then 0 else if r.val = 0 then u (ix2 702 j) else if r.val = 1 then u (ix2 703 j)
            else prodAt a W ⟨(r.val + 704 - 2) % 704, Nat.mod_lt _ (by decide)⟩ j)
          (if stepOf (2112 * m + 704 + r.val) = 0 then 0 else if r.val = 0 then u (ix2 703 j)
            else prodAt a W ⟨(r.val + 704 - 1) % 704, Nat.mod_lt _ (by decide)⟩ j)
          (prodAt a W r j) := by
  have hs := stepOf_lt (2112 * m + 704 + r.val)
  have hr := r.isLt
  pointwise [gated1, k0_pay33, k0_pay22, k0_pay23, k0_pay24, k0_pay21, k0_pay30, k0_pay31, k0_pay32, k0_pay20, k0_pay19, rowIota]
  simp only [step_part1 m hm]
  rw [select_sle (stepOf (2112 * m + 704 + r.val)) 1 (by omega) (by omega), select_eq (stepOf (2112 * m + 704 + r.val)) 0 (by omega) (by omega), select_eq r.val 0 (by omega) (by omega),
    select_eq r.val 1 (by omega) (by omega), select_eq r.val 0 (by omega) (by omega)]
  simp only [gatedAt, mul_ite, mul_zero]
  rfl

/-- A given past row under a row of the third part: only the last 256 rows of all have one. -/
def givenAt (q : Vec Ideal S256x256 .f32) (n : ℕ) (r : Fin 704) (j : Fin 256) : EReal :=
  if 8192 ≤ n then (if h : r.val < 448 then 0 else q (ix2 ⟨r.val - 448, by omega⟩ j)) else 0

/-- An entry of the third part; the rows before the part are the last two rows of products of the second, and at the
beginning of a sequence the given past rows. -/
theorem gated2_apply (m : ℕ) (hm : m < 4) (u : FVec Ideal S704x256 .f32) (a : Vec Ideal S704x2048 .bf16)
    (W : Vec Ideal S2048x1024 .bf16) (q1 q2 : Vec Ideal S256x256 .f32) (w0 w1 w2 : Vec Ideal S1x256 .f32) (r : Fin 704) (j : Fin 256) :
    gated2 (BitVec.ofNat 32 m) u a W q1 q2 w0 w1 w2 (ix2 r j)
      = gatedAt (dotAt a W r ⟨768 + j.val, by omega⟩) (dotAt a W r ⟨j.val, by omega⟩) (w0 (ix2 0 j)) (w1 (ix2 0 j)) (w2 (ix2 0 j))
          (if stepOf (2112 * m + 1408 + r.val) ≤ 1 then givenAt q2 (2112 * m + 1408 + r.val) r j
            else if r.val = 0 then u (ix2 702 j) else if r.val = 1 then u (ix2 703 j)
            else prodAt a W ⟨(r.val + 704 - 2) % 704, Nat.mod_lt _ (by decide)⟩ j)
          (if stepOf (2112 * m + 1408 + r.val) = 0 then givenAt q1 (2112 * m + 1408 + r.val) r j
            else if r.val = 0 then u (ix2 703 j)
            else prodAt a W ⟨(r.val + 704 - 1) % 704, Nat.mod_lt _ (by decide)⟩ j)
          (prodAt a W r j) := by
  have hs := stepOf_lt (2112 * m + 1408 + r.val)
  have hr := r.isLt
  have hstep := step_part2 m hm r j
  pointwise [k0_pay40] at hstep
  pointwise [gated2, k0_pay46, k0_pay45, k0_pay34, k0_pay35, k0_pay36, k0_pay37, k0_pay38, k0_pay39, k0_pay41, k0_pay40, k0_pay43,
    k0_pay44, rowIota]
  rw [hstep, rowWord,
    select_sle (stepOf (2112 * m + 1408 + r.val)) 1 (by omega) (by omega), select_eq (stepOf (2112 * m + 1408 + r.val)) 0 (by omega) (by omega), select_eq r.val 0 (by omega) (by omega),
    select_eq r.val 1 (by omega) (by omega), select_sge _ 8192 (by omega) (by omega), select_eq r.val 0 (by omega) (by omega),
    select_sge _ 8192 (by omega) (by omega)]
  rfl

end Cert.KernelIdeal.Conv
-- ==== Proof.Values.lean ====
module

public import proofs.«01_k».proof.Proof.Parts
public import proofs.«01_k».proof.Proof.Run

/-!
The convolution mixer over whole arrays, and the blocks of one call of the body as blocks of it.
-/

@[expose] public section

set_option maxRecDepth 16384

noncomputable section

namespace Cert.KernelIdeal.Conv

open Cert.KernelIdeal Cert.KernelIdeal.Gen
open Idealize.ShloMosaic Idealize.ShloMosaic.TcCoe

/-- Entry `(n, c)` of the projected activations. -/
def rowDot (h : Vec Ideal S8448x2048 .bf16) (w : Vec Ideal S1x2048x8192 .f32) (n c : ℕ) : EReal :=
  ∑ x : Fin 2048, h (ix2 (Fin.ofNat 8448 n) x) * w (ix3 0 x (Fin.ofNat 8192 c))

/-- Entry `(n, c)` of the gated input of the convolution. -/
def uAt (h : Vec Ideal S8448x2048 .bf16) (w : Vec Ideal S1x2048x8192 .f32) (n c : ℕ) : EReal :=
  rowDot h w n (2048 + c) * rowDot h w n (4096 + c)

/-- The row one before row `n` in its sequence: before a sequence's beginning it is zero for the first four sequences and the
newer state row for the others. -/
def back1 (h : Vec Ideal S8448x2048 .bf16) (w : Vec Ideal S1x2048x8192 .f32) (st : Vec Ideal S1x32x2x2048 .f32) (n c : ℕ) : EReal :=
  if stepOf n = 0 then (if 8192 ≤ n then st (ix4 0 (Fin.ofNat 32 ((n - 8192) / 8)) 1 (Fin.ofNat 2048 c)) else 0)
  else uAt h w (n - 1) c

/-- The row two before row `n` in its sequence. -/
def back2 (h : Vec Ideal S8448x2048 .bf16) (w : Vec Ideal S1x2048x8192 .f32) (st : Vec Ideal S1x32x2x2048 .f32) (n c : ℕ) : EReal :=
  if stepOf n ≤ 1 then
    (if 8192 ≤ n then st (ix4 0 (Fin.ofNat 32 ((n - 8192) / 8)) (Fin.ofNat 2 (stepOf n)) (Fin.ofNat 2048 c)) else 0)
  else uAt h w (n - 2) c

/-- Entry `(n, c)` of the gated convolution. -/
def gAt (h : Vec Ideal S8448x2048 .bf16) (w : Vec Ideal S1x2048x8192 .f32) (cw : Vec Ideal S1x3x2048 .f32)
    (st : Vec Ideal S1x32x2x2048 .f32) (n c : ℕ) : EReal :=
  gatedAt (rowDot h w n (6144 + c)) (rowDot h w n c) (cw (ix3 0 0 (Fin.ofNat 2048 c))) (cw (ix3 0 1 (Fin.ofNat 2048 c)))
    (cw (ix3 0 2 (Fin.ofNat 2048 c))) (back2 h w st n c) (back1 h w st n c) (uAt h w n c)

/-- Row `r` of the activations from row `o` on is row `o + r`. -/
theorem rowsFrom_apply (o : ℕ) (hi : ∀ a, (![o, 0] : Fin 2 → ℕ) a + S704x2048.size a ≤ S2112x2048.size a)
    (x : Vec Ideal S2112x2048 .bf16) (r : Fin 704) (k : Fin 2048) (hr : o + r.val < 2112) :
    rowsFrom o hi x (ix2 r k) = x (ix2 ⟨o + r.val, hr⟩ k) := by
  refine congrArg x (funext fun a => ?_)
  match a with
  | ⟨0, _⟩ => exact Fin.ext (by show o + 1 * r.val = o + r.val; omega)
  | ⟨1, _⟩ => exact Fin.ext (by show 0 + 1 * k.val = k.val; omega)

/-- A tap row at a column. -/
theorem tapRow_apply (o : ℕ) (hi : ∀ a, (![o, 0] : Fin 2 → ℕ) a + S1x256.size a ≤ S3x256.size a)
    (x : Vec Ideal S3x256 .f32) (j : Fin 256) (ho : o < 3) : tapRow o hi x (ix2 0 j) = x (ix2 ⟨o, ho⟩ j) := by
  refine congrArg x (funext fun a => ?_)
  match a with
  | ⟨0, _⟩ => exact Fin.ext (by show o + 1 * 0 = o; omega)
  | ⟨1, _⟩ => exact Fin.ext (by show 0 + 1 * j.val = j.val; omega)

/-- A carried row at a column. -/
theorem carryRow_apply (o : ℕ) (hi : ∀ a, (![o, 0] : Fin 2 → ℕ) a + S1x256.size a ≤ S8x256.size a)
    (x : Vec Ideal S8x256 .f32) (j : Fin 256) (ho : o < 8) : carryRow o hi x (ix2 0 j) = x (ix2 ⟨o, ho⟩ j) := by
  refine congrArg x (funext fun a => ?_)
  match a with
  | ⟨0, _⟩ => exact Fin.ext (by show o + 1 * 0 = o; omega)
  | ⟨1, _⟩ => exact Fin.ext (by show 0 + 1 * j.val = j.val; omega)

section Blocks

variable {h : Vec Ideal S8448x2048 .bf16} {w : Vec Ideal S1x2048x8192 .f32} {cw : Vec Ideal S1x3x2048 .f32}
  {st : Vec Ideal S1x32x2x2048 .f32}

/-- Entry `(r, 256 s + j)` of a part's product, when the part's rows are those of the array from row `o` on and the joined
weights are the columns of the array from column `c` on. -/
theorem dotAt_eq {a : Vec Ideal S704x2048 .bf16} {W : Vec Ideal S2048x1024 .bf16} {o c : ℕ}
    (ha : ∀ (r : Fin 704) (k : Fin 2048), a (ix2 r k) = h (ix2 (Fin.ofNat 8448 (o + r.val)) k))
    (hW : ∀ (k : Fin 2048) (s : Fin 4) (j : Fin 256),
      W (ix2 k ⟨256 * s.val + j.val, by omega⟩) = w (ix3 0 k (Fin.ofNat 8192 (2048 * s.val + (c + j.val)))))
    (r : Fin 704) (s : Fin 4) (j : Fin 256) :
    dotAt a W r ⟨256 * s.val + j.val, by omega⟩ = rowDot h w (o + r.val) (2048 * s.val + (c + j.val)) :=
  Finset.sum_congr rfl fun k _ => by rw [ha, hW]

/-- The same for the gated input. -/
theorem prodAt_eq {a : Vec Ideal S704x2048 .bf16} {W : Vec Ideal S2048x1024 .bf16} {o c : ℕ}
    (ha : ∀ (r : Fin 704) (k : Fin 2048), a (ix2 r k) = h (ix2 (Fin.ofNat 8448 (o + r.val)) k))
    (hW : ∀ (k : Fin 2048) (s : Fin 4) (j : Fin 256),
      W (ix2 k ⟨256 * s.val + j.val, by omega⟩) = w (ix3 0 k (Fin.ofNat 8192 (2048 * s.val + (c + j.val)))))
    (r : Fin 704) (j : Fin 256) : prodAt a W r j = uAt h w (o + r.val) (c + j.val) := by
  have e1 := dotAt_eq ha hW r 1 j
  have e2 := dotAt_eq ha hW r 2 j
  exact congrArg₂ (· * ·) e1 e2

/-- The row one before, read from a part: inside the part, from the row before the part, or past the beginning. -/
theorem back1_part {a : Vec Ideal S704x2048 .bf16} {W : Vec Ideal S2048x1024 .bf16} {o c : ℕ}
    (ha : ∀ (r : Fin 704) (k : Fin 2048), a (ix2 r k) = h (ix2 (Fin.ofNat 8448 (o + r.val)) k))
    (hW : ∀ (k : Fin 2048) (s : Fin 4) (j : Fin 256),
      W (ix2 k ⟨256 * s.val + j.val, by omega⟩) = w (ix3 0 k (Fin.ofNat 8192 (2048 * s.val + (c + j.val)))))
    (r : Fin 704) (j : Fin 256) (P p : EReal)
    (hP : stepOf (o + r.val) = 0 → P = if 8192 ≤ o + r.val then
      st (ix4 0 (Fin.ofNat 32 ((o + r.val - 8192) / 8)) 1 (Fin.ofNat 2048 (c + j.val))) else 0)
    (hp : stepOf o ≠ 0 → p = uAt h w (o - 1) (c + j.val)) :
    (if stepOf (o + r.val) = 0 then P else if r.val = 0 then p
      else prodAt a W ⟨(r.val + 704 - 1) % 704, Nat.mod_lt _ (by decide)⟩ j) = back1 h w st (o + r.val) (c + j.val) := by
  have hr := r.isLt
  unfold back1
  by_cases h0 : stepOf (o + r.val) = 0
  · rw [if_pos h0, if_pos h0, hP h0]
  · rw [if_neg h0, if_neg h0]
    by_cases h1 : r.val = 0
    · rw [if_pos h1, hp (by rwa [h1] at h0), h1]; rfl
    · rw [if_neg h1, prodAt_eq ha hW]
      congr 1
      show o + (r.val + 704 - 1) % 704 = o + r.val - 1
      omega

/-- The row two before, read from a part. -/
theorem back2_part {a : Vec Ideal S704x2048 .bf16} {W : Vec Ideal S2048x1024 .bf16} {o c : ℕ}
    (ha : ∀ (r : Fin 704) (k : Fin 2048), a (ix2 r k) = h (ix2 (Fin.ofNat 8448 (o + r.val)) k))
    (hW : ∀ (k : Fin 2048) (s : Fin 4) (j : Fin 256),
      W (ix2 k ⟨256 * s.val + j.val, by omega⟩) = w (ix3 0 k (Fin.ofNat 8192 (2048 * s.val + (c + j.val)))))
    (r : Fin 704) (j : Fin 256) (P p2 p1 : EReal)
    (hP : stepOf (o + r.val) ≤ 1 → P = if 8192 ≤ o + r.val then
      st (ix4 0 (Fin.ofNat 32 ((o + r.val - 8192) / 8)) (Fin.ofNat 2 (stepOf (o + r.val))) (Fin.ofNat 2048 (c + j.val))) else 0)
    (hp2 : ¬ stepOf o ≤ 1 → p2 = uAt h w (o - 2) (c + j.val))
    (hp1 : ¬ stepOf (o + 1) ≤ 1 → p1 = uAt h w (o - 1) (c + j.val)) :
    (if stepOf (o + r.val) ≤ 1 then P else if r.val = 0 then p2 else if r.val = 1 then p1
      else prodAt a W ⟨(r.val + 704 - 2) % 704, Nat.mod_lt _ (by decide)⟩ j) = back2 h w st (o + r.val) (c + j.val) := by
  have hr := r.isLt
  unfold back2
  by_cases h0 : stepOf (o + r.val) ≤ 1
  · rw [if_pos h0, if_pos h0, hP h0]
  · rw [if_neg h0, if_neg h0]
    by_cases h1 : r.val = 0
    · rw [if_pos h1, hp2 (by rwa [h1] at h0), h1]; rfl
    · rw [if_neg h1]
      by_cases h2 : r.val = 1
      · rw [if_pos h2, hp1 (by rwa [h2] at h0), h2]
        congr 1
      · rw [if_neg h2, prodAt_eq ha hW]
        congr 1
        show o + (r.val + 704 - 2) % 704 = o + r.val - 2
        omega

/-- What the blocks a call reads hold, in terms of the launch's arrays: row tile `m`, columns from `c` on. -/
structure BlocksOf (h : Vec Ideal S8448x2048 .bf16) (w : Vec Ideal S1x2048x8192 .f32) (cw : Vec Ideal S1x3x2048 .f32)
    (st : Vec Ideal S1x32x2x2048 .f32) (m c : ℕ) (x0 : Vec Ideal S2112x2048 .bf16) (x5 : Vec Ideal S3x256 .f32)
    (x6 x7 : Vec Ideal S256x256 .f32) : Prop where
  /-- The activation rows of the tile. -/
  rows : ∀ (r : Fin 2112) (k : Fin 2048), x0 (ix2 r k) = h (ix2 (Fin.ofNat 8448 (2112 * m + r.val)) k)
  /-- The taps. -/
  taps : ∀ (t : Fin 3) (j : Fin 256), x5 (ix2 t j) = cw (ix3 0 t (Fin.ofNat 2048 (c + j.val)))
  /-- The newer state row, at the first row of a short sequence. -/
  newer : ∀ (k : Fin 256) (j : Fin 256), k.val % 8 = 0 →
    x6 (ix2 k j) = st (ix4 0 (Fin.ofNat 32 (k.val / 8)) 1 (Fin.ofNat 2048 (c + j.val)))
  /-- The two state rows, at the first two rows of a short sequence. -/
  older : ∀ (k : Fin 256) (j : Fin 256), k.val % 8 ≤ 1 →
    x7 (ix2 k j) = st (ix4 0 (Fin.ofNat 32 (k.val / 8)) (Fin.ofNat 2 (k.val % 8)) (Fin.ofNat 2048 (c + j.val)))

/-- What the joined weights hold: of each of the four segments, the columns from `c` on. -/
def JoinedOf (w : Vec Ideal S1x2048x8192 .f32) (c : ℕ) (W : Vec Ideal S2048x1024 .bf16) : Prop :=
  ∀ (k : Fin 2048) (s : Fin 4) (j : Fin 256),
    W (ix2 k ⟨256 * s.val + j.val, by omega⟩) = w (ix3 0 k (Fin.ofNat 8192 (2048 * s.val + (c + j.val))))

/-- The rows of the third part's products. -/
theorem uLast_apply {m c : ℕ} {x0 : Vec Ideal S2112x2048 .bf16} {x5 : Vec Ideal S3x256 .f32} {x6 x7 : Vec Ideal S256x256 .f32}
    {W : Vec Ideal S2048x1024 .bf16} (hx : BlocksOf h w cw st m c x0 x5 x6 x7) (hW : JoinedOf w c W) (r : Fin 704) (j : Fin 256) :
    uLast x0 W (ix2 r j) = uAt h w (2112 * m + 1408 + r.val) (c + j.val) := by
  unfold uLast
  rw [prod_part2]
  refine prodAt_eq (fun r k => ?_) hW r j
  have hr := r.isLt
  rw [rowsFrom_apply _ _ _ _ _ (by omega), hx.rows]
  congr 3
  show 2112 * m + (1408 + r.val) = 2112 * m + 1408 + r.val
  omega

/-- The gated block of row tile `m` is the gated convolution's, provided that the carried rows are the rows before the tile. -/
theorem gAfter_apply {i : grid0.Coords} {c : ℕ} {x0 : Vec Ideal S2112x2048 .bf16} {x5 : Vec Ideal S3x256 .f32}
    {x6 x7 : Vec Ideal S256x256 .f32} {W : Vec Ideal S2048x1024 .bf16} {C : Vec Ideal S8x256 .f32}
    (hx : BlocksOf h w cw st (i 1).val c x0 x5 x6 x7) (hW : JoinedOf w c W)
    (hC : (i 1).val ≠ 0 → ∀ (k : Fin 8) (j : Fin 256), C (ix2 k j) = uAt h w (2112 * (i 1).val - 8 + k.val) (c + j.val))
    (r : Fin 2112) (j : Fin 256) :
    gAfter i x0 x5 x6 x7 W C (ix2 r j) = gAt h w cw st (2112 * (i 1).val + r.val) (c + j.val) := by
  have hm : (i 1).val < 4 := (i 1).isLt
  have hr := r.isLt
  have rows : ∀ (o : ℕ) (hi : ∀ a, (![o, 0] : Fin 2 → ℕ) a + S704x2048.size a ≤ S2112x2048.size a) (ho : o ≤ 1408) (r : Fin 704)
      (k : Fin 2048), rowsFrom o hi x0 (ix2 r k) = h (ix2 (Fin.ofNat 8448 (2112 * (i 1).val + o + r.val)) k) := by
    intro o hi ho r k
    have hr := r.isLt
    rw [rowsFrom_apply _ _ _ _ _ (by omega), hx.rows]
    congr 3
    show 2112 * (i 1).val + (o + r.val) = 2112 * (i 1).val + o + r.val
    omega
  have r0 := rows 0 inb_S2112x2048_S704x2048_0_0 (by omega)
  have r1 := rows 704 inb_S2112x2048_S704x2048_704_0 (by omega)
  have r2 := rows 1408 inb_S2112x2048_S704x2048_1408_0 (by omega)
  unfold gAfter gTile
  show (if r.val / 704 = 0 then _ else if r.val / 704 = 1 then _ else _ : Vec Ideal S704x256 .bf16) (ix2 (n0 := 704) (n1 := 256) ⟨r.val % 704, _⟩ j) = _
  by_cases h0 : r.val / 704 = 0
  · rw [if_pos h0, gated0_apply]
    have en : 2112 * (i 1).val + r.val = 2112 * (i 1).val + 0 + r.val % 704 := by omega
    rw [en]
    unfold gAt
    congr 1
    · exact dotAt_eq r0 hW ⟨r.val % 704, _⟩ 3 j
    · have := dotAt_eq r0 hW ⟨r.val % 704, Nat.mod_lt _ (by decide)⟩ 0 j
      simpa using this
    · rw [tapRow_apply _ _ _ _ (by omega)]; exact hx.taps 0 j
    · rw [tapRow_apply _ _ _ _ (by omega)]; exact hx.taps 1 j
    · rw [tapRow_apply _ _ _ _ (by omega)]; exact hx.taps 2 j
    · refine back2_part r0 hW ⟨r.val % 704, _⟩ j _ _ _ (fun _ => ?_) (fun hs => ?_) (fun hs => ?_)
      · exact (if_neg (by show ¬ 8192 ≤ 2112 * (i 1).val + 0 + r.val % 704; omega)).symm
      · have hne : (i 1).val ≠ 0 := by rintro h; rw [h] at hs; exact hs (by decide)
        rw [carryRow_apply _ _ _ _ (by omega), hC hne]
        congr 1
        show 2112 * (i 1).val - 8 + 6 = 2112 * (i 1).val + 0 - 2
        omega
      · have hne : (i 1).val ≠ 0 := by rintro h; rw [h] at hs; exact hs (by decide)
        rw [carryRow_apply _ _ _ _ (by omega), hC hne]
        congr 1
        show 2112 * (i 1).val - 8 + 7 = 2112 * (i 1).val + 0 - 1
        omega
    · refine back1_part r0 hW ⟨r.val % 704, _⟩ j _ _ (fun _ => ?_) (fun hs => ?_)
      · exact (if_neg (by show ¬ 8192 ≤ 2112 * (i 1).val + 0 + r.val % 704; omega)).symm
      · have hne : (i 1).val ≠ 0 := by rintro h; rw [h] at hs; exact hs (by decide)
        rw [carryRow_apply _ _ _ _ (by omega), hC hne]
        congr 1
        show 2112 * (i 1).val - 8 + 7 = 2112 * (i 1).val + 0 - 1
        omega
    · exact prodAt_eq r0 hW ⟨r.val % 704, _⟩ j
  · rw [if_neg h0]
    by_cases h1 : r.val / 704 = 1
    · rw [if_pos h1, gated1_apply _ hm]
      have en : 2112 * (i 1).val + r.val = 2112 * (i 1).val + 704 + r.val % 704 := by omega
      rw [en]
      unfold gAt
      congr 1
      · exact dotAt_eq r1 hW ⟨r.val % 704, _⟩ 3 j
      · have := dotAt_eq r1 hW ⟨r.val % 704, Nat.mod_lt _ (by decide)⟩ 0 j
        simpa using this
      · rw [tapRow_apply _ _ _ _ (by omega)]; exact hx.taps 0 j
      · rw [tapRow_apply _ _ _ _ (by omega)]; exact hx.taps 1 j
      · rw [tapRow_apply _ _ _ _ (by omega)]; exact hx.taps 2 j
      · refine back2_part r1 hW ⟨r.val % 704, _⟩ j _ _ _ (fun _ => ?_) (fun hs => ?_) (fun hs => ?_)
        · exact (if_neg (by show ¬ 8192 ≤ 2112 * (i 1).val + 704 + r.val % 704; omega)).symm
        · rw [prod_part0, prodAt_eq r0 hW]
          congr 1
        · rw [prod_part0, prodAt_eq r0 hW]
          congr 1
      · refine back1_part r1 hW ⟨r.val % 704, _⟩ j _ _ (fun _ => ?_) (fun hs => ?_)
        · exact (if_neg (by show ¬ 8192 ≤ 2112 * (i 1).val + 704 + r.val % 704; omega)).symm
        · rw [prod_part0, prodAt_eq r0 hW]
          congr 1
      · exact prodAt_eq r1 hW ⟨r.val % 704, _⟩ j
    · rw [if_neg h1, gated2_apply _ hm]
      have en : 2112 * (i 1).val + r.val = 2112 * (i 1).val + 1408 + r.val % 704 := by omega
      have hlt : r.val % 704 < 704 := Nat.mod_lt _ (by decide)
      rw [en]
      unfold gAt
      congr 1
      · exact dotAt_eq r2 hW ⟨r.val % 704, _⟩ 3 j
      · have := dotAt_eq r2 hW ⟨r.val % 704, Nat.mod_lt _ (by decide)⟩ 0 j
        simpa using this
      · rw [tapRow_apply _ _ _ _ (by omega)]; exact hx.taps 0 j
      · rw [tapRow_apply _ _ _ _ (by omega)]; exact hx.taps 1 j
      · rw [tapRow_apply _ _ _ _ (by omega)]; exact hx.taps 2 j
      · refine back2_part r2 hW ⟨r.val % 704, _⟩ j _ _ _ (fun hs => ?_) (fun hs => ?_) (fun hs => ?_)
        · unfold givenAt
          refine ite_congr rfl (fun hn => ?_) fun _ => rfl
          have hn' : 8192 ≤ 2112 * (i 1).val + 1408 + r.val % 704 := hn
          have e : stepOf (2112 * (i 1).val + 1408 + r.val % 704) = (r.val % 704 - 448) % 8 := by
            unfold stepOf; rw [if_pos hn']; omega
          have hs' : stepOf (2112 * (i 1).val + 1408 + r.val % 704) ≤ 1 := hs
          rw [e] at hs'
          rw [dif_neg (by show ¬ r.val % 704 < 448; omega), hx.older _ _ hs']
          have e8 : (r.val % 704 - 448) / 8 = (2112 * (i 1).val + 1408 + r.val % 704 - 8192) / 8 := by omega
          exact congrArg₂ (fun p q => st (ix4 0 (Fin.ofNat 32 p) (Fin.ofNat 2 q) (Fin.ofNat 2048 (c + j.val)))) e8 e.symm
        · rw [prod_part1, prodAt_eq r1 hW]
          congr 1
        · rw [prod_part1, prodAt_eq r1 hW]
          congr 1
      · refine back1_part r2 hW ⟨r.val % 704, _⟩ j _ _ (fun hs => ?_) (fun hs => ?_)
        · unfold givenAt
          refine ite_congr rfl (fun hn => ?_) fun _ => rfl
          have hn' : 8192 ≤ 2112 * (i 1).val + 1408 + r.val % 704 := hn
          have e : stepOf (2112 * (i 1).val + 1408 + r.val % 704) = (r.val % 704 - 448) % 8 := by
            unfold stepOf; rw [if_pos hn']; omega
          have hs' : stepOf (2112 * (i 1).val + 1408 + r.val % 704) = 0 := hs
          rw [e] at hs'
          rw [dif_neg (by show ¬ r.val % 704 < 448; omega), hx.newer _ _ hs']
          have e8 : (r.val % 704 - 448) / 8 = (2112 * (i 1).val + 1408 + r.val % 704 - 8192) / 8 := by omega
          exact congrArg (fun p => st (ix4 0 (Fin.ofNat 32 p) 1 (Fin.ofNat 2048 (c + j.val)))) e8
        · rw [prod_part1, prodAt_eq r1 hW]
          congr 1
      · exact prodAt_eq r2 hW ⟨r.val % 704, _⟩ j

/-- The last eight product rows of a tile. -/
theorem lastRows_apply {m c : ℕ} {x0 : Vec Ideal S2112x2048 .bf16} {x5 : Vec Ideal S3x256 .f32} {x6 x7 : Vec Ideal S256x256 .f32}
    {W : Vec Ideal S2048x1024 .bf16} (hx : BlocksOf h w cw st m c x0 x5 x6 x7) (hW : JoinedOf w c W) (k : Fin 8) (j : Fin 256) :
    k0_pay1 (k0_pay56 (uLast x0 W)) (ix2 k j) = uAt h w (2112 * (m + 1) - 8 + k.val) (c + j.val) := by
  have e : k0_pay1 (k0_pay56 (uLast x0 W)) (ix2 k j) = uLast x0 W (ix2 ⟨696 + k.val, by omega⟩ j) := by
    pointwise [k0_pay1, k0_pay56]
  rw [e, uLast_apply hx hW]
  congr 1
  show 2112 * m + 1408 + (696 + k.val) = 2112 * (m + 1) - 8 + k.val
  omega

/-- The last 256 product rows of a tile. -/
theorem sampleRows_apply {m c : ℕ} {x0 : Vec Ideal S2112x2048 .bf16} {x5 : Vec Ideal S3x256 .f32} {x6 x7 : Vec Ideal S256x256 .f32}
    {W : Vec Ideal S2048x1024 .bf16} (hx : BlocksOf h w cw st m c x0 x5 x6 x7) (hW : JoinedOf w c W) (k : Fin 256) (j : Fin 256) :
    k0_pay55 (uLast x0 W) (ix2 k j) = uAt h w (2112 * m + 1856 + k.val) (c + j.val) := by
  have e : k0_pay55 (uLast x0 W) (ix2 k j) = uLast x0 W (ix2 ⟨448 + k.val, by omega⟩ j) := by
    pointwise [k0_pay55]
  rw [e, uLast_apply hx hW]
  congr 1
  show 2112 * m + 1408 + (448 + k.val) = 2112 * m + 1856 + k.val
  omega

/-- The tail block after the call on tile `m`, at the sequences that have ended. -/
theorem tailOut_apply {i : grid0.Coords} {c : ℕ} {x0 : Vec Ideal S2112x2048 .bf16} {x5 : Vec Ideal S3x256 .f32}
    {x6 x7 : Vec Ideal S256x256 .f32} {W : Vec Ideal S2048x1024 .bf16}
    (hx : BlocksOf h w cw st (i 1).val c x0 x5 x6 x7) (hW : JoinedOf w c W) (y : Vec Ideal S4x8x256 .f32)
    (hy : ∀ (b : Fin 4) (k : Fin 8) (j : Fin 256), b.val < (i 1).val → y (ix3 b k j) = uAt h w (2048 * b.val + 2040 + k.val) (c + j.val))
    (b : Fin 4) (k : Fin 8) (j : Fin 256) (hb : b.val ≤ (i 1).val) :
    tailOut i (uLast x0 W) y (ix3 b k j) = uAt h w (2048 * b.val + 2040 + k.val) (c + j.val) := by
  unfold tailOut
  show (if (i 1).val = b.val then uLast x0 W (ix2 ⟨632 - 64 * b.val + k.val, _⟩ j) else y (ix3 b k j)) = _
  by_cases h0 : (i 1).val = b.val
  · rw [if_pos h0, uLast_apply hx hW]
    congr 1
    show 2112 * (i 1).val + 1408 + (632 - 64 * b.val + k.val) = 2048 * b.val + 2040 + k.val
    omega
  · rw [if_neg h0]
    exact hy b k j (by omega)

end Blocks

end Cert.KernelIdeal.Conv
-- ==== Proof.Blocks.lean ====
module

public import proofs.«01_k».proof.Proof.Launch
public import proofs.«01_k».proof.Proof.Values
public import Idealize.ShloMosaic.Lib.Pipeline.ValueKit.Geometry
public import Idealize.ShloMosaic.Lib.Claim

/-!
The blocks the launch stages, entry by entry in terms of the arguments, over the extended reals; and what follows for the blocks
the body leaves.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ) (c : Dev nD)

/-- The four arguments of a device. -/
abbrev actsOf : Vec Ideal S8448x2048 .bf16 := m ((c : Thread nD τ).loc main_arg0)
/-- The input projection weights at launch. -/
abbrev weightsOf : Vec Ideal S1x2048x8192 .f32 := m ((c : Thread nD τ).loc main_arg1)
/-- The convolution taps at launch. -/
abbrev tapsOf : Vec Ideal S1x3x2048 .f32 := m ((c : Thread nD τ).loc main_arg2)
/-- The convolution state at launch. -/
abbrev stateOf : Vec Ideal S1x32x2x2048 .f32 := m ((c : Thread nD τ).loc main_arg3)

/-- The block that this window takes at each point. -/
theorem index_0 : ∀ t : Fin grid0.N, win0_0.index t = ![t.val % 4, 0] := by decide +kernel
/-- The block that this window takes at each point. -/
theorem index_1 : ∀ t : Fin grid0.N, win0_1.index t = ![0, 0, 0 + t.val / 4] := by decide +kernel
/-- The block that this window takes at each point. -/
theorem index_2 : ∀ t : Fin grid0.N, win0_2.index t = ![0, 0, 8 + t.val / 4] := by decide +kernel
/-- The block that this window takes at each point. -/
theorem index_3 : ∀ t : Fin grid0.N, win0_3.index t = ![0, 0, 16 + t.val / 4] := by decide +kernel
/-- The block that this window takes at each point. -/
theorem index_4 : ∀ t : Fin grid0.N, win0_4.index t = ![0, 0, 24 + t.val / 4] := by decide +kernel
/-- The block that this window takes at each point. -/
theorem index_5 : ∀ t : Fin grid0.N, win0_5.index t = ![0, t.val / 4] := by decide +kernel
/-- The block that this window takes at each point. -/
theorem index_6 : ∀ t : Fin grid0.N, win0_6.index t = ![0, t.val / 4] := by decide +kernel
/-- The block that this window takes at each point. -/
theorem index_7 : ∀ t : Fin grid0.N, win0_7.index t = ![0, t.val / 4] := by decide +kernel

/-- The activation block at a point, entry by entry. -/
theorem block_acts (t : Fin cfg0.N) (r : Fin 2112) (k : Fin 2048) :
    iblk m c 0 t (ix2 r k) = actsOf m c (ix2 (Fin.ofNat 8448 (2112 * (t.val % 4) + r.val)) k) := by
  blk_simp [iblk]
  rw [V_main_arg0]
  refine congrArg (actsOf m c) ?_
  blk_ext [index_0]
  rw [Fin.val_ofNat]; omega

/-- The first weight segment at a point, entry by entry. -/
theorem block_w1 (t : Fin cfg0.N) (k : Fin 2048) (j : Fin 256) :
    iblk m c 1 t (ix3 0 k j) = weightsOf m c (ix3 0 k (Fin.ofNat 8192 (2048 * 0 + (256 * (t.val / 4) + j.val)))) := by
  blk_simp [iblk]
  rw [V_main_arg1]
  refine congrArg (weightsOf m c) ?_
  blk_ext [index_1]
  rw [Fin.val_ofNat]; omega

/-- The second weight segment at a point, entry by entry. -/
theorem block_w2 (t : Fin cfg0.N) (k : Fin 2048) (j : Fin 256) :
    iblk m c 2 t (ix3 0 k j) = weightsOf m c (ix3 0 k (Fin.ofNat 8192 (2048 * 1 + (256 * (t.val / 4) + j.val)))) := by
  blk_simp [iblk]
  rw [V_main_arg1]
  refine congrArg (weightsOf m c) ?_
  blk_ext [index_2]
  rw [Fin.val_ofNat]; omega

/-- The third weight segment at a point, entry by entry. -/
theorem block_w3 (t : Fin cfg0.N) (k : Fin 2048) (j : Fin 256) :
    iblk m c 3 t (ix3 0 k j) = weightsOf m c (ix3 0 k (Fin.ofNat 8192 (2048 * 2 + (256 * (t.val / 4) + j.val)))) := by
  blk_simp [iblk]
  rw [V_main_arg1]
  refine congrArg (weightsOf m c) ?_
  blk_ext [index_3]
  rw [Fin.val_ofNat]; omega

/-- The fourth weight segment at a point, entry by entry. -/
theorem block_w4 (t : Fin cfg0.N) (k : Fin 2048) (j : Fin 256) :
    iblk m c 4 t (ix3 0 k j) = weightsOf m c (ix3 0 k (Fin.ofNat 8192 (2048 * 3 + (256 * (t.val / 4) + j.val)))) := by
  blk_simp [iblk]
  rw [V_main_arg1]
  refine congrArg (weightsOf m c) ?_
  blk_ext [index_4]
  rw [Fin.val_ofNat]; omega

/-- The taps as the launch finds them: one row per tap. -/
theorem prepared_taps (t : Fin 3) (j : Fin 2048) : (V m c main_v0 : Vec Ideal S3x2048 .f32) (ix2 t j) = tapsOf m c (ix3 0 t j) := by
  unfold V
  simp only [hostOps0, hostOps0_1, hostOps0_2, hostOps0_3, hostOps0_4, List.flatten_cons, List.flatten_nil, List.append_nil,
    List.cons_append, List.nil_append]
  entry_read
  pointwise

/-- Padding eight rows behind one: the first of them is the row. -/
theorem padded_one (x : Vec Ideal S32x1x2048 .f32) (v : Vec Ideal S_ .f32) (a : Fin 32) (b : Fin 8) (j : Fin 2048) (hb : b.val = 0) :
    pad S32x8x2048 ![0, 0, 0] ![0, 7, 0] ![0, 0, 0] x v pads_S32x1x2048_S32x8x2048_000_070_000 h_S_ (ix3 a b j) = x (ix3 a 0 j) := by
  obtain rfl : b = 0 := Fin.ext hb
  pointwise

/-- Padding eight rows behind two: the first two of them are the rows. -/
theorem padded_two (x : Vec Ideal S32x2x2048 .f32) (v : Vec Ideal S_ .f32) (a : Fin 32) (b : Fin 8) (j : Fin 2048) (hb : b.val < 2) :
    pad S32x8x2048 ![0, 0, 0] ![0, 6, 0] ![0, 0, 0] x v pads_S32x2x2048_S32x8x2048_000_060_000 h_S_ (ix3 a b j)
      = x (ix3 a ⟨b.val, hb⟩ j) := by
  pointwise
  exact dif_pos hb

/-- The newer state rows as the launch finds them: at the first row of each group of eight. -/
theorem prepared_newer (k : Fin 256) (j : Fin 2048) (hk : k.val % 8 = 0) :
    (V m c main_v4 : Vec Ideal S256x2048 .f32) (ix2 k j) = stateOf m c (ix4 0 (Fin.ofNat 32 (k.val / 8)) 1 j) := by
  unfold V
  simp only [hostOps0, hostOps0_1, hostOps0_2, hostOps0_3, hostOps0_4, List.flatten_cons, List.flatten_nil, List.append_nil,
    List.cons_append, List.nil_append]
  entry_read
  pointwise
  refine (padded_one _ _ _ _ _ hk).trans ?_
  have h8 : k.val / 8 < 32 := by omega
  have e : (⟨k.val / 8, h8⟩ : Fin 32) = Fin.ofNat 32 (k.val / 8) := Fin.ext (Nat.mod_eq_of_lt h8).symm
  refine Eq.trans ?_ (congrArg (fun p => stateOf m c (ix4 0 p 1 j)) e)
  show extractStridedSlice S32x1x2048 ![0, 1, 0] (fun i : S32x2x2048.Idx => stateOf m c (ix4 0 (i 0) (i 1) (i 2)))
    slices_S32x2x2048_S32x1x2048_0_1_0 (ix3 ⟨k.val / 8, h8⟩ 0 j) = _
  pointwise

/-- Both state rows as the launch finds them: at the first two rows of each group of eight. -/
theorem prepared_older (k : Fin 256) (j : Fin 2048) (hk : k.val % 8 ≤ 1) :
    (V m c main_v6 : Vec Ideal S256x2048 .f32) (ix2 k j)
      = stateOf m c (ix4 0 (Fin.ofNat 32 (k.val / 8)) (Fin.ofNat 2 (k.val % 8)) j) := by
  unfold V
  simp only [hostOps0, hostOps0_1, hostOps0_2, hostOps0_3, hostOps0_4, List.flatten_cons, List.flatten_nil, List.append_nil,
    List.cons_append, List.nil_append]
  entry_read
  pointwise
  refine (padded_two _ _ _ _ _ (by show k.val % 8 < 2; omega)).trans ?_
  have h8 : k.val / 8 < 32 := by omega
  have h2 : k.val % 8 < 2 := by omega
  have e : (⟨k.val / 8, h8⟩ : Fin 32) = Fin.ofNat 32 (k.val / 8) := Fin.ext (Nat.mod_eq_of_lt h8).symm
  have e' : (⟨k.val % 8, h2⟩ : Fin 2) = Fin.ofNat 2 (k.val % 8) := Fin.ext (Nat.mod_eq_of_lt h2).symm
  exact congrArg₂ (fun p q => stateOf m c (ix4 0 p q j)) e e'

/-- The taps block at a point, entry by entry. -/
theorem block_taps (t : Fin cfg0.N) (a : Fin 3) (j : Fin 256) :
    iblk m c 5 t (ix2 a j) = tapsOf m c (ix3 0 a (Fin.ofNat 2048 (256 * (t.val / 4) + j.val))) := by
  rw [← prepared_taps]
  blk_simp [iblk]
  refine congrArg (V m c main_v0) ?_
  blk_ext [index_5]
  rw [Fin.val_ofNat]; omega

/-- The padded block of the newer state row, at the rows that start a sample's group. -/
theorem block_newer (t : Fin cfg0.N) (k : Fin 256) (j : Fin 256) (hk : k.val % 8 = 0) :
    iblk m c 6 t (ix2 k j) = stateOf m c (ix4 0 (Fin.ofNat 32 (k.val / 8)) 1 (Fin.ofNat 2048 (256 * (t.val / 4) + j.val))) := by
  rw [← prepared_newer _ _ _ _ hk]
  blk_simp [iblk]
  refine congrArg (V m c main_v4) ?_
  blk_ext [index_6]
  rw [Fin.val_ofNat]; omega

/-- The padded block of the two state rows, at the first two rows of a sample's group. -/
theorem block_older (t : Fin cfg0.N) (k : Fin 256) (j : Fin 256) (hk : k.val % 8 ≤ 1) :
    iblk m c 7 t (ix2 k j)
      = stateOf m c (ix4 0 (Fin.ofNat 32 (k.val / 8)) (Fin.ofNat 2 (k.val % 8)) (Fin.ofNat 2048 (256 * (t.val / 4) + j.val))) := by
  rw [← prepared_older _ _ _ _ hk]
  blk_simp [iblk]
  refine congrArg (V m c main_v6) ?_
  blk_ext [index_7]
  rw [Fin.val_ofNat]; omega

/-- The blocks of a point are the arguments' rows and columns of its tile. -/
theorem blocks_of (t : Fin cfg0.N) : BlocksOf (actsOf m c) (weightsOf m c) (tapsOf m c) (stateOf m c) (t.val % 4)
    (256 * (t.val / 4)) (iblk m c 0 t) (iblk m c 5 t) (iblk m c 6 t) (iblk m c 7 t) where
  rows := block_acts m c t
  taps := block_taps m c t
  newer := block_newer m c t
  older := block_older m c t

/-- An entry of the joined weights: segment `s`, column `j`. -/
theorem wcat_entry (x1 x2 x3 x4 : Vec Ideal S1x2048x256 .f32) (k : Fin 2048) (s : ℕ) (j : Fin 256) (hs : 256 * s + j.val < 1024) :
    wcat x1 x2 x3 x4 (ix2 k ⟨256 * s + j.val, hs⟩) = (if s = 0 then x1 else if s = 1 then x2 else if s = 2 then x3 else x4) (ix3 0 k j) := by
  have hj : (256 * s + j.val) / 256 = s := by omega
  have hj' : (⟨(256 * s + j.val) % 256, Nat.mod_lt _ (by decide)⟩ : Fin 256) = j := Fin.ext (by show (256 * s + j.val) % 256 = j.val; omega)
  show k0_pay2 (if (256 * s + j.val) / 256 = 0 then x1 else if (256 * s + j.val) / 256 = 1 then x2
    else if (256 * s + j.val) / 256 = 2 then x3 else x4) (ix2 k ⟨(256 * s + j.val) % 256, _⟩) = _
  rw [hj, hj']
  generalize (if s = 0 then x1 else if s = 1 then x2 else if s = 2 then x3 else x4) = x
  pointwise [k0_pay2]

/-- The joined weights of a column block are the four segments' columns of the block. -/
theorem joined_of (t : Fin cfg0.N) : JoinedOf (weightsOf m c) (256 * (t.val / 4)) (joined m c t) := by
  intro k s j
  have hq : (tileAt t 0 (by decide)).val / 4 = t.val / 4 := by show (4 * (t.val / 4) + 0) / 4 = t.val / 4; omega
  unfold joined
  rw [wcat_entry]
  match s with
  | 0 => have e := block_w1 m c (tileAt t 0 (by decide)) k j; rw [hq] at e; exact e
  | 1 => have e := block_w2 m c (tileAt t 0 (by decide)) k j; rw [hq] at e; exact e
  | 2 => have e := block_w3 m c (tileAt t 0 (by decide)) k j; rw [hq] at e; exact e
  | 3 => have e := block_w4 m c (tileAt t 0 (by decide)) k j; rw [hq] at e; exact e

end Cert.KernelIdeal.Conv
-- ==== Proof.Final.lean ====
module

public import proofs.«01_k».proof.Proof.Blocks

/-!
The three result arrays after a run, entry by entry in terms of the arguments, and the run as the claims state it.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI Idealize.SL.Sem

/-! ## The arguments and the counters -/

section Frame

variable {F : FTy → Type} [FloatOps F]
variable (m : (ℓ : Loc nD τ sig) → Buf (Elt F) ℓ) (ρ : Dev nD → PrngReg)

/-- What a run's end says of the four arguments: they are unchanged. -/
theorem arguments_kept (r : PUnit × MemSt nD τ sig (Elt F))
    (h : Pipeline.RDat.FramePost (cfgs 0) (fun c => (data m 0 c).toRRel held (heldTo m c)) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h.arr_in c 0 rfl).trans ((data_A m c 0).trans (V_main_arg0 m c)),
    (h.arr_in c 1 rfl).trans ((data_A m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- Every run ends with the arguments unchanged and every semaphore counter at zero. -/
theorem run_frame : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0) :=
  (θ_run defs _ _).mono (fun r h => ⟨arguments_kept m r h.1, h.2⟩) (run_main m ρ)

/-- Where a window is written back and not held to a predicate, the body left there what the data name. -/
theorem leaves_named (c : Dev nD) (w : Fin cfg0.W) (hw : held w = false) (t : Fin cfg0.N) (hf : (cfg0.win w).flush t = true)
    (X : (cfg0.win w).block.Idx → Elt F (cfg0.win w).elt)
    (h : ((data m 0 c).toRRel held (heldTo m c)).Leaves w t X) : X = (data m 0 c).after w t := by
  obtain ⟨Y, -, hX⟩ := h
  rw [(data m 0 c).toRRel_after_of_eq_false hw] at hX
  exact (Pipeline.Dat.Leaves.live_iff (data m 0 c) (.inr hf)).mp hX

end Frame

/-! ## The values -/

variable (m : (ℓ : Loc nD τ sig) → Buf (Elt Ideal) ℓ) (ρ : Dev nD → PrngReg) (c : Dev nD)

/-- The block that this window takes at each point. -/
theorem index_8 : ∀ t : Fin grid0.N, win0_8.index t = ![t.val % 4, t.val / 4] := by decide +kernel
/-- The block that this window takes at each point. -/
theorem index_9 : ∀ t : Fin grid0.N, win0_9.index t = ![0, 0, t.val / 4] := by decide +kernel
/-- The block that this window takes at each point. -/
theorem index_10 : ∀ t : Fin grid0.N, win0_10.index t = ![0, t.val / 4] := by decide +kernel

/-- The gated convolution of the arguments. -/
def gatedOf : Vec Ideal S8448x2048 .bf16 := fun y => gAt (actsOf m c) (weightsOf m c) (tapsOf m c) (stateOf m c) (y 0).val (y 1).val

/-- The last eight products of each long sequence. -/
def tailOf : Vec Ideal S4x8x2048 .f32 := fun y => uAt (actsOf m c) (weightsOf m c) (2048 * (y 0).val + 2040 + (y 1).val) (y 2).val

/-- The products of the short sequences. -/
def sampleOf : Vec Ideal S256x2048 .f32 := fun y => uAt (actsOf m c) (weightsOf m c) (8192 + (y 0).val) (y 1).val

/-- The products of the last part of a tile. -/
theorem lastPart_at (t : Fin cfg0.N) (r : Fin 704) (j : Fin 256) : lastPart m c t (ix2 r j)
    = uAt (actsOf m c) (weightsOf m c) (2112 * (t.val % 4) + 1408 + r.val) (256 * (t.val / 4) + j.val) :=
  uLast_apply (blocks_of m c t) (joined_of m c t) r j

/-- The kept rows inside a column block are the products just before the tile. -/
theorem readRows_at (t : Fin cfg0.N) (h : t.val % 4 ≠ 0) (k : Fin 8) (j : Fin 256) : readRows m c t (ix2 k j)
    = uAt (actsOf m c) (weightsOf m c) (2112 * (t.val % 4) - 8 + k.val) (256 * (t.val / 4) + j.val) := by
  unfold readRows
  rw [if_neg h]
  have hl : t.val - 1 < cfg0.N := Nat.lt_of_le_of_lt (Nat.sub_le _ _) t.isLt
  have e : keptRows m c ⟨t.val - 1, hl⟩ (ix2 k j) = uAt (actsOf m c) (weightsOf m c) (2112 * ((t.val - 1) % 4 + 1) - 8 + k.val)
      (256 * ((t.val - 1) / 4) + j.val) := lastRows_apply (blocks_of m c ⟨t.val - 1, hl⟩) (joined_of m c ⟨t.val - 1, hl⟩) k j
  rw [show (t.val - 1) % 4 + 1 = t.val % 4 by omega, show (t.val - 1) / 4 = t.val / 4 by omega] at e
  exact e

/-- An entry of a gated block. -/
theorem gatedBlock_at (t : Fin cfg0.N) (r : Fin 2112) (j : Fin 256) : gatedBlock m c t (ix2 r j)
    = gAt (actsOf m c) (weightsOf m c) (tapsOf m c) (stateOf m c) (2112 * (t.val % 4) + r.val) (256 * (t.val / 4) + j.val) := by
  have ht := tile_of_point t
  have hx := blocks_of m c t
  rw [← ht] at hx
  have e := gAfter_apply (i := grid0.coords t) (C := readRows m c t) hx (joined_of m c t)
    (fun h k j => by rw [ht] at h ⊢; exact readRows_at m c t h k j) r j
  rw [ht] at e
  exact e

/-- The data with the contents the body left at each write-back named. -/
abbrev namedData (after : (w : Fin cfg0.W) → Fin cfg0.N → (cfg0.win w).block.Idx → Elt Ideal (cfg0.win w).elt) :=
  ((data m 0 c).toRRel held (heldTo m c)).withAfter after

/-- The gated array after a run. -/
theorem array_8 (after) (hL : ∀ u, (cfg0.win 8).flush u = true → ((data m 0 c).toRRel held (heldTo m c)).Leaves 8 u (after 8 u)) :
    (namedData m c after).arrAt 8 cfg0.N = gatedOf m c := by
  refine (namedData m c after).arrAt_eq_of_covers 8 (gatedOf m c) (by decide +kernel) fun t hf y => ?_
  have e : after 8 t = gatedBlock m c t := (leaves_named m c 8 rfl t hf _ (hL t hf)).trans (left_8 m c t)
  rw [Pipeline.RDat.withAfter_after, e]
  blk_simp
  obtain ⟨r, j, rfl⟩ : ∃ (r : Fin 2112) (j : Fin 256), y = ix2 r j := ⟨y 0, y 1, by idx_vars y⟩
  rw [gatedBlock_at]
  unfold gatedOf
  blk_simp [index_8]
  congr 1
  · omega
  · omega

/-- The tail array after a run. -/
theorem array_9 (after) (hL : ∀ u, (cfg0.win 9).flush u = true → ((data m 0 c).toRRel held (heldTo m c)).Leaves 9 u (after 9 u)) :
    (namedData m c after).arrAt 9 cfg0.N = tailOf m c := by
  refine (namedData m c after).arrAt_eq_of_covers 9 (tailOf m c) (by decide +kernel) fun t hf y => ?_
  have h3 : t.val % 4 = 3 := (flush0_9 t).mp hf
  have hT : TailRows m c t (after 9 t) := (data m 0 c).toRRel_leaves (w := 9) rfl (hL t hf)
  rw [Pipeline.RDat.withAfter_after]
  blk_simp
  obtain ⟨b, k, j, rfl⟩ : ∃ (b : Fin 4) (k : Fin 8) (j : Fin 256), y = ix3 b k j := ⟨y 0, y 1, y 2, by idx_vars y⟩
  have hb := b.isLt
  have hk := k.isLt
  rw [hT b k j (by omega), lastPart_at]
  have e1 : (tileAt t b.val b.isLt).val % 4 = b.val := by show (4 * (t.val / 4) + b.val) % 4 = b.val; omega
  have e2 : (tileAt t b.val b.isLt).val / 4 = t.val / 4 := by show (4 * (t.val / 4) + b.val) / 4 = t.val / 4; omega
  rw [e1, e2]
  unfold tailOf
  blk_simp [index_9]
  congr 1
  · show 2112 * b.val + 1408 + (632 - 64 * b.val + k.val) = _
    omega
  · omega

/-- The sample array after a run. -/
theorem array_10 (after) (hL : ∀ u, (cfg0.win 10).flush u = true → ((data m 0 c).toRRel held (heldTo m c)).Leaves 10 u (after 10 u)) :
    (namedData m c after).arrAt 10 cfg0.N = sampleOf m c := by
  refine (namedData m c after).arrAt_eq_of_covers 10 (sampleOf m c) (by decide +kernel) fun t hf y => ?_
  have h3 : t.val % 4 = 3 := (flush0_10 t).mp hf
  have e : after 10 t = sampleBlock m c t := (leaves_named m c 10 rfl t hf _ (hL t hf)).trans (left_10 m c t)
  rw [Pipeline.RDat.withAfter_after, e]
  blk_simp
  obtain ⟨k, j, rfl⟩ : ∃ (k : Fin 256) (j : Fin 256), y = ix2 k j := ⟨y 0, y 1, by idx_vars y⟩
  have e : sampleBlock m c t (ix2 k j) = uAt (actsOf m c) (weightsOf m c) (2112 * (t.val % 4) + 1856 + k.val)
    (256 * (t.val / 4) + j.val) := sampleRows_apply (blocks_of m c t) (joined_of m c t) k j
  rw [e]
  unfold sampleOf
  blk_simp [index_10]
  congr 1
  · omega
  · omega

/-- Every run ends with the three results at the values above and the arguments unchanged. -/
theorem run_values : θ_run defs (onTc (τ := τ) (main (F := Ideal))) (s₀ m ρ) (fun r => ∀ c : Dev nD,
    r.2.mem ((c : Thread nD τ).loc main_v7_0) = gatedOf m c
    ∧ r.2.mem ((c : Thread nD τ).loc main_v7_1) = tailOf m c
    ∧ r.2.mem ((c : Thread nD τ).loc main_v7_2) = sampleOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => by
    obtain ⟨after, hL, hA⟩ := h.1.exists_exact c
    exact ⟨(hA 8).trans (array_8 m c after (hL 8)), (hA 9).trans (array_9 m c after (hL 9)),
      (hA 10).trans (array_10 m c after (hL 10)), arguments_kept m r h.1 c⟩) (run_main m ρ)

end Cert.KernelIdeal.Conv
-- ==== Proof.Reference.lean ====
module

public import proofs.«01_k».proof.Proof.Values
public import proofs.«01_k».proof.Proof.Gen.ReferenceIdeal.Run

/-!
The reference's results, entry by entry in terms of the arguments: the same values as the kernel's.
-/

@[expose] public section

set_option maxRecDepth 16384

noncomputable section

namespace Cert.ReferenceIdeal.Conv

open Cert.ReferenceIdeal Cert.ReferenceIdeal.Gen
open Idealize.ShloMosaic Idealize.ShloMosaic.TcCoe Idealize.ShloMosaic.Tactic
open Idealize.SL Idealize.SL.RA Idealize.SL.BI
open Cert.KernelIdeal.Conv (rowDot uAt back1 back2 gAt gatedAt stepOf)

/-- The projected rows of the four long sequences. -/
def projLong (h : FVec Ideal S8448x2048 .bf16) (w : FVec Ideal S1x2048x8192 .f32) : FVec Ideal S4x2048x8192 .f32 :=
  Host.dotGeneral dot_S4x2048x2048_S2048x8192_S4x2048x8192_2_0_01_1_n_n none (shapeCast _ (extractStridedSlice S8192x2048 ![0, 0] (extf .f32 h bitsLt_bf16_f32) slices_S8448x2048_S8192x2048_0_0) shapeCasts_S8192x2048_S4x2048x2048) (shapeCast _ w shapeCasts_S1x2048x8192_S2048x8192)

/-- The projected rows of the thirty-two short sequences. -/
def projShort (h : FVec Ideal S8448x2048 .bf16) (w : FVec Ideal S1x2048x8192 .f32) : FVec Ideal S32x8x8192 .f32 :=
  Host.dotGeneral dot_S32x8x2048_S2048x8192_S32x8x8192_2_0_01_1_n_n none (shapeCast _ (extractStridedSlice S256x2048 ![8192, 0] (extf .f32 h bitsLt_bf16_f32) slices_S8448x2048_S256x2048_8192_0) shapeCasts_S256x2048_S32x8x2048) (shapeCast _ w shapeCasts_S1x2048x8192_S2048x8192)

/-- The products of the long sequences behind two rows of zeros. -/
def extLong (P : FVec Ideal S4x2048x8192 .f32) : FVec Ideal S4x2050x2048 .f32 :=
  concatenate S4x2050x2048 1 [⟨S4x2x2048, (broadcastInDim S4x2x2048 ![] bcast_S_S4x2x2048 (constant S_ .f32 0x00000000#32))⟩, ⟨S4x2048x2048, (mulf (F := Ideal) (φ := .f32) (extractStridedSlice S4x2048x2048 ![0, 0, 2048] P slices_S4x2048x8192_S4x2048x2048_0_0_2048) (extractStridedSlice S4x2048x2048 ![0, 0, 4096] P slices_S4x2048x8192_S4x2048x2048_0_0_4096))⟩] concatenates_S4x2x2048_S4x2048x2048_S4x2050x2048_d1

/-- The products of the short sequences behind their two state rows. -/
def extShort (P : FVec Ideal S32x8x8192 .f32) (st : FVec Ideal S1x32x2x2048 .f32) : FVec Ideal S32x10x2048 .f32 :=
  concatenate S32x10x2048 1 [⟨S32x2x2048, (shapeCast _ st shapeCasts_S1x32x2x2048_S32x2x2048)⟩, ⟨S32x8x2048, (mulf (F := Ideal) (φ := .f32) (extractStridedSlice S32x8x2048 ![0, 0, 2048] P slices_S32x8x8192_S32x8x2048_0_0_2048) (extractStridedSlice S32x8x2048 ![0, 0, 4096] P slices_S32x8x8192_S32x8x2048_0_0_4096))⟩] concatenates_S32x2x2048_S32x8x2048_S32x10x2048_d1

/-- The gated convolution of the long sequences. -/
def mixLong (P : FVec Ideal S4x2048x8192 .f32) (E : FVec Ideal S4x2050x2048 .f32) (cw : FVec Ideal S1x3x2048 .f32) : FVec Ideal S4x2048x2048 .f32 :=
  mulf (mulf (mulf (extractStridedSlice S4x2048x2048 ![0, 0, 6144] P slices_S4x2048x8192_S4x2048x2048_0_0_6144) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 0, 6144] P slices_S4x2048x8192_S4x2048x2048_0_0_6144)))))) (extractStridedSlice S4x2048x2048 ![0, 0, 0] P slices_S4x2048x8192_S4x2048x2048_0_0_0)) (addf (addf (mulf (broadcastInDim S4x2048x2048 ![0, 1, 2] bcast_S1x1x2048_S4x2048x2048_0_1_2 (broadcastInDim S1x1x2048 ![2] bcast_S2048_S1x1x2048_2 (shapeCast _ (extractStridedSlice S1x2048 ![0, 0] (shapeCast _ cw shapeCasts_S1x3x2048_S3x2048) slices_S3x2048_S1x2048_0_0) shapeCasts_S1x2048_S2048))) (extractStridedSlice S4x2048x2048 ![0, 0, 0] E slices_S4x2050x2048_S4x2048x2048_0_0_0)) (mulf (broadcastInDim S4x2048x2048 ![0, 1, 2] bcast_S1x1x2048_S4x2048x2048_0_1_2 (broadcastInDim S1x1x2048 ![2] bcast_S2048_S1x1x2048_2 (shapeCast _ (extractStridedSlice S1x2048 ![1, 0] (shapeCast _ cw shapeCasts_S1x3x2048_S3x2048) slices_S3x2048_S1x2048_1_0) shapeCasts_S1x2048_S2048))) (extractStridedSlice S4x2048x2048 ![0, 1, 0] E slices_S4x2050x2048_S4x2048x2048_0_1_0))) (mulf (broadcastInDim S4x2048x2048 ![0, 1, 2] bcast_S1x1x2048_S4x2048x2048_0_1_2 (broadcastInDim S1x1x2048 ![2] bcast_S2048_S1x1x2048_2 (shapeCast _ (extractStridedSlice S1x2048 ![2, 0] (shapeCast _ cw shapeCasts_S1x3x2048_S3x2048) slices_S3x2048_S1x2048_2_0) shapeCasts_S1x2048_S2048))) (extractStridedSlice S4x2048x2048 ![0, 2, 0] E slices_S4x2050x2048_S4x2048x2048_0_2_0)))

/-- The gated convolution of the short sequences. -/
def mixShort (P : FVec Ideal S32x8x8192 .f32) (E : FVec Ideal S32x10x2048 .f32) (cw : FVec Ideal S1x3x2048 .f32) : FVec Ideal S32x8x2048 .f32 :=
  mulf (mulf (mulf (extractStridedSlice S32x8x2048 ![0, 0, 6144] P slices_S32x8x8192_S32x8x2048_0_0_6144) (Host.divf (broadcastInDim S32x8x2048 ![] bcast_S_S32x8x2048 (constant S_ .f32 0x3F800000#32)) (addf (broadcastInDim S32x8x2048 ![] bcast_S_S32x8x2048 (constant S_ .f32 0x3F800000#32)) (Host.exp (Host.negf (extractStridedSlice S32x8x2048 ![0, 0, 6144] P slices_S32x8x8192_S32x8x2048_0_0_6144)))))) (extractStridedSlice S32x8x2048 ![0, 0, 0] P slices_S32x8x8192_S32x8x2048_0_0_0)) (addf (addf (mulf (broadcastInDim S32x8x2048 ![0, 1, 2] bcast_S1x1x2048_S32x8x2048_0_1_2 (broadcastInDim S1x1x2048 ![2] bcast_S2048_S1x1x2048_2 (shapeCast _ (extractStridedSlice S1x2048 ![0, 0] (shapeCast _ cw shapeCasts_S1x3x2048_S3x2048) slices_S3x2048_S1x2048_0_0) shapeCasts_S1x2048_S2048))) (extractStridedSlice S32x8x2048 ![0, 0, 0] E slices_S32x10x2048_S32x8x2048_0_0_0)) (mulf (broadcastInDim S32x8x2048 ![0, 1, 2] bcast_S1x1x2048_S32x8x2048_0_1_2 (broadcastInDim S1x1x2048 ![2] bcast_S2048_S1x1x2048_2 (shapeCast _ (extractStridedSlice S1x2048 ![1, 0] (shapeCast _ cw shapeCasts_S1x3x2048_S3x2048) slices_S3x2048_S1x2048_1_0) shapeCasts_S1x2048_S2048))) (extractStridedSlice S32x8x2048 ![0, 1, 0] E slices_S32x10x2048_S32x8x2048_0_1_0))) (mulf (broadcastInDim S32x8x2048 ![0, 1, 2] bcast_S1x1x2048_S32x8x2048_0_1_2 (broadcastInDim S1x1x2048 ![2] bcast_S2048_S1x1x2048_2 (shapeCast _ (extractStridedSlice S1x2048 ![2, 0] (shapeCast _ cw shapeCasts_S1x3x2048_S3x2048) slices_S3x2048_S1x2048_2_0) shapeCasts_S1x2048_S2048))) (extractStridedSlice S32x8x2048 ![0, 2, 0] E slices_S32x10x2048_S32x8x2048_0_2_0)))

/-- The gated array: the long sequences' rows, then the short ones'. -/
def gathered (h : FVec Ideal S8448x2048 .bf16) (w : FVec Ideal S1x2048x8192 .f32) (cw : FVec Ideal S1x3x2048 .f32)
    (st : FVec Ideal S1x32x2x2048 .f32) : FVec Ideal S8448x2048 .bf16 :=
  truncf .bf16 (concatenate S8448x2048 0 [⟨S8192x2048, (shapeCast _ (mixLong (projLong h w) (extLong (projLong h w)) cw) shapeCasts_S4x2048x2048_S8192x2048)⟩, ⟨S256x2048, (shapeCast _ (mixShort (projShort h w) (extShort (projShort h w) st) cw) shapeCasts_S32x8x2048_S256x2048)⟩] concatenates_S8192x2048_S256x2048_S8448x2048_d0) bitsLt_bf16_f32

section
variable (m : (ℓ : Loc nD τ sig) → Buf (Elt Ideal) ℓ) (c : Dev nD)

/-- The reference's first result is the gated array of its arguments. -/
theorem first_result : Value.res_main_v74 m c
    = gathered (m ((c.tc : Thread nD τ).loc main_arg0)) (m ((c.tc : Thread nD τ).loc main_arg1)) (m ((c.tc : Thread nD τ).loc main_arg2))
      (m ((c.tc : Thread nD τ).loc main_arg3)) := by
  unfold Value.res_main_v74; rfl
end

variable (h : Vec Ideal S8448x2048 .bf16) (w : Vec Ideal S1x2048x8192 .f32) (cw : Vec Ideal S1x3x2048 .f32)
  (st : Vec Ideal S1x32x2x2048 .f32)

/-- An index read back from its number. -/
theorem ofNat_val (N : ℕ) [NeZero N] (n : Fin N) : Fin.ofNat N n.val = n := Fin.ext (Nat.mod_eq_of_lt n.isLt)

/-- An entry of the long sequences' projections. -/
theorem projLong_at (b : Fin 4) (r : Fin 2048) (n : Fin 8192) : projLong h w (ix3 b r n) = rowDot h w (2048 * b.val + r.val) n.val := by
  pointwise [projLong]
  unfold rowDot
  rw [ofNat_val 8192 n]
  refine Finset.sum_congr rfl fun x _ => congrArg (fun p => h (ix2 p x) * w (ix3 0 x n)) (Fin.ext ?_)
  show b.val * 2048 + r.val = (2048 * b.val + r.val) % 8448
  omega

/-- An entry of the short sequences' projections. -/
theorem projShort_at (b : Fin 32) (r : Fin 8) (n : Fin 8192) : projShort h w (ix3 b r n) = rowDot h w (8192 + 8 * b.val + r.val) n.val := by
  pointwise [projShort]
  unfold rowDot
  rw [ofNat_val 8192 n]
  refine Finset.sum_congr rfl fun x _ => congrArg (fun p => h (ix2 p x) * w (ix3 0 x n)) (Fin.ext ?_)
  show 8192 + (b.val * 8 + r.val) = (8192 + 8 * b.val + r.val) % 8448
  omega

/-- An entry of the extended products of the long sequences. -/
theorem extLong_at (P : FVec Ideal S4x2048x8192 .f32) (b : Fin 4) (r : Fin 2050) (j : Fin 2048) :
    extLong P (ix3 b r j) = if hr : r.val < 2 then 0 else P (ix3 b ⟨r.val - 2, by omega⟩ ⟨2048 + j.val, by omega⟩)
      * P (ix3 b ⟨r.val - 2, by omega⟩ ⟨4096 + j.val, by omega⟩) := by
  pointwise [extLong]

/-- An entry of the extended products of the short sequences. -/
theorem extShort_at (P : FVec Ideal S32x8x8192 .f32) (b : Fin 32) (r : Fin 10) (j : Fin 2048) :
    extShort P st (ix3 b r j) = if hr : r.val < 2 then st (ix4 0 b ⟨r.val, hr⟩ j) else P (ix3 b ⟨r.val - 2, by omega⟩ ⟨2048 + j.val, by omega⟩)
      * P (ix3 b ⟨r.val - 2, by omega⟩ ⟨4096 + j.val, by omega⟩) := by
  pointwise [extShort]

/-- An entry of the long sequences' gated convolution. -/
theorem mixLong_at (P : FVec Ideal S4x2048x8192 .f32) (E : FVec Ideal S4x2050x2048 .f32) (b : Fin 4) (r : Fin 2048) (j : Fin 2048) :
    mixLong P E cw (ix3 b r j) = gatedAt (P (ix3 b r ⟨6144 + j.val, by omega⟩)) (P (ix3 b r ⟨j.val, by omega⟩))
      (cw (ix3 0 0 j)) (cw (ix3 0 1 j)) (cw (ix3 0 2 j)) (E (ix3 b ⟨r.val, by omega⟩ j)) (E (ix3 b ⟨1 + r.val, by omega⟩ j))
      (E (ix3 b ⟨2 + r.val, by omega⟩ j)) := by
  pointwise [mixLong]
  rfl

/-- An entry of the short sequences' gated convolution. -/
theorem mixShort_at (P : FVec Ideal S32x8x8192 .f32) (E : FVec Ideal S32x10x2048 .f32) (b : Fin 32) (r : Fin 8) (j : Fin 2048) :
    mixShort P E cw (ix3 b r j) = gatedAt (P (ix3 b r ⟨6144 + j.val, by omega⟩)) (P (ix3 b r ⟨j.val, by omega⟩))
      (cw (ix3 0 0 j)) (cw (ix3 0 1 j)) (cw (ix3 0 2 j)) (E (ix3 b ⟨r.val, by omega⟩ j)) (E (ix3 b ⟨1 + r.val, by omega⟩ j))
      (E (ix3 b ⟨2 + r.val, by omega⟩ j)) := by
  pointwise [mixShort]
  rfl

/-- A row of a long sequence: its gated value. -/
theorem long_value (b : Fin 4) (r j : Fin 2048) :
    mixLong (projLong h w) (extLong (projLong h w)) cw (ix3 b r j) = gAt h w cw st (2048 * b.val + r.val) j.val := by
  have hb := b.isLt
  have hr := r.isLt
  have hs : stepOf (2048 * b.val + r.val) = r.val := by unfold stepOf; rw [if_neg (by omega)]; omega
  have h8 : ¬ 8192 ≤ 2048 * b.val + r.val := by omega
  rw [mixLong_at]
  unfold gAt
  rw [ofNat_val 2048 j]
  simp only [projLong_at, extLong_at]
  have e2 : back2 h w st (2048 * b.val + r.val) j.val = if hr : r.val < 2 then 0 else
      rowDot h w (2048 * b.val + (r.val - 2)) (2048 + j.val) * rowDot h w (2048 * b.val + (r.val - 2)) (4096 + j.val) := by
    unfold back2
    rw [hs, if_neg h8]
    by_cases h2 : r.val < 2
    · rw [if_pos (by omega), dif_pos h2]
    · rw [if_neg (by omega), dif_neg h2, show 2048 * b.val + r.val - 2 = 2048 * b.val + (r.val - 2) by omega]; rfl
  have e1 : back1 h w st (2048 * b.val + r.val) j.val = if hr : 1 + r.val < 2 then 0 else
      rowDot h w (2048 * b.val + (1 + r.val - 2)) (2048 + j.val) * rowDot h w (2048 * b.val + (1 + r.val - 2)) (4096 + j.val) := by
    unfold back1
    rw [hs, if_neg h8]
    by_cases h2 : r.val = 0
    · rw [if_pos h2, dif_pos (by omega)]
    · rw [if_neg h2, dif_neg (by omega), show 2048 * b.val + r.val - 1 = 2048 * b.val + (1 + r.val - 2) by omega]; rfl
  rw [e2, e1, dif_neg (show ¬ 2 + r.val < 2 by omega), show 2 + r.val - 2 = r.val by omega]
  rfl

/-- A row of a short sequence: its gated value. -/
theorem short_value (b : Fin 32) (r : Fin 8) (j : Fin 2048) :
    mixShort (projShort h w) (extShort (projShort h w) st) cw (ix3 b r j) = gAt h w cw st (8192 + 8 * b.val + r.val) j.val := by
  have hb := b.isLt
  have hr := r.isLt
  have hs : stepOf (8192 + 8 * b.val + r.val) = r.val := by unfold stepOf; rw [if_pos (by omega)]; omega
  have h8 : 8192 ≤ 8192 + 8 * b.val + r.val := by omega
  have hq : Fin.ofNat 32 ((8192 + 8 * b.val + r.val - 8192) / 8) = b :=
    Fin.ext (by rw [Fin.val_ofNat, show (8192 + 8 * b.val + r.val - 8192) / 8 = b.val by omega]; exact Nat.mod_eq_of_lt hb)
  rw [mixShort_at]
  unfold gAt
  rw [ofNat_val 2048 j]
  simp only [projShort_at, extShort_at]
  have e2 : back2 h w st (8192 + 8 * b.val + r.val) j.val = if hr : r.val < 2 then st (ix4 0 b ⟨r.val, hr⟩ j) else
      rowDot h w (8192 + 8 * b.val + (r.val - 2)) (2048 + j.val) * rowDot h w (8192 + 8 * b.val + (r.val - 2)) (4096 + j.val) := by
    unfold back2
    rw [hs, if_pos h8, hq, ofNat_val 2048 j]
    by_cases h2 : r.val < 2
    · rw [if_pos (by omega), dif_pos h2]
      exact congrArg (fun p => st (ix4 0 b p j)) (Fin.ext (Nat.mod_eq_of_lt h2))
    · rw [if_neg (by omega), dif_neg h2, show 8192 + 8 * b.val + r.val - 2 = 8192 + 8 * b.val + (r.val - 2) by omega]; rfl
  have e1 : back1 h w st (8192 + 8 * b.val + r.val) j.val = if hr : 1 + r.val < 2 then st (ix4 0 b ⟨1 + r.val, hr⟩ j) else
      rowDot h w (8192 + 8 * b.val + (1 + r.val - 2)) (2048 + j.val) * rowDot h w (8192 + 8 * b.val + (1 + r.val - 2)) (4096 + j.val) := by
    unfold back1
    rw [hs, if_pos h8, hq, ofNat_val 2048 j]
    by_cases h2 : r.val = 0
    · rw [if_pos h2, dif_pos (by omega)]
      exact congrArg (fun p => st (ix4 0 b p j)) (Fin.ext (by show 1 = 1 + r.val; omega))
    · rw [if_neg h2, dif_neg (by omega), show 8192 + 8 * b.val + r.val - 1 = 8192 + 8 * b.val + (1 + r.val - 2) by omega]; rfl
  rw [e2, e1, dif_neg (show ¬ 2 + r.val < 2 by omega), show 2 + r.val - 2 = r.val by omega]
  rfl

/-- Every entry of the reference's gated array. -/
theorem gathered_at (n : Fin 8448) (j : Fin 2048) : gathered h w cw st (ix2 n j) = gAt h w cw st n.val j.val := by
  have hn := n.isLt
  have e : gathered h w cw st (ix2 n j) = if hn : n.val < 8192 then
      mixLong (projLong h w) (extLong (projLong h w)) cw (ix3 ⟨n.val / 2048, by omega⟩ ⟨n.val % 2048, by omega⟩ j)
    else mixShort (projShort h w) (extShort (projShort h w) st) cw (ix3 ⟨(n.val - 8192) / 8, by omega⟩ ⟨(n.val - 8192) % 8, by omega⟩ j) := by
    pointwise [gathered]
  rw [e]
  split
  · rw [long_value h w cw st]
    exact congrArg (fun k => gAt h w cw st k j.val) (by show 2048 * (n.val / 2048) + n.val % 2048 = n.val; omega)
  · rw [short_value h w cw st]
    exact congrArg (fun k => gAt h w cw st k j.val) (by show 8192 + 8 * ((n.val - 8192) / 8) + (n.val - 8192) % 8 = n.val; omega)

/-- Every entry of the reference's tail array. -/
theorem tail_at (b : Fin 4) (k : Fin 8) (j : Fin 2048) :
    (extractStridedSlice S4x8x2048 ![0, 2042, 0] (extLong (projLong h w)) slices_S4x2050x2048_S4x8x2048_0_2042_0 : Vec Ideal S4x8x2048 .f32) (ix3 b k j)
      = uAt h w (2048 * b.val + 2040 + k.val) j.val := by
  have hk := k.isLt
  pointwise
  rw [extLong_at, dif_neg (by show ¬ 2042 + k.val < 2; omega), projLong_at, projLong_at]
  exact congrArg (fun n => uAt h w n j.val) (by show 2048 * b.val + (2042 + k.val - 2) = 2048 * b.val + 2040 + k.val; omega)

/-- Every entry of the reference's sample array. -/
theorem sample_at (k : Fin 256) (j : Fin 2048) :
    (shapeCast S256x2048 (extractStridedSlice S32x8x2048 ![0, 2, 0] (extShort (projShort h w) st) slices_S32x10x2048_S32x8x2048_0_2_0)
      shapeCasts_S32x8x2048_S256x2048 : Vec Ideal S256x2048 .f32) (ix2 k j) = uAt h w (8192 + k.val) j.val := by
  have hk := k.isLt
  pointwise
  rw [extShort_at, dif_neg (by show ¬ 2 + k.val % 8 < 2; omega), projShort_at, projShort_at]
  exact congrArg (fun n => uAt h w n j.val) (by show 8192 + 8 * (k.val / 8) + (2 + k.val % 8 - 2) = 8192 + k.val; omega)

end Cert.ReferenceIdeal.Conv
-- ==== Proof.InProj.lean ====
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Geometry
public import Idealize.ShloMosaic.Lib.WholeRead
public import Idealize.ShloMosaic.Lib.Writes

/-!
The input projection of the recurrence layer: the array after the launch is the product of the activations and the
weights, and so is the reference's result.
-/

@[expose] public section

set_option maxRecDepth 16384

noncomputable section

namespace Cert.Kernel2Ideal.InProj

open Cert.Kernel2Ideal Cert.Kernel2Ideal.Gen
open Idealize.ShloMosaic Idealize.ShloMosaic.TcCoe Idealize.ShloMosaic.Tactic Idealize.SL.Sem

/-- One entry of a block's product: a row of activations times a column of weights. -/
def dotAt (a : Vec Ideal S2112x2048 .bf16) (W : Vec Ideal S2048x1024 .bf16) (r : Fin 2112) (j : Fin 1024) : EReal :=
  ∑ x : Fin 2048, a (ix2 r x) * W (ix2 x j)

/-- The product of a block of activations and a block of weights. -/
def product (a : Vec Ideal S2112x2048 .bf16) (W : Vec Ideal S2048x1024 .bf16) : Vec Ideal S2112x1024 .bf16 :=
  fun y => dotAt a W (y 0) (y 1)

/-- The product of one row part of a block, the rows from `o` on. -/
theorem part_at (o : ℕ) (h : ∀ a, (![o, 0] : Fin 2 → ℕ) a + S352x2048.size a ≤ S2112x2048.size a)
    (a : Vec Ideal S2112x2048 .bf16) (W : Vec Ideal S2048x1024 .bf16) (r : Fin 352) (j : Fin 1024) (R : Fin 2112)
    (hR : R.val = o + r.val) :
    k0_pay4 (fun y => a ((Rect.unit (s := S2112x2048) ![o, 0] S352x2048.size h).emb y)) W (ix2 r j) = dotAt a W R j := by
  pointwise [k0_pay4]
  refine Finset.sum_congr rfl fun x _ => congrArg (· * W (ix2 x j)) (congrArg a (funext fun d => Fin.ext ?_))
  match d with
  | ⟨0, _⟩ => show o + 1 * r.val = R.val; omega
  | ⟨1, _⟩ => show 0 + 1 * x.val = x.val; omega

/-- A load of 352 rows of the activation block. -/
theorem load_rows (m : Memref sig .tc .vmem S2112x2048 .bf16) (hm : m.IsWhole) (o : ℕ)
    (h : ∀ a, (![o, 0] : Fin 2 → ℕ) a + S352x2048.size a ≤ S2112x2048.size a) (x : Vec Ideal S2112x2048 .bf16) :
    View.readAt (Elt Ideal) m.view (Rect.unit (s := S2112x2048) ![o, 0] S352x2048.size h).toLoadRect (hm.unread x)
      = fun y => x ((Rect.unit (s := S2112x2048) ![o, 0] S352x2048.size h).emb y) :=
  funext fun j => hm.readAt_unread x _ j

/-- The place of an index in the whole rectangle of the weights' buffer is the index itself. -/
theorem whole_weights (j : S2048x1024.Idx) :
    (Rect.unit (s := S2048x1024) ![0, 0] S2048x1024.size inb_S2048x1024_S2048x1024_0_0).emb j = j :=
  funext fun a => Fin.ext (by
    match a with
    | ⟨0, _⟩ => show 0 + 1 * (j 0).val = (j 0).val; omega
    | ⟨1, _⟩ => show 0 + 1 * (j 1).val = (j 1).val; omega)

/-- A load of the whole weights' buffer gives its contents. -/
theorem load_weights (m : Memref sig .tc .vmem S2048x1024 .bf16) (hm : m.IsWhole) (x : Vec Ideal S2048x1024 .bf16) :
    View.readAt (Elt Ideal) m.view (Rect.unit ![0, 0] S2048x1024.size inb_S2048x1024_S2048x1024_0_0).toLoadRect (hm.unread x) = x :=
  funext fun j => (hm.readAt_unread x _ j).trans (congrArg x (whole_weights j))

/-- A load of a whole weight block gives the block. -/
theorem load_block (m : Memref sig .tc .vmem S1x2048x1024 .f32) (hm : m.IsWhole) (x : Vec Ideal S1x2048x1024 .f32) :
    View.readAt (Elt Ideal) m.view (Rect.unit ![0, 0, 0] S1x2048x1024.size inb_S1x2048x1024_S1x2048x1024_0_0_0).toLoadRect (hm.unread x) = x :=
  funext fun j => (hm.readAt_unread x _ j).trans (congrArg x (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega)))

/-- The six stores of a block's row parts, newest first. -/
def parts (a : Vec Ideal S2112x2048 .bf16) (W : Vec Ideal S2048x1024 .bf16) : List (View.Piece (Elt Ideal) S2112x1024 .bf16) :=
  [⟨Rect.unit ![1760, 0] S352x1024.size inb_S2112x1024_S352x1024_1760_0,
      k0_pay2 (fun y => a ((Rect.unit (s := S2112x2048) ![1760, 0] S352x2048.size inb_S2112x2048_S352x2048_1760_0).emb y)) W⟩,
    ⟨Rect.unit ![1408, 0] S352x1024.size inb_S2112x1024_S352x1024_1408_0,
      k0_pay1 (fun y => a ((Rect.unit (s := S2112x2048) ![1408, 0] S352x2048.size inb_S2112x2048_S352x2048_1408_0).emb y)) W⟩,
    ⟨Rect.unit ![1056, 0] S352x1024.size inb_S2112x1024_S352x1024_1056_0,
      k0_pay7 (fun y => a ((Rect.unit (s := S2112x2048) ![1056, 0] S352x2048.size inb_S2112x2048_S352x2048_1056_0).emb y)) W⟩,
    ⟨Rect.unit ![704, 0] S352x1024.size inb_S2112x1024_S352x1024_704_0,
      k0_pay6 (fun y => a ((Rect.unit (s := S2112x2048) ![704, 0] S352x2048.size inb_S2112x2048_S352x2048_704_0).emb y)) W⟩,
    ⟨Rect.unit ![352, 0] S352x1024.size inb_S2112x1024_S352x1024_352_0,
      k0_pay5 (fun y => a ((Rect.unit (s := S2112x2048) ![352, 0] S352x2048.size inb_S2112x2048_S352x2048_352_0).emb y)) W⟩,
    ⟨Rect.unit ![0, 0] S352x1024.size inb_S2112x1024_S352x1024_0_0,
      k0_pay4 (fun y => a ((Rect.unit (s := S2112x2048) ![0, 0] S352x2048.size inb_S2112x2048_S352x2048_0_0).emb y)) W⟩]

/-- One part's store is the product's rows. -/
theorem part_entry (o : ℕ) (h : ∀ a, (![o, 0] : Fin 2 → ℕ) a + S352x2048.size a ≤ S2112x2048.size a)
    (h' : ∀ a, (![o, 0] : Fin 2 → ℕ) a + S352x1024.size a ≤ S2112x1024.size a)
    (a : Vec Ideal S2112x2048 .bf16) (W : Vec Ideal S2048x1024 .bf16) (x : S352x1024.Idx) :
    k0_pay4 (fun y => a ((Rect.unit (s := S2112x2048) ![o, 0] S352x2048.size h).emb y)) W x
      = product a W ((Rect.unit (s := S2112x1024) ![o, 0] S352x1024.size h').emb x) := by
  obtain ⟨r, j, rfl⟩ : ∃ (r : Fin 352) (j : Fin 1024), x = ix2 r j := ⟨x 0, x 1, by idx_vars x⟩
  have hr : ((Rect.unit (s := S2112x1024) ![o, 0] S352x1024.size h').emb (ix2 r j) 0).val = o + r.val := by
    show o + 1 * r.val = _; omega
  have hj : ((Rect.unit (s := S2112x1024) ![o, 0] S352x1024.size h').emb (ix2 r j) 1) = j :=
    Fin.ext (by show 0 + 1 * j.val = _; omega)
  rw [part_at o h a W r j _ hr]
  unfold product
  rw [hj]

/-- The six stores together leave the product. -/
theorem read_parts (V : View sig .tc .vmem S2112x1024 .bf16) (f : V.ty.Contents (Elt Ideal))
    (a : Vec Ideal S2112x2048 .bf16) (W : Vec Ideal S2048x1024 .bf16) :
    V.read (Elt Ideal) (V.writes (Elt Ideal) f (parts a W)) = product a W := by
  funext y
  refine View.read_writes_apply_of_pieces V f _ _ ?_ y ?_
  · intro p hp x
    simp only [parts, List.mem_cons, List.not_mem_nil, or_false] at hp
    rcases hp with rfl | rfl | rfl | rfl | rfl | rfl
    · exact part_entry 1760 _ inb_S2112x1024_S352x1024_1760_0 a W x
    · exact part_entry 1408 _ inb_S2112x1024_S352x1024_1408_0 a W x
    · exact part_entry 1056 _ inb_S2112x1024_S352x1024_1056_0 a W x
    · exact part_entry 704 _ inb_S2112x1024_S352x1024_704_0 a W x
    · exact part_entry 352 _ inb_S2112x1024_S352x1024_352_0 a W x
    · exact part_entry 0 _ inb_S2112x1024_S352x1024_0_0 a W x
  · exact View.cover_of_tiled _ ![352, 1024] rfl y

/-- What the body leaves in its output block at a later row tile. -/
theorem later_block (c : Dev nD) (i : grid0.Coords) (a2 : Memref sig .tc .vmem S2112x2048 .bf16) (h2 : a2.IsWhole)
    (a3 : Memref sig .tc .vmem S1x2048x1024 .f32) (h3 : a3.IsWhole) (a4 : Memref sig .tc .vmem S2112x1024 .bf16) (h4 : a4.IsWhole)
    (a5 : Memref sig .tc .vmem S2048x1024 .bf16) (h5 : a5.IsWhole) (hc : ¬cond0_0 i)
    (x0 : Vec Ideal S2112x2048 .bf16) (x1 : Vec Ideal S1x2048x1024 .f32) (W : Vec Ideal S2048x1024 .bf16) :
    out0_B_2 c i a2 h2 a3 h3 a4 h4 a5 h5 hc x0 x1 W = product x0 W := by
  unfold out0_B_2
  dsimp only [kernelRun0_B]
  rw [load_weights a5 h5 W]
  rw [load_rows a2 h2, load_rows a2 h2, load_rows a2 h2, load_rows a2 h2, load_rows a2 h2, load_rows a2 h2]
  exact read_parts _ _ x0 W

/-- The weights' buffer after the first row tile's store holds the rounded weight block. -/
theorem stored_weights (c : Dev nD) (a3 : Memref sig .tc .vmem S1x2048x1024 .f32) (h3 : a3.IsWhole)
    (V : View sig .tc .vmem S2048x1024 .bf16) (f : V.ty.Contents (Elt Ideal)) (x1 : Vec Ideal S1x2048x1024 .f32) :
    V.read (Elt Ideal) (V.writes (Elt Ideal) f (kernelRun0_A.sl.HS0_1 c a3 h3 x1)) = k0_pay3 x1 := by
  funext y
  refine View.read_writes_apply_of_pieces V f _ _ ?_ y ?_
  · intro p hp x
    dsimp only [kernelRun0_A.sl.HS0_1] at hp
    rw [load_block a3 h3 x1] at hp
    obtain rfl := List.mem_singleton.mp hp
    exact congrArg (k0_pay3 x1) (whole_weights x).symm
  · exact View.cover_of_tiled _ ![2048, 1024] rfl y

/-- So much the first row tile leaves in the weights' buffer. -/
theorem first_buffer (c : Dev nD) (i : grid0.Coords) (a2 : Memref sig .tc .vmem S2112x2048 .bf16) (h2 : a2.IsWhole)
    (a3 : Memref sig .tc .vmem S1x2048x1024 .f32) (h3 : a3.IsWhole) (a4 : Memref sig .tc .vmem S2112x1024 .bf16) (h4 : a4.IsWhole)
    (a5 : Memref sig .tc .vmem S2048x1024 .bf16) (h5 : a5.IsWhole) (hc : cond0_0 i)
    (x0 : Vec Ideal S2112x2048 .bf16) (x1 : Vec Ideal S1x2048x1024 .f32) :
    sout0_A_0 c i a2 h2 a3 h3 a4 h4 a5 h5 hc x0 x1 = k0_pay3 x1 := by
  unfold sout0_A_0
  dsimp only [kernelRun0_A]
  exact stored_weights c a3 h3 _ _ x1

/-- The load of the buffer after that store gives the rounded weight block. -/
theorem loaded_weights (c : Dev nD) (a3 : Memref sig .tc .vmem S1x2048x1024 .f32) (h3 : a3.IsWhole)
    (a5 : Memref sig .tc .vmem S2048x1024 .bf16) (x1 : Vec Ideal S1x2048x1024 .f32) :
    kernelRun0_A.sl.v4 c a3 h3 a5 x1 = k0_pay3 x1 := by
  funext j
  refine Eq.trans ?_ (congrFun (stored_weights c a3 h3 a5.view a5.view.junk x1) j)
  exact congrArg (a5.view.read (Elt Ideal) (a5.view.writes (Elt Ideal) a5.view.junk (kernelRun0_A.sl.HS0_1 c a3 h3 x1))) (whole_weights j)

/-- What the body leaves in its output block at the first row tile. -/
theorem first_block (c : Dev nD) (i : grid0.Coords) (a2 : Memref sig .tc .vmem S2112x2048 .bf16) (h2 : a2.IsWhole)
    (a3 : Memref sig .tc .vmem S1x2048x1024 .f32) (h3 : a3.IsWhole) (a4 : Memref sig .tc .vmem S2112x1024 .bf16) (h4 : a4.IsWhole)
    (a5 : Memref sig .tc .vmem S2048x1024 .bf16) (h5 : a5.IsWhole) (hc : cond0_0 i)
    (x0 : Vec Ideal S2112x2048 .bf16) (x1 : Vec Ideal S1x2048x1024 .f32) :
    out0_A_2 c i a2 h2 a3 h3 a4 h4 a5 h5 hc x0 x1 = product x0 (k0_pay3 x1) := by
  unfold out0_A_2
  dsimp only [kernelRun0_A]
  rw [load_rows a2 h2, load_rows a2 h2, load_rows a2 h2, load_rows a2 h2, load_rows a2 h2, load_rows a2 h2]
  rw [show kernelRun0_A.sl.v24 c a3 h3 a5 x1 = k0_pay3 x1 from loaded_weights c a3 h3 a5 x1, loaded_weights c a3 h3 a5 x1]
  exact read_parts _ _ x0 _

variable (m : (ℓ : Loc nD τ sig) → Buf (Elt Ideal) ℓ) (ρ : Dev nD → PrngReg) (c : Dev nD)

/-- The activations, as an array. -/
abbrev actsOf : Vec Ideal S8448x2048 .bf16 := m ((c : Thread nD τ).loc main_arg0)

/-- The weights, as an array. -/
abbrev weightsOf : Vec Ideal S1x2048x8192 .f32 := m ((c : Thread nD τ).loc main_arg1)

/-- The projection of the arguments. -/
def projOf : Vec Ideal S8448x8192 .bf16 := fun y => ∑ x : Fin 2048, actsOf m c (ix2 (y 0) x) * weightsOf m c (ix3 0 x (y 1))

/-- The block that this window takes at each point. -/
theorem index_0 : ∀ t : Fin grid0.N, win0_0.index t = ![t.val % 4, 0] := by decide +kernel
/-- The block that this window takes at each point. -/
theorem index_1 : ∀ t : Fin grid0.N, win0_1.index t = ![0, 0, t.val / 4] := by decide +kernel
/-- The block that this window takes at each point. -/
theorem index_2 : ∀ t : Fin grid0.N, win0_2.index t = ![t.val % 4, t.val / 4] := by decide +kernel

/-- The activation block at a point, entry by entry. -/
theorem block_acts (t : Fin cfg0.N) (r : Fin 2112) (k : Fin 2048) (n : Fin 8448) (hn : n.val = 2112 * (t.val % 4) + r.val) :
    iblk m c 0 t (ix2 r k) = actsOf m c (ix2 n k) := by
  blk_simp [iblk]
  rw [V_main_arg0]
  refine congrArg (actsOf m c) ?_
  blk_ext [index_0]

/-- The rounded weight block at a point, entry by entry. -/
theorem block_weights (t : Fin cfg0.N) (k : Fin 2048) (j : Fin 1024) (n : Fin 8192) (hn : n.val = 1024 * (t.val / 4) + j.val) :
    k0_pay3 (iblk m c 1 t) (ix2 k j) = weightsOf m c (ix3 0 k n) := by
  pointwise [k0_pay3]
  blk_simp [iblk]
  rw [V_main_arg1]
  refine congrArg (weightsOf m c) ?_
  blk_ext [index_1]

/-- The weights' buffer after any point, entry by entry. -/
theorem buffer_at (n : ℕ) (hn : n < cfg0.N) (k : Fin 2048) (j : Fin 1024) (q : Fin 8192) (hq : q.val = 1024 * (n / 4) + j.val) :
    (outsAt0 m c n hn).2 (ix2 k j) = weightsOf m c (ix3 0 k q) := by
  induction n with
  | zero =>
    rw [outsAt0_A m c ⟨0, hn⟩ rfl]
    dsimp only
    rw [first_buffer]
    exact block_weights m c ⟨0, hn⟩ k j q hq
  | succ n ih =>
    by_cases h0 : (n + 1) % 4 = 0
    · rw [outsAt0_A m c ⟨n + 1, hn⟩ h0]
      dsimp only
      rw [first_buffer]
      exact block_weights m c ⟨n + 1, hn⟩ k j q hq
    · rw [outsAt0_B m c ⟨n + 1, hn⟩ h0]
      dsimp only
      unfold sout0_B_0
      exact ih (Nat.lt_of_succ_lt hn) (by omega)

/-- The product of a point's blocks, entry by entry. -/
theorem product_at (t : Fin cfg0.N) (W : Vec Ideal S2048x1024 .bf16)
    (hW : ∀ (k : Fin 2048) (j : Fin 1024) (q : Fin 8192), q.val = 1024 * (t.val / 4) + j.val → W (ix2 k j) = weightsOf m c (ix3 0 k q))
    (r : Fin 2112) (j : Fin 1024) (n : Fin 8448) (hn : n.val = 2112 * (t.val % 4) + r.val) (q : Fin 8192)
    (hq : q.val = 1024 * (t.val / 4) + j.val) : product (iblk m c 0 t) W (ix2 r j) = projOf m c (ix2 n q) := by
  unfold product dotAt projOf
  exact Finset.sum_congr rfl fun x _ => congrArg₂ (fun a b : EReal => a * b) (block_acts m c t r x n hn) (hW x j q hq)

/-- The block a point leaves is the product of its activation block and some array that holds its column block. -/
theorem left_at (t : Fin cfg0.N) (r : Fin 2112) (j : Fin 1024) (n : Fin 8448) (hn : n.val = 2112 * (t.val % 4) + r.val) (q : Fin 8192)
    (hq : q.val = 1024 * (t.val / 4) + j.val) : (outsAt0 m c t.val t.isLt).1 (ix2 r j) = projOf m c (ix2 n q) := by
  by_cases h0 : t.val % 4 = 0
  · rw [outsAt0_A m c t h0]
    dsimp only
    rw [first_block]
    exact (product_at m c t _ (fun k j q hq => block_weights m c t k j q hq) r j n hn q hq)
  · rw [outsAt0_B m c t h0]
    dsimp only
    rw [later_block]
    exact (product_at m c t _ (fun k j q hq => buffer_at m c _ _ k j q (by omega)) r j n hn q hq)

/-- The array after a run is the projection. -/
theorem array_2 : (dats m 0 c).arrAt 2 cfg0.N = projOf m c := by
  refine (dats m 0 c).arrAt_eq_of_covers 2 (projOf m c) (by decide +kernel) fun t hf y => ?_
  blk_simp
  rw [after0_2]
  obtain ⟨r, j, rfl⟩ : ∃ (r : Fin 2112) (j : Fin 1024), y = ix2 r j := ⟨y 0, y 1, by idx_vars y⟩
  have ht : t.val < 32 := lt_of_lt_of_eq t.isLt N_0
  have hr := r.isLt
  have hj := j.isLt
  refine Eq.trans (left_at m c t r j ⟨2112 * (t.val % 4) + r.val, by omega⟩ rfl ⟨1024 * (t.val / 4) + j.val, by omega⟩ rfl) ?_
  · refine congrArg (projOf m c) ?_
    blk_ext [index_2]

/-- Every run ends with the result at the projection and the arguments unchanged. -/
theorem run_values : θ_run defs (onTc (τ := τ) (main (F := Ideal))) ⟨m, fun _ => 0, ρ⟩ (fun r => ∀ c : Dev nD,
    r.2.mem ((c : Thread nD τ).loc main_v0) = projOf m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun r h c => ⟨(h c).1.trans (array_2 m c), (h c).2⟩) (Value.run_blocks m ρ)

end Cert.Kernel2Ideal.InProj

namespace Cert.Reference2Ideal.InProj

open Cert.Reference2Ideal Cert.Reference2Ideal.Gen
open Idealize.ShloMosaic Idealize.ShloMosaic.TcCoe

/-- The reference's product, entry by entry. -/
theorem product_at (h : FVec Ideal S8448x2048 .bf16) (w : FVec Ideal S1x2048x8192 .f32) (n : Fin 8448) (q : Fin 8192) :
    truncf .bf16 (Host.dotGeneral (F := Ideal) dot_S8448x2048_S2048x8192_S8448x8192_1_0_0_1_n_n none (extf .f32 h bitsLt_bf16_f32) (shapeCast _ w shapeCasts_S1x2048x8192_S2048x8192)) bitsLt_bf16_f32 (ix2 n q)
      = ∑ x : Fin 2048, h (ix2 n x) * w (ix3 0 x q) := by
  pointwise

end Cert.Reference2Ideal.InProj
-- ==== Proof.AttnTile.lean ====
module

public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.WholeRead
public import Idealize.ShloMosaic.Lib.VecWindow
public import Idealize.ShloMosaic.Lib.Pointwise

/-!
The attention layers' projection to values and gate: what its stores leave in the output block and in the kept weights. The
output block has three parts of 352 rows, each stored at once over a range of columns.
-/

@[expose] public section

set_option maxRecDepth 16384

noncomputable section

namespace Cert.Kernel3Ideal.Attn

open Cert.Kernel3Ideal Cert.Kernel3Ideal.Gen
open Idealize.ShloMosaic Idealize.ShloMosaic.TcCoe Idealize.ShloMosaic.Tactic

variable {F : FTy → Type} [FloatOps F]

/-! ## Storing over a rectangle of a matrix -/

section Put

variable {α : Type} {R C : ℕ}

/-- Inside the rectangle stored over, the matrix has the stored values. -/
theorem put_inside (x : (⟨2, ![R, C]⟩ : Shape).Idx → α) (a b p q : ℕ)
    (w : ((i : Fin 2) → Fin ((![p, q] : Fin 2 → ℕ) i)) → α) (r : Fin p) (c : Fin q) (r' : Fin R) (c' : Fin C)
    (hr : r'.val = a + r.val) (hc : c'.val = b + c.val) :
    VecWindow.put (s := ⟨2, ![R, C]⟩) x ![a, b] ![p, q] w (ix2 r' c') = w (ix2 r c) := by
  have hrl := r.isLt
  have hcl := c.isLt
  have h : ∀ i : Fin 2, (![a, b] : Fin 2 → ℕ) i ≤ ((ix2 r' c') i).val
      ∧ ((ix2 r' c') i).val < (![a, b] : Fin 2 → ℕ) i + (![p, q] : Fin 2 → ℕ) i := by
    intro i
    fin_cases i
    · show a ≤ r'.val ∧ r'.val < a + p
      omega
    · show b ≤ c'.val ∧ c'.val < b + q
      omega
  refine (dif_pos h).trans (congrArg w (funext fun i => Fin.ext ?_))
  fin_cases i
  · show r'.val - a = r.val
    omega
  · show c'.val - b = c.val
    omega

/-- At a row outside the rectangle the matrix is unchanged. -/
theorem put_other_row (x : (⟨2, ![R, C]⟩ : Shape).Idx → α) (a b p q : ℕ)
    (w : ((i : Fin 2) → Fin ((![p, q] : Fin 2 → ℕ) i)) → α) (r : Fin R) (c : Fin C) (h : r.val < a ∨ a + p ≤ r.val) :
    VecWindow.put (s := ⟨2, ![R, C]⟩) x ![a, b] ![p, q] w (ix2 r c) = x (ix2 r c) :=
  dif_neg fun hall => by
    have h0 : a ≤ r.val ∧ r.val < a + p := hall 0
    omega

/-- At a column outside the rectangle the matrix is unchanged. -/
theorem put_other_col (x : (⟨2, ![R, C]⟩ : Shape).Idx → α) (a b p q : ℕ)
    (w : ((i : Fin 2) → Fin ((![p, q] : Fin 2 → ℕ) i)) → α) (r : Fin R) (c : Fin C) (h : c.val < b ∨ b + q ≤ c.val) :
    VecWindow.put (s := ⟨2, ![R, C]⟩) x ![a, b] ![p, q] w (ix2 r c) = x (ix2 r c) :=
  dif_neg fun hall => by
    have h1 : b ≤ c.val ∧ c.val < b + q := hall 1
    omega

/-- A matrix of 1056 rows after its three parts of 352 rows are stored, over `q` columns from column `b`. -/
def putParts (y : (⟨2, ![1056, C]⟩ : Shape).Idx → α) (b q : ℕ)
    (P : Fin 3 → (((i : Fin 2) → Fin ((![352, q] : Fin 2 → ℕ) i)) → α)) : (⟨2, ![1056, C]⟩ : Shape).Idx → α :=
  VecWindow.put (s := ⟨2, ![1056, C]⟩) (VecWindow.put (s := ⟨2, ![1056, C]⟩) (VecWindow.put (s := ⟨2, ![1056, C]⟩) y
    ![0, b] ![352, q] (P 0)) ![352, b] ![352, q] (P 1)) ![704, b] ![352, q] (P 2)

/-- Inside the columns stored, an entry is its part's. -/
theorem putParts_inside (y : (⟨2, ![1056, C]⟩ : Shape).Idx → α) (b q : ℕ)
    (P : Fin 3 → (((i : Fin 2) → Fin ((![352, q] : Fin 2 → ℕ) i)) → α)) (p : Fin 3) (r : Fin 352) (c : Fin q)
    (r' : Fin 1056) (c' : Fin C) (hr : r'.val = 352 * p.val + r.val) (hc : c'.val = b + c.val) :
    putParts y b q P (ix2 r' c') = P p (ix2 r c) := by
  have hr' := r.isLt
  unfold putParts
  match p, hr with
  | 0, hr =>
    rw [put_other_row _ _ _ _ _ _ _ _ (Or.inl (by have : r'.val = 352 * 0 + r.val := hr; omega)),
      put_other_row _ _ _ _ _ _ _ _ (Or.inl (by have : r'.val = 352 * 0 + r.val := hr; omega))]
    exact put_inside y 0 b 352 q (P 0) r c r' c' hr hc
  | 1, hr =>
    rw [put_other_row _ _ _ _ _ _ _ _ (Or.inl (by have : r'.val = 352 * 1 + r.val := hr; omega))]
    exact put_inside _ 352 b 352 q (P 1) r c r' c' hr hc
  | 2, hr => exact put_inside _ 704 b 352 q (P 2) r c r' c' hr hc

/-- Outside the columns stored nothing changes. -/
theorem putParts_outside (y : (⟨2, ![1056, C]⟩ : Shape).Idx → α) (b q : ℕ)
    (P : Fin 3 → (((i : Fin 2) → Fin ((![352, q] : Fin 2 → ℕ) i)) → α)) (r : Fin 1056) (c : Fin C) (h : c.val < b ∨ b + q ≤ c.val) :
    putParts y b q P (ix2 r c) = y (ix2 r c) := by
  unfold putParts
  rw [put_other_col _ _ _ _ _ _ _ _ h, put_other_col _ _ _ _ _ _ _ _ h, put_other_col _ _ _ _ _ _ _ _ h]

end Put

/-! ## Loads -/

/-- Part `p` of the rows of a tile. -/
def part (p : Fin 3) (x : Vec F S1056x2048 .bf16) : Vec F S352x2048 .bf16 := fun y =>
  x (ix2 (⟨352 * p.val + (y 0).val, by have h0 : (y 0).val < 352 := (y 0).isLt; have := p.isLt; omega⟩ : Fin 1056) (y 1))

/-- A load of 352 rows is a part of the tile. -/
theorem load_part {σ : RefSig} (p : Fin 3) {a : Memref σ .tc .vmem S1056x2048 .bf16} (h : a.IsWhole) (x : Vec F S1056x2048 .bf16) (o : ℕ)
    (ho : o = 352 * p.val) (inb : ∀ i, (![o, 0] : Fin 2 → ℕ) i + S352x2048.size i ≤ S1056x2048.size i) :
    View.readAt (Elt F) a.view (Rect.unit (s := S1056x2048) ![o, 0] S352x2048.size inb).toLoadRect (h.unread x) = part p x := by
  rw [View.readAt_unit a.view _ inb rfl inb, h.read_unread]
  subst ho
  funext y
  refine congrArg x (funext fun i => Fin.ext ?_)
  fin_cases i
  · show 352 * p.val + 1 * (y 0).val = 352 * p.val + (y 0).val
    omega
  · show 0 + 1 * (y 1).val = (y 1).val
    omega

/-- A load of a rectangle just stored over reads the stored values. -/
theorem load_stored {σ : RefSig} {sp : Space} {s : Shape} {e : EltTy} (v : View σ .tc sp s e) {off size : Fin s.rank → ℕ}
    (inb : ∀ i, off i + size i ≤ s.size i) (w : (Rect.unit off size inb).shape.Idx → Elt F e) (L : List (View.Piece (Elt F) s e)) :
    v.readCov (⟨Rect.unit off size inb, w⟩ :: L) (Rect.unit off size inb).toLoadRect = w := by
  refine (View.readAt_unit v _ inb rfl inb).trans ?_
  rw [View.read_writes_cons_put v _ inb w L rfl, VecWindow.window_put_same]

end Cert.Kernel3Ideal.Attn
-- ==== Proof.AttnRun.lean ====
module

public import proofs.«01_k».proof.Proof.AttnTile

/-!
One run of the body: at one of the first three points, where a third of the weights is loaded and its columns of the output
block are computed, and at a later point, where the whole output block is. Stated over any floating-point interpretation.
-/

@[expose] public section

set_option maxRecDepth 16384

noncomputable section

namespace Cert.Kernel3Ideal.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four branches of the body are taken at points 0, 1, 2 and from 3 on. -/
theorem branch_1 (i : grid0.Coords) : k0_cond1 i = 1#1 ↔ (i 0).val = 0 := by
  have h : (i 0).val < 10 := (i 0).isLt
  unfold k0_cond1
  word_cmp
/-- The second branch is taken at point 1. -/
theorem branch_2 (i : grid0.Coords) : k0_cond2 i = 1#1 ↔ (i 0).val = 1 := by
  have h : (i 0).val < 10 := (i 0).isLt
  unfold k0_cond2
  word_cmp
/-- The third branch is taken at point 2. -/
theorem branch_3 (i : grid0.Coords) : k0_cond3 i = 1#1 ↔ (i 0).val = 2 := by
  have h : (i 0).val < 10 := (i 0).isLt
  unfold k0_cond3
  word_cmp
/-- The fourth branch is taken from point 3 on. -/
theorem branch_4 (i : grid0.Coords) : k0_cond4 i = 1#1 ↔ 3 ≤ (i 0).val := by
  have h : (i 0).val < 10 := (i 0).isLt
  unfold k0_cond4
  word_cmp

/-- The kept weights after a third of them is loaded. -/
def keptAfter (j : Fin 3) (x1 : Vec F S1x2048x768 .f32) (d : Vec F S2048x2304 .bf16) : Vec F S2048x2304 .bf16 :=
  VecWindow.put d ![0, 768 * j.val] S2048x768.size (k0_pay1 x1)

/-- The output block after the columns of a third of the weights are computed. -/
def columnsAfter (j : Fin 3) (x0 : Vec F S1056x2048 .bf16) (x1 : Vec F S1x2048x768 .f32) (y : Vec F S1056x2304 .bf16) :
    Vec F S1056x2304 .bf16 :=
  putParts y (768 * j.val) 768 fun p => k0_pay2 (part p x0) (k0_pay1 x1)

/-- The output block after all its columns are computed. -/
def blockAfter (x0 : Vec F S1056x2048 .bf16) (d : Vec F S2048x2304 .bf16) (y : Vec F S1056x2304 .bf16) : Vec F S1056x2304 .bf16 :=
  putParts y 0 2304 fun p => k0_pay13 (part p x0) d

/-! ## Reading back what was stored -/

/-- A load of the whole weight block reads it. -/
theorem load_weights {σ : RefSig} {a : Memref σ .tc .vmem S1x2048x768 .f32} (h : a.IsWhole) (x : Vec F S1x2048x768 .f32)
    (inb : ∀ i, (![0, 0, 0] : Fin 3 → ℕ) i + S1x2048x768.size i ≤ S1x2048x768.size i) :
    View.readAt (Elt F) a.view (Rect.unit (s := S1x2048x768) ![0, 0, 0] S1x2048x768.size inb).toLoadRect (h.unread x) = x := by
  rw [View.readAt_full, h.read_unread]

/-- A load of all the kept weights reads them. -/
theorem load_kept {σ : RefSig} {a : Memref σ .tc .vmem S2048x2304 .bf16} (h : a.IsWhole) (x : Vec F S2048x2304 .bf16)
    (inb : ∀ i, (![0, 0] : Fin 2 → ℕ) i + S2048x2304.size i ≤ S2048x2304.size i) :
    View.readAt (Elt F) a.view (Rect.unit (s := S2048x2304) ![0, 0] S2048x2304.size inb).toLoadRect (h.unread x) = x := by
  rw [View.readAt_full, h.read_unread]

/-- The third of the kept weights just stored, loaded back. -/
theorem load_third (v : View sig .tc .vmem S2048x2304 .bf16) {a : Memref sig .tc .vmem S1x2048x768 .f32} (h : a.IsWhole)
    (x : Vec F S1x2048x768 .f32) (b : ℕ) (inb : ∀ i, (![0, b] : Fin 2 → ℕ) i + S2048x768.size i ≤ S2048x2304.size i)
    (inb' : ∀ i, (![0, 0, 0] : Fin 3 → ℕ) i + S1x2048x768.size i ≤ S1x2048x768.size i) :
    v.readCov [(⟨Rect.unit (s := S2048x2304) ![0, b] S2048x768.size inb,
      k0_pay1 (View.readAt (Elt F) a.view (Rect.unit (s := S1x2048x768) ![0, 0, 0] S1x2048x768.size inb').toLoadRect (h.unread x))⟩ :
        View.Piece (Elt F) S2048x2304 .bf16)]
      (Rect.unit (s := S2048x2304) ![0, b] S2048x768.size inb).toLoadRect = k0_pay1 x := by
  rw [load_weights]
  exact load_stored v inb _ []

/-- The kept weights after a third is stored. -/
theorem read_third (j : Fin 3) {a4 : Memref sig .tc .vmem S2048x2304 .bf16} (h4 : a4.IsWhole) {a : Memref sig .tc .vmem S1x2048x768 .f32}
    (h : a.IsWhole) (x : Vec F S1x2048x768 .f32) (d : Vec F S2048x2304 .bf16) (b : ℕ) (hb : b = 768 * j.val)
    (inb : ∀ i, (![0, b] : Fin 2 → ℕ) i + S2048x768.size i ≤ S2048x2304.size i)
    (inb' : ∀ i, (![0, 0, 0] : Fin 3 → ℕ) i + S1x2048x768.size i ≤ S1x2048x768.size i) :
    View.read (Elt F) a4.view (a4.view.writes (Elt F) (h4.unread d) [⟨Rect.unit (s := S2048x2304) ![0, b] S2048x768.size inb,
      k0_pay1 (View.readAt (Elt F) a.view (Rect.unit (s := S1x2048x768) ![0, 0, 0] S1x2048x768.size inb').toLoadRect (h.unread x))⟩])
      = keptAfter j x d := by
  subst hb
  rw [load_weights, View.read_writes_cons_put a4.view _ inb _ [] rfl, View.writes_nil, h4.read_unread]
  rfl

/-- The output block after three stores of 352 rows each. -/
theorem read_parts {a : Memref sig .tc .vmem S1056x2304 .bf16} (h : a.IsWhole) (y : Vec F S1056x2304 .bf16) (b q : ℕ)
    (P : Fin 3 → (((i : Fin 2) → Fin ((![352, q] : Fin 2 → ℕ) i)) → Elt F .bf16))
    (inb0 : ∀ i, (![0, b] : Fin 2 → ℕ) i + (![352, q] : Fin 2 → ℕ) i ≤ S1056x2304.size i)
    (inb1 : ∀ i, (![352, b] : Fin 2 → ℕ) i + (![352, q] : Fin 2 → ℕ) i ≤ S1056x2304.size i)
    (inb2 : ∀ i, (![704, b] : Fin 2 → ℕ) i + (![352, q] : Fin 2 → ℕ) i ≤ S1056x2304.size i) :
    View.read (Elt F) a.view (a.view.writes (Elt F) (h.unread y) [⟨Rect.unit (s := S1056x2304) ![704, b] ![352, q] inb2, P 2⟩,
      ⟨Rect.unit (s := S1056x2304) ![352, b] ![352, q] inb1, P 1⟩, ⟨Rect.unit (s := S1056x2304) ![0, b] ![352, q] inb0, P 0⟩])
      = putParts y b q P := by
  rw [View.read_writes_cons_put a.view _ inb2 _ _ rfl, View.read_writes_cons_put a.view _ inb1 _ _ rfl,
    View.read_writes_cons_put a.view _ inb0 _ _ rfl, View.writes_nil, h.read_unread]
  rfl

/-- The output block after the three stores of one of the first three points. -/
theorem read_columns (j : Fin 3) {a1 : Memref sig .tc .vmem S1056x2048 .bf16} (h1 : a1.IsWhole) {a3 : Memref sig .tc .vmem S1056x2304 .bf16}
    (h3 : a3.IsWhole) (x0 : Vec F S1056x2048 .bf16) (x1 : Vec F S1x2048x768 .f32) (y : Vec F S1056x2304 .bf16)
    (v : Vec F S2048x768 .bf16) (hv : v = k0_pay1 x1) (b : ℕ) (hb : b = 768 * j.val)
    (inb0 : ∀ i, (![0, b] : Fin 2 → ℕ) i + S352x768.size i ≤ S1056x2304.size i)
    (inb1 : ∀ i, (![352, b] : Fin 2 → ℕ) i + S352x768.size i ≤ S1056x2304.size i)
    (inb2 : ∀ i, (![704, b] : Fin 2 → ℕ) i + S352x768.size i ≤ S1056x2304.size i)
    (i0 : ∀ i, (![0, 0] : Fin 2 → ℕ) i + S352x2048.size i ≤ S1056x2048.size i)
    (i1 : ∀ i, (![352, 0] : Fin 2 → ℕ) i + S352x2048.size i ≤ S1056x2048.size i)
    (i2 : ∀ i, (![704, 0] : Fin 2 → ℕ) i + S352x2048.size i ≤ S1056x2048.size i) :
    View.read (Elt F) a3.view (a3.view.writes (Elt F) (h3.unread y)
      [⟨Rect.unit (s := S1056x2304) ![704, b] S352x768.size inb2,
          k0_pay2 (View.readAt (Elt F) a1.view (Rect.unit (s := S1056x2048) ![704, 0] S352x2048.size i2).toLoadRect (h1.unread x0)) v⟩,
        ⟨Rect.unit (s := S1056x2304) ![352, b] S352x768.size inb1,
          k0_pay2 (View.readAt (Elt F) a1.view (Rect.unit (s := S1056x2048) ![352, 0] S352x2048.size i1).toLoadRect (h1.unread x0)) v⟩,
        ⟨Rect.unit (s := S1056x2304) ![0, b] S352x768.size inb0,
          k0_pay2 (View.readAt (Elt F) a1.view (Rect.unit (s := S1056x2048) ![0, 0] S352x2048.size i0).toLoadRect (h1.unread x0)) v⟩])
      = columnsAfter j x0 x1 y := by
  subst hv hb
  rw [load_part 0 h1 x0 0 rfl, load_part 1 h1 x0 352 rfl, load_part 2 h1 x0 704 rfl]
  exact read_parts h3 y (768 * j.val) 768 (fun p => k0_pay2 (part p x0) (k0_pay1 x1)) inb0 inb1 inb2

/-- The output block after the three stores of a later point. -/
theorem read_block {a1 : Memref sig .tc .vmem S1056x2048 .bf16} (h1 : a1.IsWhole) {a3 : Memref sig .tc .vmem S1056x2304 .bf16}
    (h3 : a3.IsWhole) (x0 : Vec F S1056x2048 .bf16) (d v : Vec F S2048x2304 .bf16) (y : Vec F S1056x2304 .bf16) (hv : v = d)
    (inb0 : ∀ i, (![0, 0] : Fin 2 → ℕ) i + S352x2304.size i ≤ S1056x2304.size i)
    (inb1 : ∀ i, (![352, 0] : Fin 2 → ℕ) i + S352x2304.size i ≤ S1056x2304.size i)
    (inb2 : ∀ i, (![704, 0] : Fin 2 → ℕ) i + S352x2304.size i ≤ S1056x2304.size i)
    (i0 : ∀ i, (![0, 0] : Fin 2 → ℕ) i + S352x2048.size i ≤ S1056x2048.size i)
    (i1 : ∀ i, (![352, 0] : Fin 2 → ℕ) i + S352x2048.size i ≤ S1056x2048.size i)
    (i2 : ∀ i, (![704, 0] : Fin 2 → ℕ) i + S352x2048.size i ≤ S1056x2048.size i) :
    View.read (Elt F) a3.view (a3.view.writes (Elt F) (h3.unread y)
      [⟨Rect.unit (s := S1056x2304) ![704, 0] S352x2304.size inb2,
          k0_pay13 (View.readAt (Elt F) a1.view (Rect.unit (s := S1056x2048) ![704, 0] S352x2048.size i2).toLoadRect (h1.unread x0)) v⟩,
        ⟨Rect.unit (s := S1056x2304) ![352, 0] S352x2304.size inb1,
          k0_pay13 (View.readAt (Elt F) a1.view (Rect.unit (s := S1056x2048) ![352, 0] S352x2048.size i1).toLoadRect (h1.unread x0)) v⟩,
        ⟨Rect.unit (s := S1056x2304) ![0, 0] S352x2304.size inb0,
          k0_pay13 (View.readAt (Elt F) a1.view (Rect.unit (s := S1056x2048) ![0, 0] S352x2048.size i0).toLoadRect (h1.unread x0)) v⟩])
      = blockAfter x0 d y := by
  subst hv
  rw [load_part 0 h1 x0 0 rfl, load_part 1 h1 x0 352 rfl, load_part 2 h1 x0 704 rfl]
  exact read_parts h3 y 0 2304 (fun p => k0_pay13 (part p x0) v) inb0 inb1 inb2

/-! ## The runs -/

set_option maxHeartbeats 1000000 in
/-- The body at one of the first three points. -/
theorem run_columns (j : Fin 3) (c : Dev nD) (i : grid0.Coords) (arg1 : Memref sig .tc .vmem S1056x2048 .bf16) (harg1 : arg1.IsWhole)
    (arg2 : Memref sig .tc .vmem S1x2048x768 .f32) (harg2 : arg2.IsWhole) (arg3 : Memref sig .tc .vmem S1056x2304 .bf16) (harg3 : arg3.IsWhole)
    (arg4 : Memref sig .tc .vmem S2048x2304 .bf16) (harg4 : arg4.IsWhole) (hj : (i 0).val = j.val)
    (x0 : Vec F S1056x2048 .bf16) (x1 : Vec F S1x2048x768 .f32) (y : Vec F S1056x2304 .bf16) (d : Vec F S2048x2304 .bf16)
    (E : Set ℕ) (K : PUnit → sProp 𝕄) :
    iprop(owns (c : Thread nD τ) arg1 fullShare x0 ∗ owns (c : Thread nD τ) arg2 fullShare x1 ∗ owns (c : Thread nD τ) arg3 fullShare y
          ∗ owns (c : Thread nD τ) arg4 fullShare d
          ∗ (iprop(owns (c : Thread nD τ) arg1 fullShare x0 ∗ owns (c : Thread nD τ) arg2 fullShare x1
              ∗ owns (c : Thread nD τ) arg3 fullShare (columnsAfter j x0 x1 y) ∗ owns (c : Thread nD τ) arg4 fullShare (keptAfter j x1 d)) -∗ K ⟨⟩))
      ⊢ wp frame (wpE (defs₀ (F := F)) Variants.none c none) E (cc0_attn_in_proj i arg1 harg1 arg2 harg2 arg3 harg3 arg4 harg4) K := by
  simp only [cc0_attn_in_proj_eq_skeleton]; unfold cc0_attn_in_proj_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  have b1 := branch_1 i
  have b2 := branch_2 i
  have b3 := branch_3 i
  have b4 := branch_4 i
  rw [hj] at b1 b2 b3 b4
  have c4 : ¬ k0_cond4 i = 1#1 := fun h => absurd (b4.mp h) (by have := j.isLt; omega)
  obtain rfl | rfl | rfl : j = 0 ∨ j = 1 ∨ j = 2 := (by decide : ∀ j : Fin 3, j = 0 ∨ j = 1 ∨ j = 2) j
  on_goal 1 =>
    have ho := read_columns 0 harg1 harg3 x0 x1 y _ (load_third arg4.view harg2 x1 0 inb_S2048x2304_S2048x768_0_0
      inb_S1x2048x768_S1x2048x768_0_0_0) 0 rfl inb_S1056x2304_S352x768_0_0 inb_S1056x2304_S352x768_352_0 inb_S1056x2304_S352x768_704_0
      inb_S1056x2048_S352x2048_0_0 inb_S1056x2048_S352x2048_352_0 inb_S1056x2048_S352x2048_704_0
    have hd := read_third 0 harg4 harg2 x1 d 0 rfl inb_S2048x2304_S2048x768_0_0 inb_S1x2048x768_S1x2048x768_0_0_0
    have c1 : k0_cond1 i = 1#1 := b1.mpr rfl
    have c2 : ¬ k0_cond2 i = 1#1 := fun h => absurd (b2.mp h) (by decide)
    have c3 : ¬ k0_cond3 i = 1#1 := fun h => absurd (b3.mp h) (by decide)
    sl_exec (disch := first | sl_exact c1 | sl_exact c2 | sl_exact c3 | sl_exact c4)
    sl_step
  on_goal 2 =>
    have ho := read_columns 1 harg1 harg3 x0 x1 y _ (load_third arg4.view harg2 x1 768 inb_S2048x2304_S2048x768_0_768
      inb_S1x2048x768_S1x2048x768_0_0_0) 768 rfl inb_S1056x2304_S352x768_0_768 inb_S1056x2304_S352x768_352_768 inb_S1056x2304_S352x768_704_768
      inb_S1056x2048_S352x2048_0_0 inb_S1056x2048_S352x2048_352_0 inb_S1056x2048_S352x2048_704_0
    have hd := read_third 1 harg4 harg2 x1 d 768 rfl inb_S2048x2304_S2048x768_0_768 inb_S1x2048x768_S1x2048x768_0_0_0
    have c1 : ¬ k0_cond1 i = 1#1 := fun h => absurd (b1.mp h) (by decide)
    have c2 : k0_cond2 i = 1#1 := b2.mpr rfl
    have c3 : ¬ k0_cond3 i = 1#1 := fun h => absurd (b3.mp h) (by decide)
    sl_exec (disch := first | sl_exact c1 | sl_exact c2 | sl_exact c3 | sl_exact c4)
    sl_step
  on_goal 3 =>
    have ho := read_columns 2 harg1 harg3 x0 x1 y _ (load_third arg4.view harg2 x1 1536 inb_S2048x2304_S2048x768_0_1536
      inb_S1x2048x768_S1x2048x768_0_0_0) 1536 rfl inb_S1056x2304_S352x768_0_1536 inb_S1056x2304_S352x768_352_1536 inb_S1056x2304_S352x768_704_1536
      inb_S1056x2048_S352x2048_0_0 inb_S1056x2048_S352x2048_352_0 inb_S1056x2048_S352x2048_704_0
    have hd := read_third 2 harg4 harg2 x1 d 1536 rfl inb_S2048x2304_S2048x768_0_1536 inb_S1x2048x768_S1x2048x768_0_0_0
    have c1 : ¬ k0_cond1 i = 1#1 := fun h => absurd (b1.mp h) (by decide)
    have c2 : ¬ k0_cond2 i = 1#1 := fun h => absurd (b2.mp h) (by decide)
    have c3 : k0_cond3 i = 1#1 := b3.mpr rfl
    sl_exec (disch := first | sl_exact c1 | sl_exact c2 | sl_exact c3 | sl_exact c4)
    sl_step
  all_goals
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      exact ho
    · iexists _; isplitr
      swap; · iexact H3
      ipureintro
      exact hd

set_option maxHeartbeats 1000000 in
/-- The body at a later point: it computes the whole output block from the kept weights. -/
theorem run_block (c : Dev nD) (i : grid0.Coords) (arg1 : Memref sig .tc .vmem S1056x2048 .bf16) (harg1 : arg1.IsWhole)
    (arg2 : Memref sig .tc .vmem S1x2048x768 .f32) (harg2 : arg2.IsWhole) (arg3 : Memref sig .tc .vmem S1056x2304 .bf16) (harg3 : arg3.IsWhole)
    (arg4 : Memref sig .tc .vmem S2048x2304 .bf16) (harg4 : arg4.IsWhole) (hi : 3 ≤ (i 0).val)
    (x0 : Vec F S1056x2048 .bf16) (x1 : Vec F S1x2048x768 .f32) (y : Vec F S1056x2304 .bf16) (d : Vec F S2048x2304 .bf16)
    (E : Set ℕ) (K : PUnit → sProp 𝕄) :
    iprop(owns (c : Thread nD τ) arg1 fullShare x0 ∗ owns (c : Thread nD τ) arg2 fullShare x1 ∗ owns (c : Thread nD τ) arg3 fullShare y
          ∗ owns (c : Thread nD τ) arg4 fullShare d
          ∗ (iprop(owns (c : Thread nD τ) arg1 fullShare x0 ∗ owns (c : Thread nD τ) arg2 fullShare x1
              ∗ owns (c : Thread nD τ) arg3 fullShare (blockAfter x0 d y) ∗ owns (c : Thread nD τ) arg4 fullShare d) -∗ K ⟨⟩))
      ⊢ wp frame (wpE (defs₀ (F := F)) Variants.none c none) E (cc0_attn_in_proj i arg1 harg1 arg2 harg2 arg3 harg3 arg4 harg4) K := by
  simp only [cc0_attn_in_proj_eq_skeleton]; unfold cc0_attn_in_proj_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  have c1 : ¬ k0_cond1 i = 1#1 := fun h => by have := (branch_1 i).mp h; omega
  have c2 : ¬ k0_cond2 i = 1#1 := fun h => by have := (branch_2 i).mp h; omega
  have c3 : ¬ k0_cond3 i = 1#1 := fun h => by have := (branch_3 i).mp h; omega
  have c4 : k0_cond4 i = 1#1 := (branch_4 i).mpr hi
  sl_exec (disch := first | sl_exact c1 | sl_exact c2 | sl_exact c3 | sl_exact c4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    exact read_block harg1 harg3 x0 d _ y (load_kept harg4 d inb_S2048x2304_S2048x2304_0_0) _ _ _ _ _ _
  · iexists _; isplitr; · ipureintro; exact harg4.read_unread _
    iexact H3

end Cert.Kernel3Ideal.Attn
-- ==== Proof.AttnLaunch.lean ====
module

public import proofs.«01_k».proof.Proof.AttnRun
public import Idealize.ShloMosaic.Lib.Pipeline.DatRel
public import Idealize.ShloMosaic.Lib.Pipeline.ArrRel
public import Idealize.ShloMosaic.Lib.Pipeline.ValueKit.Geometry

/-!
The launch, over any floating-point interpretation. The first three points stay on the first row tile, load one third of the
weights each and compute that third's columns; a later point `t` computes row tile `t - 2` from the kept weights. So the output
block of the first row tile is complete only after the third point, and it is held to a statement rather than named.
-/

@[expose] public section

set_option maxRecDepth 16384

noncomputable section

namespace Cert.Kernel3Ideal.Attn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of the kept weights. -/
abbrev keptW : Memref sig .tc .vmem S2048x2304 .bf16 := Memref.whole cc0_scratch0

/-- The grid has 10 points. -/
theorem points_lt (t : Fin cfg0.N) : t.val < 10 := lt_of_lt_of_eq t.isLt (show cfg0.N = 10 from N_0)

/-- The point that loads third `j` of the weights. -/
def loader (j : Fin 3) : Fin cfg0.N := ⟨j.val, lt_of_lt_of_eq (by have := j.isLt; omega : j.val < 10) (show 10 = cfg0.N from N_0.symm)⟩

/-- The grid coordinate of a point. -/
theorem coord_of_point (t : Fin cfg0.N) : (grid0.coords t 0).val = t.val := by
  have e : (grid0.coords t 0).val = t.val / 1 % 10 := Pipeline.Grid.coords_val t 0 (by decide) rfl
  have := points_lt t
  rw [e, Nat.div_one]
  omega

/-- The block that the activation window takes at each point. -/
theorem index_0 : ∀ t : Fin grid0.N, win0_0.index t = ![t.val - 2, 0] := by decide +kernel

/-- The activations at launch. -/
abbrev actsOf (c : Dev nD) : Vec F S8448x2048 .bf16 := m ((c : Thread nD τ).loc main_arg0)

/-- The activation block at a point, entry by entry. -/
theorem block_acts (c : Dev nD) (t : Fin cfg0.N) (r : Fin 1056) (k : Fin 2048) (n : Fin 8448) (hn : n.val = 1056 * (t.val - 2) + r.val) :
    iblk m c 0 t (ix2 r k) = actsOf m c (ix2 n k) := by
  blk_simp [iblk]
  rw [V_main_arg0]
  refine congrArg (actsOf m c) ?_
  blk_ext [index_0]

/-- The first three points have the same rows. -/
theorem rows_same (c : Dev nD) (t t' : Fin cfg0.N) (h : t.val - 2 = t'.val - 2) : iblk m c 0 t = iblk m c 0 t' := by
  funext y
  obtain ⟨r, k, rfl⟩ : ∃ (r : Fin 1056) (k : Fin 2048), y = ix2 r k := ⟨y 0, y 1, by idx_vars y⟩
  have ht := points_lt t
  rw [block_acts m c t r k ⟨1056 * (t.val - 2) + r.val, by omega⟩ rfl,
    block_acts m c t' r k ⟨1056 * (t.val - 2) + r.val, by omega⟩ (by show 1056 * (t.val - 2) + r.val = _; rw [h])]

/-- The kept weights once the first `n` thirds are loaded. -/
def ThirdsIn (c : Dev nD) (n : ℕ) (d : Vec F S2048x2304 .bf16) : Prop :=
  ∀ (j : Fin 3) (k : Fin 2048) (q : Fin 768) (q' : Fin 2304), j.val < n → q'.val = 768 * j.val + q.val →
    d (ix2 k q') = k0_pay1 (iblk m c 1 (loader j)) (ix2 k q)

/-- What is known of the output block after one of the first three points: the columns of the thirds loaded so far. -/
def ColumnsIn (c : Dev nD) (t : Fin cfg0.N) (X : Vec F S1056x2304 .bf16) : Prop :=
  ∀ (j p : Fin 3) (r : Fin 352) (q : Fin 768) (r' : Fin 1056) (q' : Fin 2304), j.val ≤ t.val → r'.val = 352 * p.val + r.val →
    q'.val = 768 * j.val + q.val →
    X (ix2 r' q') = k0_pay2 (part p (iblk m c 0 t)) (k0_pay1 (iblk m c 1 (loader j))) (ix2 r q)

/-- What is known of the output block after a later point: it is computed from kept weights that are complete. -/
def BlockIn (c : Dev nD) (t : Fin cfg0.N) (X : Vec F S1056x2304 .bf16) : Prop :=
  ∃ d, ThirdsIn m c 3 d ∧ ∀ (p : Fin 3) (r : Fin 352) (q : Fin 2304) (r' : Fin 1056), r'.val = 352 * p.val + r.val →
    X (ix2 r' q) = k0_pay13 (part p (iblk m c 0 t)) d (ix2 r q)

/-- What is known of the output block after point `t`. -/
def OutputIn (c : Dev nD) (t : Fin cfg0.N) (X : Vec F S1056x2304 .bf16) : Prop :=
  (t.val < 3 → ColumnsIn m c t X) ∧ (3 ≤ t.val → BlockIn m c t X)

/-- Loading a third keeps the thirds before it. -/
theorem thirds_step (c : Dev nD) (j : Fin 3) (d : Vec F S2048x2304 .bf16) (h : ThirdsIn m c j.val d) :
    ThirdsIn m c (j.val + 1) (keptAfter j (iblk m c 1 (loader j)) d) := by
  intro j' k q q' hj hq
  have hql := q.isLt
  by_cases e : j' = j
  · subst e
    exact put_inside d 0 (768 * j'.val) 2048 768 (k0_pay1 (iblk m c 1 (loader j'))) k q k q' (Nat.zero_add _).symm hq
  · have hlt : j'.val < j.val := by have : j'.val ≠ j.val := fun h => e (Fin.ext h); omega
    exact (put_other_col d 0 (768 * j.val) 2048 768 (k0_pay1 (iblk m c 1 (loader j))) k q' (Or.inl (by omega))).trans
      (h j' k q q' hlt hq)

/-- From the third load on the kept weights stay complete. -/
theorem thirds_full (c : Dev nD) (n : ℕ) (hn : 3 ≤ n) (d : Vec F S2048x2304 .bf16) : ThirdsIn m c n d ↔ ThirdsIn m c 3 d :=
  ⟨fun h j k q q' hj => h j k q q' (by omega), fun h j k q q' hj => h j k q q' j.isLt⟩

/-- Computing a third's columns keeps those of the thirds before it. -/
theorem columns_step (c : Dev nD) (j : Fin 3) (t : Fin cfg0.N) (ht : t = loader j) (Y : Vec F S1056x2304 .bf16)
    (hY : j.val ≠ 0 → ∃ h, ColumnsIn m c ⟨t.val - 1, h⟩ Y) :
    OutputIn m c t (columnsAfter j (iblk m c 0 t) (iblk m c 1 (loader j)) Y) := by
  have htj : t.val = j.val := congrArg Fin.val ht
  have hj3 := j.isLt
  refine ⟨fun _ => ?_, fun h => absurd h (by omega)⟩
  intro j' p r q r' q' hj hr hq
  have hql := q.isLt
  by_cases e : j' = j
  · subst e
    exact putParts_inside Y (768 * j'.val) 768 (fun p => k0_pay2 (part p (iblk m c 0 t)) (k0_pay1 (iblk m c 1 (loader j')))) p r q r' q' hr hq
  · have hlt : j'.val < j.val := by have : j'.val ≠ j.val := fun h => e (Fin.ext h); omega
    obtain ⟨hl, hC⟩ := hY (by omega)
    refine (putParts_outside Y (768 * j.val) 768 (fun p => k0_pay2 (part p (iblk m c 0 t)) (k0_pay1 (iblk m c 1 (loader j)))) r' q'
      (Or.inl (by omega))).trans ?_
    rw [hC j' p r q r' q' (by show j'.val ≤ t.val - 1; omega) hr hq, rows_same m c ⟨t.val - 1, hl⟩ t (by show t.val - 1 - 2 = t.val - 2; omega)]

/-- A later point computes the whole output block. -/
theorem block_step (c : Dev nD) (t : Fin cfg0.N) (ht : 3 ≤ t.val) (d : Vec F S2048x2304 .bf16) (hd : ThirdsIn m c 3 d)
    (Y : Vec F S1056x2304 .bf16) : OutputIn m c t (blockAfter (iblk m c 0 t) d Y) := by
  refine ⟨fun h => absurd h (by omega), fun _ => ⟨d, hd, fun p r q r' hr => ?_⟩⟩
  exact putParts_inside Y 0 2304 (fun p => k0_pay13 (part p (iblk m c 0 t)) d) p r q r' q hr (Nat.zero_add _).symm

/-! ## The proof data -/

/-- The kept weights at position `n`: the thirds loaded before it are in place. -/
def kept (c : Dev nD) (n : ℕ) (hn : n ≤ cfg0.N) : sProp 𝕄 :=
  iprop((∃ d, ⌜ThirdsIn m c n d⌝ ∗ owns (c : Thread nD τ) keptW fullShare d) ∗ ∃ r, prngReg c r)

/-- The region's own buffer at any contents. -/
theorem class_inv (c : Dev nD) : (Pipeline.ΦA spec0 c : sProp 𝕄)
    = iprop((∃ d, owns (c : Thread nD τ) keptW fullShare d) ∗ ∃ r, prngReg c r) := by
  unfold Pipeline.ΦA
  rw [scopedRest0_eq]
  simp only [keptW, owns_whole]
  try rfl

/-- The proof data of the region: inputs keep their blocks; the output block's contents are held to a statement below. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := kept m c t.val (Nat.le_of_lt_succ t.isLt)
  q _ := fullShare
  owed _ := 0

/-- The output window is the one held to a statement. -/
def held : Fin cfg0.W → Bool := fun w => w.val == 2

/-- The statement of the output window; of the others nothing. -/
def heldTo (c : Dev nD) (w : Fin cfg0.W) (t : Fin cfg0.N) (X : (cfg0.win w).block.Idx → Elt F (cfg0.win w).elt) : Prop :=
  match w, X with
  | ⟨2, _⟩, X => OutputIn m c t X
  | _, _ => True

/-- The arrays are what the region finds. -/
theorem data_A (c : Dev nD) (w : Fin cfg0.W) : (data m 0 c).A w = V m c (Pipeline.arrRef spec0 w) := by
  dsimp only [data]
/-- The activation window is left as found. -/
theorem left_0 (c : Dev nD) (t : Fin cfg0.N) : (data m 0 c).after 0 t = iblk m c 0 t := by dsimp only [data]
/-- The weight window is left as found. -/
theorem left_1 (c : Dev nD) (t : Fin cfg0.N) : (data m 0 c).after 1 t = iblk m c 1 t := by dsimp only [data]
/-- The body finds the activation block. -/
theorem found_0 (c : Dev nD) (t : Fin cfg0.N) (d) : (data m 0 c).before 0 t d = iblk m c 0 t :=
  before0_0_of m (data m 0 c) (data_A m c 0) (left_0 m c) t d
/-- The body finds the weight block. -/
theorem found_1 (c : Dev nD) (t : Fin cfg0.N) (d) : (data m 0 c).before 1 t d = iblk m c 1 t :=
  before0_1_of m (data m 0 c) (data_A m c 1) (left_1 m c) t d

/-- The output block is written back from the third point on. -/
theorem flush_2 : ∀ t : Fin cfg0.N, (cfg0.win 2).flush t = true ↔ 2 ≤ t.val := by decide +kernel

/-- At the second and third point the body finds in the output window the columns computed before. -/
theorem found_columns (c : Dev nD) (t : Fin cfg0.N) (h0 : t.val ≠ 0) (h3 : t.val < 3) (Y : Vec F S1056x2304 .bf16)
    (hY : ((data m 0 c).toRRel held (heldTo m c)).Finds 2 t Y) : ∃ hl, ColumnsIn m c ⟨t.val - 1, hl⟩ Y := by
  have hfetch : (cfg0.win 2).fetch t = false := rfl
  refine ⟨Nat.lt_of_le_of_lt (Nat.sub_le _ _) t.isLt, ?_⟩
  rcases (Pipeline.RDat.finds_of_pos _ hfetch h0 Y).mp hY with hf | hl
  · have e : 2 ≤ t.val - 1 := (flush_2 _).mp hf
    omega
  · exact ((data m 0 c).toRRel_leaves (w := 2) rfl hl).1 (by show t.val - 1 < 3; omega)

/-! ## The body at a point -/

/-- What the body is called with. -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ Y, ⌜((data m 0 c).toRRel held (heldTo m c)).Finds 2 t Y⌝ ∗ owns (c : Thread nD τ) (st0_2 t) fullShare Y))

/-- What it returns. -/
def post (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ (∃ X, ⌜heldTo m c 2 t X⌝ ∗ owns (c : Thread nD τ) (st0_2 t) fullShare X))

/-- The invariant at a point's start. -/
theorem kept_castSucc (c : Dev nD) (t : Fin cfg0.N) : (data m 0 c).Φ t.castSucc = kept m c t.val (Nat.le_of_lt t.isLt) := by
  dsimp only [data]; exact Pipeline.Dat.Φ_castSucc (kept m c) t

set_option maxHeartbeats 400000 in
/-- The body at a point. -/
theorem body_at (c : Dev nD) (t : Fin cfg0.N) :
    pre m c t ⊢ wp frame (wpE (defs₀ (F := F)) Variants.none c none) Set.univ (bodyAt0 t) (fun _ => post m c t) := by
  unfold pre post bodyAt0
  simp only [found_0, found_1]
  rw [show (data m 0 c).owesAt () t.succ = (data m 0 c).owesAt () t.castSucc from rfl, left_0, left_1]
  rw [show (data m 0 c).Φ t.succ = kept m c (t.val + 1) t.isLt from rfl, kept_castSucc m c t]
  unfold kept
  by_cases h : t.val < 3
  · obtain ⟨j, rfl⟩ : ∃ j : Fin 3, t = loader j := ⟨⟨t.val, h⟩, rfl⟩
    iintro ⟨⟨⟨%d, %hd, HS⟩, Hg⟩, Ho, ⟨%d0, H0⟩, ⟨%d1, H1⟩, ⟨%Y, %hY, H2⟩⟩
    iapply (run_columns j c (grid0.coords (loader j)) _ _ _ _ _ _ _ _ (coord_of_point (loader j)) (iblk m c 0 (loader j)) (iblk m c 1 (loader j)) Y d Set.univ)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr
        swap; · iexact HS
        ipureintro
        exact thirds_step m c j d hd
      iexact Hg
    isplitl [Ho]; · iexact Ho
    isplitl [H0]; · iexact H0
    isplitl [H1]; · iexact H1
    iexists _; isplitr
    swap; · iexact H2
    ipureintro
    exact columns_step m c j (loader j) rfl Y fun h0 => found_columns m c (loader j) h0 h Y hY
  · have h3 : 3 ≤ t.val := Nat.le_of_not_lt h
    iintro ⟨⟨⟨%d, %hd, HS⟩, Hg⟩, Ho, ⟨%d0, H0⟩, ⟨%d1, H1⟩, ⟨%Y, %hY, H2⟩⟩
    iapply (run_block c (grid0.coords t) _ _ _ _ _ _ _ _ (by rw [coord_of_point]; exact h3) (iblk m c 0 t) (iblk m c 1 t) Y d Set.univ)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr
        swap; · iexact HS
        ipureintro
        exact (thirds_full m c (t.val + 1) (by omega) d).mpr ((thirds_full m c t.val h3 d).mp hd)
      iexact Hg
    isplitl [Ho]; · iexact Ho
    isplitl [H0]; · iexact H0
    isplitl [H1]; · iexact H1
    iexists _; isplitr
    swap; · iexact H2
    ipureintro
    exact block_step m c t h3 d ((thirds_full m c t.val h3 d).mp hd) Y

/-- The body table's row at a point is the body. -/
theorem row_at (t : Fin cfg0.N) : defs₀ (F := F) .tc cfg0.body (cfg0.bodyArgs t (cfg0.slots t)) = bodyAt0 t := by
  unfold defs₀; rw [Defs.onTc_tc]

/-- The body obligation, the output window held to its statement. -/
theorem obligation (c : Dev nD) : BodyObligationRel (data (F := F) m 0 c) (defs₀ (F := F)) Variants.none () Set.univ held (heldTo m c) := fun t => by
  rw [bigSep_W0, bigSep_W0, row_at]
  exact triple_restated (body_at m c t) rfl .rfl fun _ => .rfl

/-- On entry to the launch nothing is said of the kept weights. -/
theorem enter (c : Dev nD) : Pipeline.ΦA spec0 c ⊢ (data m 0 c).Φ 0 := by
  rw [show (data m 0 c).Φ 0 = kept m c 0 (Nat.zero_le _) from rfl, class_inv]
  unfold kept
  iintro ⟨⟨%d, HS⟩, Hg⟩
  isplitl [HS]
  · iexists d; isplitr
    · ipureintro
      exact fun j k q q' hj => absurd hj (Nat.not_lt_zero _)
    iexact HS
  iexact Hg

/-- On leaving the launch what is known of the kept weights is forgotten. -/
theorem leave (c : Dev nD) : (data m 0 c).Φ (Fin.last cfg0.N) ⊢ Pipeline.ΦA spec0 c := by
  rw [show (data m 0 c).Φ (Fin.last cfg0.N) = kept m c (Fin.last cfg0.N).val (Nat.le_of_lt_succ (Fin.last cfg0.N).isLt) from rfl, class_inv]
  unfold kept
  iintro ⟨⟨%d, %hd, HS⟩, Hg⟩
  isplitl [HS]
  · iexists _; iexact HS
  iexact Hg

set_option backward.isDefEq.respectTransparency.types false in
/-- The launch: every run ends, the arrays hold what the write-backs put there, and every semaphore counter is zero. -/
theorem run_main : θ_run defs (onTc (τ := τ) (main (F := F))) (s₀ m ρ) (fun r =>
    Pipeline.RDat.FramePost (cfgs 0) (fun c => (data m 0 c).toRRel held (heldTo m c)) (V m) r ∧ r.2.sem = fun _ => 0) :=
  Pipeline.RDat.θ_run_frame_track (Q' := _) cfgs (0 : Fin 1) launch0 defs₀ Variants.none
    (fun c => (data m 0 c).toRRel held (heldTo m c)) m ρ main
    (hbody := fun c => (obligation m c).toRRel) (hshare := fun _ w => by fin_cases w <;> rfl)
    (howed := fun _ _ => rfl) (V := V m) (hmain := hmain m Variants.none) (hA := data_A m) (hin := enter m) (hout := leave m)

end Cert.Kernel3Ideal.Attn
-- ==== Proof.AttnProj.lean ====
module

public import proofs.«01_k».proof.Proof.AttnLaunch
public import proofs.«01_k».proof.Proof.Gen.Reference3Ideal.Run
public import Idealize.ShloMosaic.Lib.Claim

/-!
The attention layers' projection to values and gate: the frame of its run, and over the extended reals the array after the
launch, which is the product of the activations and the right half of the first layer's weights, and so is the reference's result.
-/

@[expose] public section

set_option maxRecDepth 16384

noncomputable section

namespace Cert.Kernel3Ideal.Attn

open Cert.Kernel3Ideal Cert.Kernel3Ideal.Gen
open Idealize.ShloMosaic Idealize.ShloMosaic.TcCoe Idealize.ShloMosaic.Tactic
open Idealize.SL Idealize.SL.RA Idealize.SL.BI Idealize.SL.Sem

/-! ## The arguments and the counters -/

section Frame

variable {F : FTy → Type} [FloatOps F]
variable (m : (ℓ : Loc nD τ sig) → Buf (Elt F) ℓ) (ρ : Dev nD → PrngReg)

/-- What a run's end says of the two arguments: they are unchanged. -/
theorem arguments_kept (r : PUnit × MemSt nD τ sig (Elt F))
    (h : Pipeline.RDat.FramePost (cfgs 0) (fun c => (data m 0 c).toRRel held (heldTo m c)) (V m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨(h.arr_in c 0 rfl).trans ((data_A m c 0).trans (V_main_arg0 m c)),
    (h.arr_in c 1 rfl).trans ((data_A m c 1).trans (V_main_arg1 m c))⟩

/-- Every run ends with the arguments unchanged and every semaphore counter at zero. -/
theorem run_frame : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨arguments_kept m r h.1, h.2⟩) (run_main m ρ)

end Frame

/-! ## The values -/

variable (m : (ℓ : Loc nD τ sig) → Buf (Elt Ideal) ℓ) (ρ : Dev nD → PrngReg) (c : Dev nD)

/-- The weights of the two attention layers at launch. -/
abbrev weightsOf : Vec Ideal S2x2048x4608 .f32 := m ((c : Thread nD τ).loc main_arg1)

/-- The projection of the arguments: columns 2304 and on of the first layer's weights. -/
def projOf : Vec Ideal S8448x2304 .bf16 := fun y => ∑ x : Fin 2048, actsOf m c (ix2 (y 0) x)
  * weightsOf m c (ix3 0 x (⟨2304 + (y 1).val, by have h1 : (y 1).val < 2304 := (y 1).isLt; omega⟩ : Fin 4608))

/-- The block that the weight window takes at each point. -/
theorem index_1 : ∀ t : Fin grid0.N, win0_1.index t = ![0, 0, 3 + min t.val 2] := by decide +kernel
/-- The block that the output window takes at each point. -/
theorem index_2 : ∀ t : Fin grid0.N, win0_2.index t = ![t.val - 2, 0] := by decide +kernel

/-- An entry of a part's product with a third of the weights. -/
theorem third_product (a : Vec Ideal S352x2048 .bf16) (W : Vec Ideal S2048x768 .bf16) (r : Fin 352) (q : Fin 768) :
    k0_pay2 a W (ix2 r q) = ∑ x : Fin 2048, a (ix2 r x) * W (ix2 x q) := by
  pointwise [k0_pay2]

/-- An entry of a part's product with all the kept weights. -/
theorem full_product (a : Vec Ideal S352x2048 .bf16) (W : Vec Ideal S2048x2304 .bf16) (r : Fin 352) (q : Fin 2304) :
    k0_pay13 a W (ix2 r q) = ∑ x : Fin 2048, a (ix2 r x) * W (ix2 x q) := by
  pointwise [k0_pay13]

/-- A part of a point's activation block, entry by entry. -/
theorem part_acts (t : Fin cfg0.N) (p : Fin 3) (r : Fin 352) (k : Fin 2048) (n : Fin 8448)
    (hn : n.val = 1056 * (t.val - 2) + (352 * p.val + r.val)) : part p (iblk m c 0 t) (ix2 r k) = actsOf m c (ix2 n k) :=
  block_acts m c t _ k n hn

/-- The rounded weights of a third, entry by entry. -/
theorem third_weights (j : Fin 3) (k : Fin 2048) (q : Fin 768) (n : Fin 4608) (hn : n.val = 2304 + (768 * j.val + q.val)) :
    k0_pay1 (iblk m c 1 (loader j)) (ix2 k q) = weightsOf m c (ix3 0 k n) := by
  have hj := j.isLt
  have hmin : min (loader j).val 2 = j.val := by show min j.val 2 = j.val; omega
  pointwise [k0_pay1]
  blk_simp [iblk]
  rw [V_main_arg1]
  refine congrArg (weightsOf m c) ?_
  blk_ext [index_1]

/-- Kept weights that are complete, entry by entry. -/
theorem kept_weights (d : Vec Ideal S2048x2304 .bf16) (hd : ThirdsIn m c 3 d) (k : Fin 2048) (q : Fin 2304) (n : Fin 4608)
    (hn : n.val = 2304 + q.val) : d (ix2 k q) = weightsOf m c (ix3 0 k n) := by
  have hq := q.isLt
  have e : q.val = 768 * (q.val / 768) + q.val % 768 := (Nat.div_add_mod _ _).symm
  rw [hd ⟨q.val / 768, by omega⟩ k ⟨q.val % 768, Nat.mod_lt _ (by decide)⟩ q (by show q.val / 768 < 3; omega) e]
  exact third_weights m c _ k _ n (by rw [hn]; exact congrArg (2304 + ·) e)

/-- Every output block that is written back holds the projection's rows. -/
theorem output_at (t : Fin cfg0.N) (h2 : 2 ≤ t.val) (X : Vec Ideal S1056x2304 .bf16) (hX : OutputIn m c t X) (r : Fin 1056)
    (q : Fin 2304) (n : Fin 8448) (hn : n.val = 1056 * (t.val - 2) + r.val) : X (ix2 r q) = projOf m c (ix2 n q) := by
  have hr := r.isLt
  have hq := q.isLt
  have er : r.val = 352 * (r.val / 352) + r.val % 352 := (Nat.div_add_mod _ _).symm
  have eq : q.val = 768 * (q.val / 768) + q.val % 768 := (Nat.div_add_mod _ _).symm
  unfold projOf
  by_cases h3 : t.val < 3
  · rw [hX.1 h3 ⟨q.val / 768, by omega⟩ ⟨r.val / 352, by omega⟩ ⟨r.val % 352, Nat.mod_lt _ (by decide)⟩
      ⟨q.val % 768, Nat.mod_lt _ (by decide)⟩ r q (by show q.val / 768 ≤ t.val; omega) er eq, third_product]
    exact Finset.sum_congr rfl fun x _ => congrArg₂ (fun a b : EReal => a * b)
      (part_acts m c t _ _ x n (by rw [hn]; exact congrArg (1056 * (t.val - 2) + ·) er))
      (third_weights m c _ x _ _ (congrArg (2304 + ·) eq))
  · obtain ⟨d, hd, hB⟩ := hX.2 (by omega)
    rw [hB ⟨r.val / 352, by omega⟩ ⟨r.val % 352, Nat.mod_lt _ (by decide)⟩ q r er, full_product]
    exact Finset.sum_congr rfl fun x _ => congrArg₂ (fun a b : EReal => a * b)
      (part_acts m c t _ _ x n (by rw [hn]; exact congrArg (1056 * (t.val - 2) + ·) er)) (kept_weights m c d hd x q _ rfl)

/-- The data with the contents the body left at each write-back named. -/
abbrev namedData (after : (w : Fin cfg0.W) → Fin cfg0.N → (cfg0.win w).block.Idx → Elt Ideal (cfg0.win w).elt) :=
  ((data m 0 c).toRRel held (heldTo m c)).withAfter after

/-- The array after a run is the projection. -/
theorem array_2 (after) (hL : ∀ u, (cfg0.win 2).flush u = true → ((data m 0 c).toRRel held (heldTo m c)).Leaves 2 u (after 2 u)) :
    (namedData m c after).arrAt 2 cfg0.N = projOf m c := by
  refine (namedData m c after).arrAt_eq_of_covers 2 (projOf m c) (by decide +kernel) fun t hf y => ?_
  have h2 : 2 ≤ t.val := (flush_2 t).mp hf
  have hX : OutputIn m c t (after 2 t) := (data m 0 c).toRRel_leaves (w := 2) rfl (hL t hf)
  rw [Pipeline.RDat.withAfter_after]
  blk_simp
  obtain ⟨r, q, rfl⟩ : ∃ (r : Fin 1056) (q : Fin 2304), y = ix2 r q := ⟨y 0, y 1, by idx_vars y⟩
  have ht := points_lt t
  have hr := r.isLt
  refine Eq.trans (output_at m c t h2 _ hX r q ⟨1056 * (t.val - 2) + r.val, by omega⟩ rfl) ?_
  refine congrArg (projOf m c) ?_
  blk_ext [index_2]

/-- Every run ends with the result at the projection and the arguments unchanged. -/
theorem run_values : θ_run defs (onTc (τ := τ) (main (F := Ideal))) (s₀ m ρ) (fun r => ∀ c : Dev nD,
    r.2.mem ((c : Thread nD τ).loc main_v0) = projOf m c
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun r h c => by
    obtain ⟨after, hL, hA⟩ := h.1.exists_exact c
    exact ⟨(hA 2).trans (array_2 m c after (hL 2)), arguments_kept m r h.1 c⟩) (run_main m ρ)

end Cert.Kernel3Ideal.Attn

namespace Cert.Reference3Ideal.Attn

open Cert.Reference3Ideal Cert.Reference3Ideal.Gen
open Idealize.ShloMosaic Idealize.ShloMosaic.TcCoe Idealize.ShloMosaic.Tactic

/-- The reference's product with the first layer's weights. -/
def projected (h : FVec Ideal S8448x2048 .bf16) (w : FVec Ideal S2x2048x4608 .f32) : FVec Ideal S8448x4608 .f32 :=
  Host.dotGeneral (F := Ideal) dot_S8448x2048_S2048x4608_S8448x4608_1_0_0_1_n_n none (extf .f32 h bitsLt_bf16_f32)
    (shapeCast _ (extractStridedSlice S1x2048x4608 ![0, 0, 0] w slices_S2x2048x4608_S1x2048x4608_0_0_0) shapeCasts_S1x2048x4608_S2048x4608)

/-- An entry of that product. -/
theorem projected_at (h : FVec Ideal S8448x2048 .bf16) (w : FVec Ideal S2x2048x4608 .f32) (n : Fin 8448) (q : Fin 4608) :
    projected h w (ix2 n q) = ∑ x : Fin 2048, h (ix2 n x) * w (ix3 0 x q) := by
  pointwise [projected]

/-- The values and the gate side by side are the right half of the product. -/
theorem joined_at (P : FVec Ideal S8448x4608 .f32) (n : Fin 8448) (q : Fin 2304) (q' : Fin 4608) (hq : q'.val = 2304 + q.val) :
    truncf .bf16 (concatenate S8448x2304 1 [⟨S8448x256, extractStridedSlice S8448x256 ![0, 2304] P slices_S8448x4608_S8448x256_0_2304⟩,
      ⟨S8448x2048, extractStridedSlice S8448x2048 ![0, 2560] P slices_S8448x4608_S8448x2048_0_2560⟩]
      concatenates_S8448x256_S8448x2048_S8448x2304_d1) bitsLt_bf16_f32 (ix2 n q) = P (ix2 n q') := by
  pointwise
  split
  · exact congrArg P (congrArg (ix2 n) (Fin.ext hq.symm))
  · exact congrArg P (congrArg (ix2 n) (Fin.ext (by show 2560 + (q.val - 256) = q'.val; omega)))

end Cert.Reference3Ideal.Attn
-- ==== Proof.OutProj.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Geometry
public import Idealize.ShloMosaic.Lib.WholeRead
public import Idealize.ShloMosaic.Lib.VecWindow

/-!
The output projection with its residual add and norm: both arrays after the launch, entry by entry in terms of the
arguments, and the reference's two results.
-/

@[expose] public section

set_option maxRecDepth 16384

noncomputable section

namespace Cert.Kernel4Ideal.OutProj

open Cert.Kernel4Ideal Cert.Kernel4Ideal.Gen
open Idealize.ShloMosaic Idealize.ShloMosaic.TcCoe Idealize.ShloMosaic.Tactic Idealize.SL.Sem

/-- An entry of a row scaled by the root of its mean square and a gain. -/
def scaled (row : Fin 2048 → EReal) (g : EReal) (j : Fin 2048) : EReal :=
  row j * Ideal.rsqrt (Ideal.div (∑ x, row x * row x) (Ideal.ofBits .f32 0x45000000#32) + Ideal.ofBits .f32 0x358637BD#32) * g

/-- The sum of a residual block and a product, entry by entry. -/
theorem sum_entry (x : Vec Ideal S384x2048 .f32) (a : Vec Ideal S384x2048 .bf16) (W : Vec Ideal S2048x2048 .bf16) (r : Fin 384) (j : Fin 2048) :
    k0_pay2 x a W (ix2 r j) = x (ix2 r j) + ∑ k : Fin 2048, a (ix2 r k) * W (ix2 k j) := by
  pointwise [k0_pay2]

/-- The norm of that sum, entry by entry. -/
theorem norm_entry (x : Vec Ideal S384x2048 .f32) (a : Vec Ideal S384x2048 .bf16) (W : Vec Ideal S2048x2048 .bf16) (g : Vec Ideal S1x2048 .f32)
    (r : Fin 384) (j : Fin 2048) : k0_pay3 x a W g (ix2 r j) = scaled (fun k => k0_pay2 x a W (ix2 r k)) (g (ix2 0 j)) j := by
  unfold scaled
  pointwise [k0_pay3]

/-- The load of a whole memref gives its contents. -/
theorem load_whole {s : Shape} {e : EltTy} (m : Memref sig .tc .vmem s e) (hm : m.IsWhole) {off : Fin s.rank → ℕ}
    (h : ∀ a, off a + s.size a ≤ s.size a) (x : Vec Ideal s e) :
    View.readAt (Elt Ideal) m.view (Rect.unit off s.size h).toLoadRect (hm.unread x) = x := by
  rw [View.readAt_full]
  exact hm.read_unread x

/-- The weights' buffer after the first point's store holds the rounded weights. -/
theorem stored_weights (c : Dev nD) (a2 : Memref sig .tc .vmem S1x2048x2048 .f32) (h2 : a2.IsWhole)
    (V : View sig .tc .vmem S2048x2048 .bf16) (f : V.ty.Contents (Elt Ideal)) (x1 : Vec Ideal S1x2048x2048 .f32) :
    V.read (Elt Ideal) (V.writes (Elt Ideal) f (kernelRun0_A.sl.HS0_1 c a2 h2 x1)) = k0_pay1 x1 := by
  unfold kernelRun0_A.sl.HS0_1
  rw [load_whole a2 h2, View.read_writes_full]

/-- The load of the buffer after that store gives the rounded weights. -/
theorem loaded_weights (c : Dev nD) (a2 : Memref sig .tc .vmem S1x2048x2048 .f32) (h2 : a2.IsWhole)
    (a7 : Memref sig .tc .vmem S2048x2048 .bf16) (x1 : Vec Ideal S1x2048x2048 .f32) :
    kernelRun0_A.sl.v5 c a2 h2 a7 x1 = k0_pay1 x1 := by
  unfold kernelRun0_A.sl.v5 kernelRun0_A.sl.HS0_1
  rw [load_whole a2 h2, View.readCov_full]

section Body

variable (c : Dev nD) (i : grid0.Coords) (a1 : Memref sig .tc .vmem S384x2048 .bf16) (h1 : a1.IsWhole)
  (a2 : Memref sig .tc .vmem S1x2048x2048 .f32) (h2 : a2.IsWhole) (a3 : Memref sig .tc .vmem S384x2048 .f32) (h3 : a3.IsWhole)
  (a4 : Memref sig .tc .vmem S1x2048 .f32) (h4 : a4.IsWhole) (a5 : Memref sig .tc .vmem S384x2048 .f32) (h5 : a5.IsWhole)
  (a6 : Memref sig .tc .vmem S384x2048 .bf16) (h6 : a6.IsWhole) (a7 : Memref sig .tc .vmem S2048x2048 .bf16) (h7 : a7.IsWhole)
  (x0 : Vec Ideal S384x2048 .bf16) (x1 : Vec Ideal S1x2048x2048 .f32) (x2 : Vec Ideal S384x2048 .f32) (x3 : Vec Ideal S1x2048 .f32)
  (W : Vec Ideal S2048x2048 .bf16)

/-- The sum block at a later point. -/
theorem later_sum (hc : ¬cond0_0 i) :
    out0_B_4 c i a1 h1 a2 h2 a3 h3 a4 h4 a5 h5 a6 h6 a7 h7 hc x0 x1 x2 x3 W = k0_pay2 x2 x0 W := by
  unfold out0_B_4
  dsimp only [kernelRun0_B]
  rw [load_whole a1 h1, load_whole a3 h3, load_whole a7 h7, View.read_writes_full]

/-- The normed block at a later point. -/
theorem later_norm (hc : ¬cond0_0 i) :
    out0_B_5 c i a1 h1 a2 h2 a3 h3 a4 h4 a5 h5 a6 h6 a7 h7 hc x0 x1 x2 x3 W = k0_pay3 x2 x0 W x3 := by
  unfold out0_B_5
  dsimp only [kernelRun0_B]
  rw [load_whole a1 h1, load_whole a3 h3, load_whole a7 h7, load_whole a4 h4, View.read_writes_full]

/-- The sum block at the first point. -/
theorem first_sum (hc : cond0_0 i) :
    out0_A_4 c i a1 h1 a2 h2 a3 h3 a4 h4 a5 h5 a6 h6 a7 h7 hc x0 x1 x2 x3 = k0_pay2 x2 x0 (k0_pay1 x1) := by
  unfold out0_A_4
  dsimp only [kernelRun0_A]
  rw [load_whole a1 h1, load_whole a3 h3, loaded_weights, View.read_writes_full]

/-- The normed block at the first point. -/
theorem first_norm (hc : cond0_0 i) :
    out0_A_5 c i a1 h1 a2 h2 a3 h3 a4 h4 a5 h5 a6 h6 a7 h7 hc x0 x1 x2 x3 = k0_pay3 x2 x0 (k0_pay1 x1) x3 := by
  unfold out0_A_5
  dsimp only [kernelRun0_A]
  rw [load_whole a1 h1, load_whole a3 h3, loaded_weights, load_whole a4 h4, View.read_writes_full]

/-- The weights' buffer after the first point. -/
theorem first_buffer (hc : cond0_0 i) :
    sout0_A_0 c i a1 h1 a2 h2 a3 h3 a4 h4 a5 h5 a6 h6 a7 h7 hc x0 x1 x2 x3 = k0_pay1 x1 := by
  unfold sout0_A_0
  dsimp only [kernelRun0_A]
  exact stored_weights c a2 h2 _ _ x1

end Body

variable (m : (ℓ : Loc nD τ sig) → Buf (Elt Ideal) ℓ) (ρ : Dev nD → PrngReg) (c : Dev nD)

/-- The gated branch, as an array. -/
abbrev actsOf : Vec Ideal S8448x2048 .bf16 := m ((c : Thread nD τ).loc main_arg0)

/-- The weights, as an array. -/
abbrev weightsOf : Vec Ideal S1x2048x2048 .f32 := m ((c : Thread nD τ).loc main_arg1)

/-- The residual, as an array. -/
abbrev residualOf : Vec Ideal S8448x2048 .f32 := m ((c : Thread nD τ).loc main_arg2)

/-- The norm's gain, as an array. -/
abbrev gainOf : Vec Ideal S2048 .f32 := m ((c : Thread nD τ).loc main_arg3)

/-- An entry of the residual plus the projection. -/
def sumAt (n : Fin 8448) (j : Fin 2048) : EReal :=
  residualOf m c (ix2 n j) + ∑ x : Fin 2048, actsOf m c (ix2 n x) * weightsOf m c (ix3 0 x j)

/-- The residual plus the projection of the arguments. -/
def sumOf : Vec Ideal S8448x2048 .f32 := fun y => sumAt m c (y 0) (y 1)

/-- Its rows, normed. -/
def normOf : Vec Ideal S8448x2048 .bf16 := fun y => scaled (sumAt m c (y 0)) (gainOf m c (ix1 (y 1))) (y 1)

/-- The block that this window takes at each point. -/
theorem index_0 : ∀ t : Fin grid0.N, win0_0.index t = ![t.val, 0] := by decide +kernel
/-- The block that this window takes at each point. -/
theorem index_1 : ∀ t : Fin grid0.N, win0_1.index t = ![0, 0, 0] := by decide +kernel
/-- The block that this window takes at each point. -/
theorem index_2 : ∀ t : Fin grid0.N, win0_2.index t = ![t.val, 0] := by decide +kernel
/-- The block that this window takes at each point. -/
theorem index_3 : ∀ t : Fin grid0.N, win0_3.index t = ![0, 0] := by decide +kernel
/-- The block that this window takes at each point. -/
theorem index_4 : ∀ t : Fin grid0.N, win0_4.index t = ![t.val, 0] := by decide +kernel
/-- The block that this window takes at each point. -/
theorem index_5 : ∀ t : Fin grid0.N, win0_5.index t = ![t.val, 0] := by decide +kernel

/-- The gain as the launch finds it: one row. -/
theorem prepared_gain (j : Fin 2048) : (V m c main_v0 : Vec Ideal S1x2048 .f32) (ix2 0 j) = gainOf m c (ix1 j) := by
  unfold V
  simp only [hostOps0]
  entry_read
  pointwise

/-- The block of the gated branch at a point, entry by entry. -/
theorem block_acts (t : Fin cfg0.N) (r : Fin 384) (k : Fin 2048) (n : Fin 8448) (hn : n.val = 384 * t.val + r.val) :
    iblk m c 0 t (ix2 r k) = actsOf m c (ix2 n k) := by
  blk_simp [iblk]
  rw [V_main_arg0]
  refine congrArg (actsOf m c) ?_
  blk_ext [index_0]

/-- The rounded weights at a point, entry by entry. -/
theorem block_weights (t : Fin cfg0.N) (k j : Fin 2048) : k0_pay1 (iblk m c 1 t) (ix2 k j) = weightsOf m c (ix3 0 k j) := by
  pointwise [k0_pay1]
  blk_simp [iblk]
  rw [V_main_arg1]
  refine congrArg (weightsOf m c) ?_
  blk_ext [index_1]

/-- The block of the residual at a point, entry by entry. -/
theorem block_residual (t : Fin cfg0.N) (r : Fin 384) (k : Fin 2048) (n : Fin 8448) (hn : n.val = 384 * t.val + r.val) :
    iblk m c 2 t (ix2 r k) = residualOf m c (ix2 n k) := by
  blk_simp [iblk]
  rw [V_main_arg2]
  refine congrArg (residualOf m c) ?_
  blk_ext [index_2]

/-- The gain's block at a point, entry by entry. -/
theorem block_gain (t : Fin cfg0.N) (j : Fin 2048) : iblk m c 3 t (ix2 0 j) = gainOf m c (ix1 j) := by
  rw [← prepared_gain]
  blk_simp [iblk]
  refine congrArg (V m c main_v0) ?_
  blk_ext [index_3]

/-- The weights' buffer after any point, entry by entry. -/
theorem buffer_at (n : ℕ) (hn : n < cfg0.N) (k j : Fin 2048) : (outsAt0 m c n hn).2.2 (ix2 k j) = weightsOf m c (ix3 0 k j) := by
  have hN : cfg0.N = 22 := N_0
  induction n with
  | zero =>
    rw [outsAt0_A m c ⟨0, hn⟩ rfl]
    dsimp only
    rw [first_buffer]
    exact block_weights m c ⟨0, hn⟩ k j
  | succ n ih =>
    rw [outsAt0_B m c ⟨n + 1, hn⟩ (by show ¬(n + 1) % 22 = 0; omega)]
    dsimp only
    unfold sout0_B_0
    exact ih (Nat.lt_of_succ_lt hn)

/-- The sum of a point's blocks, entry by entry. -/
theorem sum_at (t : Fin cfg0.N) (W : Vec Ideal S2048x2048 .bf16) (hW : ∀ k j : Fin 2048, W (ix2 k j) = weightsOf m c (ix3 0 k j))
    (r : Fin 384) (j : Fin 2048) (n : Fin 8448) (hn : n.val = 384 * t.val + r.val) :
    k0_pay2 (iblk m c 2 t) (iblk m c 0 t) W (ix2 r j) = sumAt m c n j := by
  rw [sum_entry, block_residual m c t r j n hn]
  exact congrArg (residualOf m c (ix2 n j) + ·) (Finset.sum_congr rfl fun x _ =>
    congrArg₂ (fun a b : EReal => a * b) (block_acts m c t r x n hn) (hW x j))

/-- The normed sum of a point's blocks, entry by entry. -/
theorem norm_at (t : Fin cfg0.N) (W : Vec Ideal S2048x2048 .bf16) (hW : ∀ k j : Fin 2048, W (ix2 k j) = weightsOf m c (ix3 0 k j))
    (r : Fin 384) (j : Fin 2048) (n : Fin 8448) (hn : n.val = 384 * t.val + r.val) :
    k0_pay3 (iblk m c 2 t) (iblk m c 0 t) W (iblk m c 3 t) (ix2 r j) = scaled (sumAt m c n) (gainOf m c (ix1 j)) j := by
  rw [norm_entry, show (fun x => k0_pay2 (iblk m c 2 t) (iblk m c 0 t) W (ix2 r x)) = sumAt m c n from
    funext fun x => sum_at m c t W hW r x n hn]
  exact congrArg (fun g => scaled (sumAt m c n) g j) (block_gain m c t j)

/-- The sum block a point leaves. -/
theorem left_sum (t : Fin cfg0.N) (r : Fin 384) (j : Fin 2048) (n : Fin 8448) (hn : n.val = 384 * t.val + r.val) :
    (outsAt0 m c t.val t.isLt).1 (ix2 r j) = sumAt m c n j := by
  by_cases h0 : t.val % 22 = 0
  · rw [outsAt0_A m c t h0]
    dsimp only
    rw [first_sum]
    exact sum_at m c t _ (block_weights m c t) r j n hn
  · rw [outsAt0_B m c t h0]
    dsimp only
    rw [later_sum]
    exact sum_at m c t _ (buffer_at m c _ _) r j n hn

/-- The normed block a point leaves. -/
theorem left_norm (t : Fin cfg0.N) (r : Fin 384) (j : Fin 2048) (n : Fin 8448) (hn : n.val = 384 * t.val + r.val) :
    (outsAt0 m c t.val t.isLt).2.1 (ix2 r j) = scaled (sumAt m c n) (gainOf m c (ix1 j)) j := by
  by_cases h0 : t.val % 22 = 0
  · rw [outsAt0_A m c t h0]
    dsimp only
    rw [first_norm]
    exact norm_at m c t _ (block_weights m c t) r j n hn
  · rw [outsAt0_B m c t h0]
    dsimp only
    rw [later_norm]
    exact norm_at m c t _ (buffer_at m c _ _) r j n hn

/-- The first array after a run. -/
theorem array_4 : (dats m 0 c).arrAt 4 cfg0.N = sumOf m c := by
  refine (dats m 0 c).arrAt_eq_of_covers 4 (sumOf m c) (by decide +kernel) fun t hf y => ?_
  blk_simp
  rw [after0_4]
  obtain ⟨r, j, rfl⟩ : ∃ (r : Fin 384) (j : Fin 2048), y = ix2 r j := ⟨y 0, y 1, by idx_vars y⟩
  have ht : t.val < 22 := lt_of_lt_of_eq t.isLt N_0
  have hr := r.isLt
  refine Eq.trans (left_sum m c t r j ⟨384 * t.val + r.val, by omega⟩ rfl) ?_
  refine congrArg (sumOf m c) (a₁ := ix2 ⟨384 * t.val + r.val, by omega⟩ j) ?_
  blk_ext [index_4]

/-- The second array after a run. -/
theorem array_5 : (dats m 0 c).arrAt 5 cfg0.N = normOf m c := by
  refine (dats m 0 c).arrAt_eq_of_covers 5 (normOf m c) (by decide +kernel) fun t hf y => ?_
  blk_simp
  rw [after0_5]
  obtain ⟨r, j, rfl⟩ : ∃ (r : Fin 384) (j : Fin 2048), y = ix2 r j := ⟨y 0, y 1, by idx_vars y⟩
  have ht : t.val < 22 := lt_of_lt_of_eq t.isLt N_0
  have hr := r.isLt
  refine Eq.trans (left_norm m c t r j ⟨384 * t.val + r.val, by omega⟩ rfl) ?_
  refine congrArg (normOf m c) (a₁ := ix2 ⟨384 * t.val + r.val, by omega⟩ j) ?_
  blk_ext [index_5]

/-- Every run ends with the two results at the values above and the arguments unchanged. -/
theorem run_values : θ_run defs (onTc (τ := τ) (main (F := Ideal))) ⟨m, fun _ => 0, ρ⟩ (fun r => ∀ c : Dev nD,
    r.2.mem ((c : Thread nD τ).loc main_v1_0) = sumOf m c
    ∧ r.2.mem ((c : Thread nD τ).loc main_v1_1) = normOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => ⟨(h c).1.trans (array_4 m c), (h c).2.1.trans (array_5 m c), (h c).2.2⟩) (Value.run_blocks m ρ)

end Cert.Kernel4Ideal.OutProj

namespace Cert.Reference4Ideal.OutProj

open Cert.Reference4Ideal Cert.Reference4Ideal.Gen
open Idealize.ShloMosaic Idealize.ShloMosaic.TcCoe
open Cert.Kernel4Ideal.OutProj (scaled)

/-- The reference's residual plus projection. -/
def summed (g : FVec Ideal S8448x2048 .bf16) (w : FVec Ideal S1x2048x2048 .f32) (x : FVec Ideal S8448x2048 .f32) : FVec Ideal S8448x2048 .f32 :=
  addf x (Host.dotGeneral dot_S8448x2048_S2048x2048_S8448x2048_1_0_0_1_n_n none (extf .f32 g bitsLt_bf16_f32) (shapeCast _ w shapeCasts_S1x2048x2048_S2048x2048))

/-- The reference's norm of an array of rows. -/
def normed (p : FVec Ideal S8448x2048 .f32) (g : FVec Ideal S2048 .f32) : FVec Ideal S8448x2048 .bf16 :=
  truncf .bf16 (mulf (mulf p (broadcastInDim S8448x2048 ![0, 1] bcast_S8448x1_S8448x2048_0_1 (Host.rsqrt (addf (Host.divf (broadcastInDim S8448x1 ![0] bcast_S8448_S8448x1_0 (Host.reduceAdd (mulf p p) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x358637BD#32)))))) (broadcastInDim S8448x2048 ![0, 1] bcast_S1x2048_S8448x2048_0_1 (broadcastInDim S1x2048 ![1] bcast_S2048_S1x2048_1 g))) bitsLt_bf16_f32

/-- The reference's sum, entry by entry. -/
theorem summed_at (g : FVec Ideal S8448x2048 .bf16) (w : FVec Ideal S1x2048x2048 .f32) (x : FVec Ideal S8448x2048 .f32) (n : Fin 8448) (j : Fin 2048) :
    summed g w x (ix2 n j) = x (ix2 n j) + ∑ k : Fin 2048, g (ix2 n k) * w (ix3 0 k j) := by
  pointwise [summed]

/-- The reference's norm, entry by entry. -/
theorem normed_at (p : FVec Ideal S8448x2048 .f32) (g : FVec Ideal S2048 .f32) (n : Fin 8448) (j : Fin 2048) :
    normed p g (ix2 n j) = scaled (fun x => p (ix2 n x)) (g (ix1 j)) j := by
  unfold scaled
  pointwise [normed]

end Cert.Reference4Ideal.OutProj
-- ==== Proof.RopeTile.lean ====
module

public import proofs.«01_k».proof.Proof.Gen.Kernel5Ideal.Skeleton
public import proofs.«01_k».proof.Proof.Gen.Kernel5Ideal.Points
public import proofs.«01_k».proof.Proof.Gen.Kernel5Ideal.Frame
public import proofs.«01_k».proof.Proof.AttnRun

/-!
The attention layers' projection to queries and keys: its stores into the output block. Each store is a tile of 352 rows and 128
columns; within a run of the body the tiles go through `w` column chunks from chunk `b`, and then through the next part of the rows.
-/

@[expose] public section

set_option maxRecDepth 16384

noncomputable section

namespace Cert.Kernel5Ideal.Rope

open Cert.Kernel5Ideal Cert.Kernel5Ideal.Gen
open Cert.Kernel3Ideal.Attn (put_inside put_other_row put_other_col part load_part load_stored load_weights load_kept)
open Idealize.ShloMosaic Idealize.ShloMosaic.TcCoe Idealize.ShloMosaic.Tactic

variable {F : FTy → Type} [FloatOps F]

/-! ## The tiles -/

/-- The part of the rows that the `n`-th store goes to. -/
def partOf (w n : ℕ) : Fin 3 := ⟨n / w % 3, Nat.mod_lt _ (by decide)⟩

/-- The tiles stored lie inside the output block. -/
theorem tile_fits (b w n : ℕ) (hw : 0 < w) (hb : b + w ≤ 18) :
    ∀ i, (![352 * (partOf w n).val, 128 * (b + n % w)] : Fin 2 → ℕ) i + S352x128.size i ≤ S1056x2304.size i := by
  have h1 := (partOf w n).isLt
  have h2 := Nat.mod_lt n hw
  intro i
  fin_cases i
  · show 352 * (partOf w n).val + 352 ≤ 1056
    omega
  · show 128 * (b + n % w) + 128 ≤ 2304
    omega

/-- The first `N` stores, the latest first. -/
def pieces (b w : ℕ) (hw : 0 < w) (hb : b + w ≤ 18) (P : ℕ → FVec F S352x128 .bf16) : ℕ → List (View.Piece (Elt F) S1056x2304 .bf16)
  | 0 => []
  | n + 1 => ⟨Rect.unit (s := S1056x2304) ![352 * (partOf w n).val, 128 * (b + n % w)] S352x128.size (tile_fits b w n hw hb), P n⟩
      :: pieces b w hw hb P n

/-- The output block after the first `N` stores. -/
def putTiles (b w : ℕ) (P : ℕ → FVec F S352x128 .bf16) (y : Vec F S1056x2304 .bf16) : ℕ → Vec F S1056x2304 .bf16
  | 0 => y
  | n + 1 => VecWindow.put (s := S1056x2304) (putTiles b w P y n) ![352 * (partOf w n).val, 128 * (b + n % w)] S352x128.size (P n)

/-- What the stores leave is the block with the tiles put in. -/
theorem read_pieces {a : Memref sig .tc .vmem S1056x2304 .bf16} (h : a.IsWhole) (y : Vec F S1056x2304 .bf16) (b w : ℕ) (hw : 0 < w)
    (hb : b + w ≤ 18) (P : ℕ → FVec F S352x128 .bf16) (N : ℕ) :
    View.read (Elt F) a.view (a.view.writes (Elt F) (h.unread y) (pieces b w hw hb P N)) = putTiles b w P y N := by
  induction N with
  | zero => exact (congrArg _ (View.writes_nil _ _)).trans (h.read_unread y)
  | succ n ih =>
    rw [pieces, View.read_writes_cons_put a.view _ (tile_fits b w n hw hb) _ _ rfl, ih]
    rfl

/-- A later store does not touch a tile. -/
theorem put_later (b w : ℕ) (P : ℕ → FVec F S352x128 .bf16) (y : Vec F S1056x2304 .bf16) (n : ℕ) (r : Fin 1056) (q : Fin 2304)
    (h : r.val / 352 ≠ (partOf w n).val ∨ q.val / 128 ≠ b + n % w) :
    putTiles b w P y (n + 1) (ix2 r q) = putTiles b w P y n (ix2 r q) := by
  rcases h with h | h
  · exact put_other_row (putTiles b w P y n) (352 * (partOf w n).val) (128 * (b + n % w)) 352 128 (P n) r q (by omega)
  · exact put_other_col (putTiles b w P y n) (352 * (partOf w n).val) (128 * (b + n % w)) 352 128 (P n) r q (by omega)

/-- After all stores a tile holds what was stored there. -/
theorem putTiles_inside (b w : ℕ) (hw : 0 < w) (P : ℕ → FVec F S352x128 .bf16) (y : Vec F S1056x2304 .bf16) (p k : ℕ) (hk : k < w)
    (N : ℕ) (hN : w * p + k < N) (hN3 : N ≤ w * 3) (r : Fin 352) (q : Fin 128) (r' : Fin 1056) (q' : Fin 2304)
    (hr : r'.val = 352 * p + r.val) (hq : q'.val = 128 * (b + k) + q.val) :
    putTiles b w P y N (ix2 r' q') = P (w * p + k) (ix2 r q) := by
  have hrl := r.isLt
  have hql := q.isLt
  induction N with
  | zero => exact absurd hN (Nat.not_lt_zero _)
  | succ n ih =>
    have hp3 : p < 3 := by
      have : w * p < w * 3 := by omega
      exact Nat.lt_of_mul_lt_mul_left this
    by_cases e : n = w * p + k
    · subst e
      have e1 : (w * p + k) % w = k := by rw [Nat.mul_add_mod, Nat.mod_eq_of_lt hk]
      have e2 : (w * p + k) / w = p := by rw [Nat.mul_add_div hw, Nat.div_eq_of_lt hk, Nat.add_zero]
      have e3 : (partOf w (w * p + k)).val = p := by show (w * p + k) / w % 3 = p; rw [e2, Nat.mod_eq_of_lt hp3]
      exact put_inside (putTiles b w P y (w * p + k)) (352 * (partOf w (w * p + k)).val) (128 * (b + (w * p + k) % w)) 352 128
        (P (w * p + k)) r q r' q' (by rw [e3]; exact hr) (by rw [e1]; exact hq)
    · refine (put_later b w P y n r' q' ?_).trans (ih (by omega) (by omega))
      by_contra hc
      obtain ⟨c1, c2⟩ := not_or.mp hc
      rw [not_not] at c1 c2
      have d1 : r'.val / 352 = p := by omega
      have d2 : q'.val / 128 = b + k := by omega
      have hn3 : n / w < 3 := (Nat.div_lt_iff_lt_mul hw).mpr (by rw [Nat.mul_comm]; omega)
      have c1' : r'.val / 352 = n / w % 3 := c1
      rw [d1, Nat.mod_eq_of_lt hn3] at c1'
      have hk' : k = n % w := by omega
      exact e (by rw [c1', hk']; exact (Nat.div_add_mod n w).symm)

/-- Columns of other chunks are unchanged. -/
theorem putTiles_outside (b w : ℕ) (hw : 0 < w) (P : ℕ → FVec F S352x128 .bf16) (y : Vec F S1056x2304 .bf16) (N : ℕ) (r : Fin 1056)
    (q : Fin 2304) (h : q.val < 128 * b ∨ 128 * (b + w) ≤ q.val) : putTiles b w P y N (ix2 r q) = y (ix2 r q) := by
  induction N with
  | zero => rfl
  | succ n ih =>
    have := Nat.mod_lt n hw
    exact (put_later b w P y n r q (Or.inr (by omega))).trans ih

/-! ## The values stored -/

/-- The rotary embedding of a chunk of 128 columns, from the chunk's three tables. -/
def turned (y t0 t1 t2 : FVec F S352x128 .f32) : FVec F S352x128 .f32 :=
  addf (addf (mulf y t0) (mulf (dynamicRotate 1 120#32 none y rotates_S352x128_d1) t1))
    (mulf (dynamicRotate 1 8#32 none y rotates_S352x128_d1) t2)

/-- What is stored of a chunk: the queries' chunks are scaled, the keys' are not. -/
def stored (scaled : Bool) (y t0 t1 t2 : FVec F S352x128 .f32) : FVec F S352x128 .bf16 :=
  cond scaled (truncf .bf16 (mulf (turned y t0 t1 t2) (broadcast S352x128 (Scalar.ofBits .f32 0x3E38AA3B#32))) bitsLt_bf16_f32)
    (truncf .bf16 (turned y t0 t1 t2) bitsLt_bf16_f32)

/-- A chunk lies inside a product of `C` columns. -/
theorem chunk_fits (C w n : ℕ) (hw : 0 < w) (hC : C = 128 * w) :
    (⟨2, ![352, C]⟩ : Shape).Slices ![0, 128 * (n % w)] S352x128 := by
  have := Nat.mod_lt n hw
  refine ⟨rfl, fun i => ?_⟩
  fin_cases i
  · exact Nat.le_of_eq (Nat.zero_add _)
  · show 128 * (n % w) + 128 ≤ C
    omega

/-- A load of a table's rows lies inside the block of tables. -/
theorem table_fits (k p : Fin 3) : ∀ i, (![k.val, 352 * p.val, 0] : Fin 3 → ℕ) i + S1x352x128.size i ≤ S3x1056x128.size i := by
  have hk := k.isLt
  have hp := p.isLt
  intro i
  fin_cases i
  · show k.val + 1 ≤ 3
    omega
  · show 352 * p.val + 352 ≤ 1056
    omega
  · exact Nat.le_of_eq (Nat.zero_add _)

/-- A load of rows lies inside the activation block. -/
theorem rows_fit (p : Fin 3) : ∀ i, (![352 * p.val, 0] : Fin 2 → ℕ) i + S352x2048.size i ≤ S1056x2048.size i := by
  have hp := p.isLt
  intro i
  fin_cases i
  · show 352 * p.val + 352 ≤ 1056
    omega
  · exact Nat.le_of_eq (Nat.zero_add _)

/-- The rows of part `p` of table `k`. -/
def tablePart (k p : Fin 3) (x : Vec F S3x1056x128 .f32) : Vec F S1x352x128 .f32 := fun y =>
  x (ix3 k (⟨352 * p.val + (y 1).val, by have h0 : (y 1).val < 352 := (y 1).isLt; have := p.isLt; omega⟩ : Fin 1056) (y 2))

/-- A load of a table's rows reads them. -/
theorem load_table (k p : Fin 3) {a : Memref sig .tc .vmem S3x1056x128 .f32} (h : a.IsWhole) (x : Vec F S3x1056x128 .f32) :
    View.readAt (Elt F) a.view (Rect.unit (s := S3x1056x128) ![k.val, 352 * p.val, 0] S1x352x128.size (table_fits k p)).toLoadRect (h.unread x)
      = tablePart k p x := by
  rw [View.readAt_unit a.view _ (table_fits k p) rfl (table_fits k p), h.read_unread]
  funext y
  refine congrArg x (funext fun i => Fin.ext ?_)
  have h0 : (y 0).val < 1 := (y 0).isLt
  fin_cases i
  · show k.val + 1 * (y 0).val = k.val
    omega
  · show 352 * p.val + 1 * (y 1).val = 352 * p.val + (y 1).val
    omega
  · show 0 + 1 * (y 2).val = (y 2).val
    omega

end Cert.Kernel5Ideal.Rope
-- ==== Proof.RopeRun.lean ====
module

public import proofs.«01_k».proof.Proof.RopeTile

/-!
One run of the body of the projection to queries and keys: at one of the first three points, where a third of the weights is
loaded and its columns of the output block are computed, and at a later point, where the whole output block is. Stated over any
floating-point interpretation.
-/

@[expose] public section

set_option maxRecDepth 16384

noncomputable section

namespace Cert.Kernel5Ideal.Rope

open Cert.Kernel5Ideal Cert.Kernel5Ideal.Gen
open Cert.Kernel3Ideal.Attn (part load_part load_stored load_weights load_kept)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four branches of the body are taken at points 0, 1, 2 and from 3 on. -/
theorem branch_1 (i : grid0.Coords) : k0_cond1 i = 1#1 ↔ (i 0).val = 0 := by
  have h : (i 0).val < 10 := (i 0).isLt
  unfold k0_cond1
  word_cmp
/-- The second branch is taken at point 1. -/
theorem branch_2 (i : grid0.Coords) : k0_cond2 i = 1#1 ↔ (i 0).val = 1 := by
  have h : (i 0).val < 10 := (i 0).isLt
  unfold k0_cond2
  word_cmp
/-- The third branch is taken at point 2. -/
theorem branch_3 (i : grid0.Coords) : k0_cond3 i = 1#1 ↔ (i 0).val = 2 := by
  have h : (i 0).val < 10 := (i 0).isLt
  unfold k0_cond3
  word_cmp
/-- The fourth branch is taken from point 3 on. -/
theorem branch_4 (i : grid0.Coords) : k0_cond4 i = 1#1 ↔ 3 ≤ (i 0).val := by
  have h : (i 0).val < 10 := (i 0).isLt
  unfold k0_cond4
  word_cmp

/-- The kept weights after a third of them is loaded. -/
def keptAfter (j : Fin 3) (x1 : Vec F S1x2048x768 .f32) (d : Vec F S2048x2304 .bf16) : Vec F S2048x2304 .bf16 :=
  VecWindow.put d ![0, 768 * j.val] S2048x768.size (k0_pay9 x1)

/-- The `n`-th tile stored at one of the first three points, from the rows' parts, a third of the weights and the tables' parts. -/
def columnTile (b : ℕ) (X : Fin 3 → Vec F S352x2048 .bf16) (W : Vec F S2048x768 .bf16) (T : Fin 3 → Fin 3 → Vec F S1x352x128 .f32) (n : ℕ) :
    FVec F S352x128 .bf16 :=
  stored (Nat.blt (b + n % 6) 16)
    (extractStridedSlice S352x128 ![0, 128 * (n % 6)] (k0_pay10 (X (partOf 6 n)) W) (chunk_fits 768 6 n (by decide) rfl))
    (k0_pay11 (T 0 (partOf 6 n))) (k0_pay12 (T 1 (partOf 6 n))) (k0_pay13 (T 2 (partOf 6 n)))

/-- The `n`-th tile stored at a later point, from the rows' parts, all the weights and the tables' parts. -/
def blockTile (X : Fin 3 → Vec F S352x2048 .bf16) (W : Vec F S2048x2304 .bf16) (T : Fin 3 → Fin 3 → Vec F S1x352x128 .f32) (n : ℕ) :
    FVec F S352x128 .bf16 :=
  stored (Nat.blt (0 + n % 18) 16)
    (extractStridedSlice S352x128 ![0, 128 * (n % 18)] (k0_pay123 (X (partOf 18 n)) W) (chunk_fits 2304 18 n (by decide) rfl))
    (k0_pay11 (T 0 (partOf 18 n))) (k0_pay12 (T 1 (partOf 18 n))) (k0_pay13 (T 2 (partOf 18 n)))

/-- The output block after the columns of a third of the weights are computed. -/
def columnsAfter (j : Fin 3) (x0 : Vec F S1056x2048 .bf16) (x1 : Vec F S1x2048x768 .f32) (x2 : Vec F S3x1056x128 .f32)
    (y : Vec F S1056x2304 .bf16) : Vec F S1056x2304 .bf16 :=
  putTiles (6 * j.val) 6 (columnTile (6 * j.val) (fun p => part p x0) (k0_pay9 x1) fun k p => tablePart k p x2) y 18

/-- The output block after all its columns are computed. -/
def blockAfter (x0 : Vec F S1056x2048 .bf16) (x2 : Vec F S3x1056x128 .f32) (d : Vec F S2048x2304 .bf16) (y : Vec F S1056x2304 .bf16) :
    Vec F S1056x2304 .bf16 :=
  putTiles 0 18 (blockTile (fun p => part p x0) d fun k p => tablePart k p x2) y 54

/-! ## Reading back what was stored -/

/-- The rows' part `p`, as the body loads it. -/
def rowsLoaded {a : Memref sig .tc .vmem S1056x2048 .bf16} (h : a.IsWhole) (x : Vec F S1056x2048 .bf16) (p : Fin 3) : Vec F S352x2048 .bf16 :=
  View.readAt (Elt F) a.view (Rect.unit (s := S1056x2048) ![352 * p.val, 0] S352x2048.size (rows_fit p)).toLoadRect (h.unread x)

/-- The rows of part `p` of table `k`, as the body loads them. -/
def tableLoaded {a : Memref sig .tc .vmem S3x1056x128 .f32} (h : a.IsWhole) (x : Vec F S3x1056x128 .f32) (k p : Fin 3) : Vec F S1x352x128 .f32 :=
  View.readAt (Elt F) a.view (Rect.unit (s := S3x1056x128) ![k.val, 352 * p.val, 0] S1x352x128.size (table_fits k p)).toLoadRect (h.unread x)

/-- The third of the kept weights just stored, loaded back. -/
theorem load_third (v : View sig .tc .vmem S2048x2304 .bf16) {a : Memref sig .tc .vmem S1x2048x768 .f32} (h : a.IsWhole)
    (x : Vec F S1x2048x768 .f32) (b : ℕ) (inb : ∀ i, (![0, b] : Fin 2 → ℕ) i + S2048x768.size i ≤ S2048x2304.size i)
    (inb' : ∀ i, (![0, 0, 0] : Fin 3 → ℕ) i + S1x2048x768.size i ≤ S1x2048x768.size i) :
    v.readCov [(⟨Rect.unit (s := S2048x2304) ![0, b] S2048x768.size inb,
      k0_pay9 (View.readAt (Elt F) a.view (Rect.unit (s := S1x2048x768) ![0, 0, 0] S1x2048x768.size inb').toLoadRect (h.unread x))⟩ :
        View.Piece (Elt F) S2048x2304 .bf16)]
      (Rect.unit (s := S2048x2304) ![0, b] S2048x768.size inb).toLoadRect = k0_pay9 x := by
  rw [load_weights]
  exact load_stored v inb _ []

/-- The kept weights after a third is stored. -/
theorem read_third (j : Fin 3) {a5 : Memref sig .tc .vmem S2048x2304 .bf16} (h5 : a5.IsWhole) {a : Memref sig .tc .vmem S1x2048x768 .f32}
    (h : a.IsWhole) (x : Vec F S1x2048x768 .f32) (d : Vec F S2048x2304 .bf16) (b : ℕ) (hb : b = 768 * j.val)
    (inb : ∀ i, (![0, b] : Fin 2 → ℕ) i + S2048x768.size i ≤ S2048x2304.size i)
    (inb' : ∀ i, (![0, 0, 0] : Fin 3 → ℕ) i + S1x2048x768.size i ≤ S1x2048x768.size i) :
    View.read (Elt F) a5.view (a5.view.writes (Elt F) (h5.unread d) [⟨Rect.unit (s := S2048x2304) ![0, b] S2048x768.size inb,
      k0_pay9 (View.readAt (Elt F) a.view (Rect.unit (s := S1x2048x768) ![0, 0, 0] S1x2048x768.size inb').toLoadRect (h.unread x))⟩])
      = keptAfter j x d := by
  subst hb
  rw [load_weights, View.read_writes_cons_put a5.view _ inb _ [] rfl, View.writes_nil, h5.read_unread]
  rfl

/-- The output block after the stores of one of the first three points. -/
theorem read_columns (j : Fin 3) {a1 : Memref sig .tc .vmem S1056x2048 .bf16} (h1 : a1.IsWhole) {a3 : Memref sig .tc .vmem S3x1056x128 .f32}
    (h3 : a3.IsWhole) {a4 : Memref sig .tc .vmem S1056x2304 .bf16} (h4 : a4.IsWhole) (x0 : Vec F S1056x2048 .bf16) (x1 : Vec F S1x2048x768 .f32)
    (x2 : Vec F S3x1056x128 .f32) (y : Vec F S1056x2304 .bf16) (v : Vec F S2048x768 .bf16) (hv : v = k0_pay9 x1) (b : ℕ) (hb : b = 6 * j.val)
    (hb' : b + 6 ≤ 18) :
    View.read (Elt F) a4.view (a4.view.writes (Elt F) (h4.unread y)
      (pieces b 6 (by decide) hb' (columnTile b (rowsLoaded h1 x0) v (tableLoaded h3 x2)) 18)) = columnsAfter j x0 x1 x2 y := by
  subst hv hb
  rw [read_pieces, show rowsLoaded h1 x0 = fun p => part p x0 from funext fun p => load_part p h1 x0 _ rfl _,
    show tableLoaded h3 x2 = fun k p => tablePart k p x2 from funext fun k => funext fun p => load_table k p h3 x2]
  rfl

/-- The output block after the stores of a later point. -/
theorem read_block {a1 : Memref sig .tc .vmem S1056x2048 .bf16} (h1 : a1.IsWhole) {a3 : Memref sig .tc .vmem S3x1056x128 .f32}
    (h3 : a3.IsWhole) {a4 : Memref sig .tc .vmem S1056x2304 .bf16} (h4 : a4.IsWhole) (x0 : Vec F S1056x2048 .bf16)
    (x2 : Vec F S3x1056x128 .f32) (d v : Vec F S2048x2304 .bf16) (y : Vec F S1056x2304 .bf16) (hv : v = d) :
    View.read (Elt F) a4.view (a4.view.writes (Elt F) (h4.unread y)
      (pieces 0 18 (by decide) (by decide) (blockTile (rowsLoaded h1 x0) v (tableLoaded h3 x2)) 54)) = blockAfter x0 x2 d y := by
  subst hv
  rw [read_pieces, show rowsLoaded h1 x0 = fun p => part p x0 from funext fun p => load_part p h1 x0 _ rfl _,
    show tableLoaded h3 x2 = fun k p => tablePart k p x2 from funext fun k => funext fun p => load_table k p h3 x2]
  rfl

/-! ## The runs -/

set_option maxHeartbeats 4000000 in
/-- The body at one of the first three points. -/
theorem run_columns (j : Fin 3) (c : Dev nD) (i : grid0.Coords) (arg1 : Memref sig .tc .vmem S1056x2048 .bf16) (harg1 : arg1.IsWhole)
    (arg2 : Memref sig .tc .vmem S1x2048x768 .f32) (harg2 : arg2.IsWhole) (arg3 : Memref sig .tc .vmem S3x1056x128 .f32) (harg3 : arg3.IsWhole)
    (arg4 : Memref sig .tc .vmem S1056x2304 .bf16) (harg4 : arg4.IsWhole) (arg5 : Memref sig .tc .vmem S2048x2304 .bf16) (harg5 : arg5.IsWhole)
    (hj : (i 0).val = j.val) (x0 : Vec F S1056x2048 .bf16) (x1 : Vec F S1x2048x768 .f32) (x2 : Vec F S3x1056x128 .f32) (y : Vec F S1056x2304 .bf16)
    (d : Vec F S2048x2304 .bf16) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare y ∗ owns (c : Thread nD τ) arg5 fullShare d
          ∗ (iprop(owns (c : Thread nD τ) arg1 fullShare x0 ∗ owns (c : Thread nD τ) arg2 fullShare x1 ∗ owns (c : Thread nD τ) arg3 fullShare x2
              ∗ owns (c : Thread nD τ) arg4 fullShare (columnsAfter j x0 x1 x2 y) ∗ owns (c : Thread nD τ) arg5 fullShare (keptAfter j x1 d)) -∗ K ⟨⟩))
      ⊢ wp frame (wpE (defs₀ (F := F)) Variants.none c none) E
          (cc0_attn_in_proj_rope i arg1 harg1 arg2 harg2 arg3 harg3 arg4 harg4 arg5 harg5) K := by
  simp only [cc0_attn_in_proj_rope_eq_skeleton]; unfold cc0_attn_in_proj_rope_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  have b1 := branch_1 i
  have b2 := branch_2 i
  have b3 := branch_3 i
  have b4 := branch_4 i
  rw [hj] at b1 b2 b3 b4
  have c4 : ¬ k0_cond4 i = 1#1 := fun h => absurd (b4.mp h) (by have := j.isLt; omega)
  obtain rfl | rfl | rfl : j = 0 ∨ j = 1 ∨ j = 2 := (by decide : ∀ j : Fin 3, j = 0 ∨ j = 1 ∨ j = 2) j
  on_goal 1 =>
    have ho := read_columns 0 harg1 harg3 harg4 x0 x1 x2 y _ (load_third arg5.view harg2 x1 0 inb_S2048x2304_S2048x768_0_0
      inb_S1x2048x768_S1x2048x768_0_0_0) 0 rfl (by decide)
    have hd := read_third 0 harg5 harg2 x1 d 0 rfl inb_S2048x2304_S2048x768_0_0 inb_S1x2048x768_S1x2048x768_0_0_0
    have c1 : k0_cond1 i = 1#1 := b1.mpr rfl
    have c2 : ¬ k0_cond2 i = 1#1 := fun h => absurd (b2.mp h) (by decide)
    have c3 : ¬ k0_cond3 i = 1#1 := fun h => absurd (b3.mp h) (by decide)
    sl_exec (disch := first | sl_exact c1 | sl_exact c2 | sl_exact c3 | sl_exact c4)
    sl_step
  on_goal 2 =>
    have ho := read_columns 1 harg1 harg3 harg4 x0 x1 x2 y _ (load_third arg5.view harg2 x1 768 inb_S2048x2304_S2048x768_0_768
      inb_S1x2048x768_S1x2048x768_0_0_0) 6 rfl (by decide)
    have hd := read_third 1 harg5 harg2 x1 d 768 rfl inb_S2048x2304_S2048x768_0_768 inb_S1x2048x768_S1x2048x768_0_0_0
    have c1 : ¬ k0_cond1 i = 1#1 := fun h => absurd (b1.mp h) (by decide)
    have c2 : k0_cond2 i = 1#1 := b2.mpr rfl
    have c3 : ¬ k0_cond3 i = 1#1 := fun h => absurd (b3.mp h) (by decide)
    sl_exec (disch := first | sl_exact c1 | sl_exact c2 | sl_exact c3 | sl_exact c4)
    sl_step
  on_goal 3 =>
    have ho := read_columns 2 harg1 harg3 harg4 x0 x1 x2 y _ (load_third arg5.view harg2 x1 1536 inb_S2048x2304_S2048x768_0_1536
      inb_S1x2048x768_S1x2048x768_0_0_0) 12 rfl (by decide)
    have hd := read_third 2 harg5 harg2 x1 d 1536 rfl inb_S2048x2304_S2048x768_0_1536 inb_S1x2048x768_S1x2048x768_0_0_0
    have c1 : ¬ k0_cond1 i = 1#1 := fun h => absurd (b1.mp h) (by decide)
    have c2 : ¬ k0_cond2 i = 1#1 := fun h => absurd (b2.mp h) (by decide)
    have c3 : k0_cond3 i = 1#1 := b3.mpr rfl
    sl_exec (disch := first | sl_exact c1 | sl_exact c2 | sl_exact c3 | sl_exact c4)
    sl_step
  all_goals
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr
      swap; · iexact H3
      ipureintro
      exact ho
    · iexists _; isplitr
      swap; · iexact H4
      ipureintro
      exact hd

set_option maxHeartbeats 4000000 in
/-- The body at a later point: it computes the whole output block from the kept weights. -/
theorem run_block (c : Dev nD) (i : grid0.Coords) (arg1 : Memref sig .tc .vmem S1056x2048 .bf16) (harg1 : arg1.IsWhole)
    (arg2 : Memref sig .tc .vmem S1x2048x768 .f32) (harg2 : arg2.IsWhole) (arg3 : Memref sig .tc .vmem S3x1056x128 .f32) (harg3 : arg3.IsWhole)
    (arg4 : Memref sig .tc .vmem S1056x2304 .bf16) (harg4 : arg4.IsWhole) (arg5 : Memref sig .tc .vmem S2048x2304 .bf16) (harg5 : arg5.IsWhole)
    (hi : 3 ≤ (i 0).val) (x0 : Vec F S1056x2048 .bf16) (x1 : Vec F S1x2048x768 .f32) (x2 : Vec F S3x1056x128 .f32) (y : Vec F S1056x2304 .bf16)
    (d : Vec F S2048x2304 .bf16) (E : Set ℕ) (K : PUnit → sProp 𝕄) :
    iprop(owns (c : Thread nD τ) arg1 fullShare x0 ∗ owns (c : Thread nD τ) arg2 fullShare x1 ∗ owns (c : Thread nD τ) arg3 fullShare x2
          ∗ owns (c : Thread nD τ) arg4 fullShare y ∗ owns (c : Thread nD τ) arg5 fullShare d
          ∗ (iprop(owns (c : Thread nD τ) arg1 fullShare x0 ∗ owns (c : Thread nD τ) arg2 fullShare x1 ∗ owns (c : Thread nD τ) arg3 fullShare x2
              ∗ owns (c : Thread nD τ) arg4 fullShare (blockAfter x0 x2 d y) ∗ owns (c : Thread nD τ) arg5 fullShare (d)) -∗ K ⟨⟩))
      ⊢ wp frame (wpE (defs₀ (F := F)) Variants.none c none) E
          (cc0_attn_in_proj_rope i arg1 harg1 arg2 harg2 arg3 harg3 arg4 harg4 arg5 harg5) K := by
  simp only [cc0_attn_in_proj_rope_eq_skeleton]; unfold cc0_attn_in_proj_rope_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  have c1 : ¬ k0_cond1 i = 1#1 := fun h => by have := (branch_1 i).mp h; omega
  have c2 : ¬ k0_cond2 i = 1#1 := fun h => by have := (branch_2 i).mp h; omega
  have c3 : ¬ k0_cond3 i = 1#1 := fun h => by have := (branch_3 i).mp h; omega
  have c4 : k0_cond4 i = 1#1 := (branch_4 i).mpr hi
  sl_exec (disch := first | sl_exact c1 | sl_exact c2 | sl_exact c3 | sl_exact c4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    exact read_block harg1 harg3 harg4 x0 x2 d _ y (load_kept harg5 d inb_S2048x2304_S2048x2304_0_0)
  · iexists _; isplitr
    swap; · iexact H4
    ipureintro
    exact harg5.read_unread _

end Cert.Kernel5Ideal.Rope
-- ==== Proof.RopeLaunch.lean ====
module

public import proofs.«01_k».proof.Proof.RopeRun
public import Idealize.ShloMosaic.Lib.Pipeline.DatRel
public import Idealize.ShloMosaic.Lib.Pipeline.ArrRel
public import Idealize.ShloMosaic.Lib.Pipeline.ValueKit.Geometry

/-!
The launch of the projection to queries and keys, over any floating-point interpretation. The first three points stay on the first row tile, load one third of the
weights each and compute that third's columns; a later point `t` computes row tile `t - 2` from the kept weights. So the output
block of the first row tile is complete only after the third point, and it is held to a statement rather than named.
-/

@[expose] public section

set_option maxRecDepth 16384

noncomputable section

namespace Cert.Kernel5Ideal.Rope

open Cert.Kernel5Ideal Cert.Kernel5Ideal.Gen
open Cert.Kernel3Ideal.Attn (part put_inside put_other_col)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of the kept weights. -/
abbrev keptW : Memref sig .tc .vmem S2048x2304 .bf16 := Memref.whole cc0_scratch0

/-- The grid has 10 points. -/
theorem points_lt (t : Fin cfg0.N) : t.val < 10 := lt_of_lt_of_eq t.isLt (show cfg0.N = 10 from N_0)

/-- The point that loads third `j` of the weights. -/
def loader (j : Fin 3) : Fin cfg0.N := ⟨j.val, lt_of_lt_of_eq (by have := j.isLt; omega : j.val < 10) (show 10 = cfg0.N from N_0.symm)⟩

/-- The grid coordinate of a point. -/
theorem coord_of_point (t : Fin cfg0.N) : (grid0.coords t 0).val = t.val := by
  have e : (grid0.coords t 0).val = t.val / 1 % 10 := Pipeline.Grid.coords_val t 0 (by decide) rfl
  have := points_lt t
  rw [e, Nat.div_one]
  omega

/-- The block that the activation window takes at each point. -/
theorem index_0 : ∀ t : Fin grid0.N, win0_0.index t = ![t.val - 2, 0] := by decide +kernel

/-- The activations at launch. -/
abbrev actsOf (c : Dev nD) : Vec F S8448x2048 .bf16 := m ((c : Thread nD τ).loc main_arg0)

/-- The activation block at a point, entry by entry. -/
theorem block_acts (c : Dev nD) (t : Fin cfg0.N) (r : Fin 1056) (k : Fin 2048) (n : Fin 8448) (hn : n.val = 1056 * (t.val - 2) + r.val) :
    iblk m c 0 t (ix2 r k) = actsOf m c (ix2 n k) := by
  blk_simp [iblk]
  rw [V_main_arg0]
  refine congrArg (actsOf m c) ?_
  blk_ext [index_0]

/-- The block that the window of the tables takes at each point. -/
theorem index_2 : ∀ t : Fin grid0.N, win0_2.index t = ![0, t.val - 2, 0] := by decide +kernel

/-- The tables when the launch is entered. -/
abbrev tablesOf (c : Dev nD) : Vec F S3x8448x128 .f32 := V m c main_v36

/-- The block of tables at a point, entry by entry. -/
theorem block_tables (c : Dev nD) (t : Fin cfg0.N) (k : Fin 3) (r : Fin 1056) (l : Fin 128) (n : Fin 8448)
    (hn : n.val = 1056 * (t.val - 2) + r.val) : iblk m c 2 t (ix3 k r l) = tablesOf m c (ix3 k n l) := by
  blk_simp [iblk]
  refine congrArg (tablesOf m c) ?_
  blk_ext [index_2]

/-- The first three points have the same rows of the tables. -/
theorem tables_same (c : Dev nD) (t t' : Fin cfg0.N) (h : t.val - 2 = t'.val - 2) : iblk m c 2 t = iblk m c 2 t' := by
  funext y
  obtain ⟨k, r, l, rfl⟩ : ∃ (k : Fin 3) (r : Fin 1056) (l : Fin 128), y = ix3 k r l := ⟨y 0, y 1, y 2, by idx_vars y⟩
  have ht := points_lt t
  rw [block_tables m c t k r l ⟨1056 * (t.val - 2) + r.val, by omega⟩ rfl,
    block_tables m c t' k r l ⟨1056 * (t.val - 2) + r.val, by omega⟩ (by show 1056 * (t.val - 2) + r.val = _; rw [h])]

/-- The first three points have the same rows. -/
theorem rows_same (c : Dev nD) (t t' : Fin cfg0.N) (h : t.val - 2 = t'.val - 2) : iblk m c 0 t = iblk m c 0 t' := by
  funext y
  obtain ⟨r, k, rfl⟩ : ∃ (r : Fin 1056) (k : Fin 2048), y = ix2 r k := ⟨y 0, y 1, by idx_vars y⟩
  have ht := points_lt t
  rw [block_acts m c t r k ⟨1056 * (t.val - 2) + r.val, by omega⟩ rfl,
    block_acts m c t' r k ⟨1056 * (t.val - 2) + r.val, by omega⟩ (by show 1056 * (t.val - 2) + r.val = _; rw [h])]

/-- The kept weights once the first `n` thirds are loaded. -/
def ThirdsIn (c : Dev nD) (n : ℕ) (d : Vec F S2048x2304 .bf16) : Prop :=
  ∀ (j : Fin 3) (k : Fin 2048) (q : Fin 768) (q' : Fin 2304), j.val < n → q'.val = 768 * j.val + q.val →
    d (ix2 k q') = k0_pay9 (iblk m c 1 (loader j)) (ix2 k q)

/-- The tile stored for part `p` of the rows and chunk `k` of third `j` of the columns. -/
def columnOf (c : Dev nD) (t : Fin cfg0.N) (j p : Fin 3) (k : Fin 6) : FVec F S352x128 .bf16 :=
  columnTile (6 * j.val) (fun p => part p (iblk m c 0 t)) (k0_pay9 (iblk m c 1 (loader j))) (fun k p => tablePart k p (iblk m c 2 t))
    (6 * p.val + k.val)

/-- The tile stored for part `p` of the rows and chunk `k` of all columns. -/
def chunkOf (c : Dev nD) (t : Fin cfg0.N) (d : Vec F S2048x2304 .bf16) (p : Fin 3) (k : Fin 18) : FVec F S352x128 .bf16 :=
  blockTile (fun p => part p (iblk m c 0 t)) d (fun k p => tablePart k p (iblk m c 2 t)) (18 * p.val + k.val)

/-- What is known of the output block after one of the first three points: the columns of the thirds loaded so far. -/
def ColumnsIn (c : Dev nD) (t : Fin cfg0.N) (X : Vec F S1056x2304 .bf16) : Prop :=
  ∀ (j p : Fin 3) (k : Fin 6) (r : Fin 352) (q : Fin 128) (r' : Fin 1056) (q' : Fin 2304), j.val ≤ t.val → r'.val = 352 * p.val + r.val →
    q'.val = 128 * (6 * j.val + k.val) + q.val → X (ix2 r' q') = columnOf m c t j p k (ix2 r q)

/-- What is known of the output block after a later point: it is computed from kept weights that are complete. -/
def BlockIn (c : Dev nD) (t : Fin cfg0.N) (X : Vec F S1056x2304 .bf16) : Prop :=
  ∃ d, ThirdsIn m c 3 d ∧ ∀ (p : Fin 3) (k : Fin 18) (r : Fin 352) (q : Fin 128) (r' : Fin 1056) (q' : Fin 2304),
    r'.val = 352 * p.val + r.val → q'.val = 128 * (0 + k.val) + q.val → X (ix2 r' q') = chunkOf m c t d p k (ix2 r q)

/-- What is known of the output block after point `t`. -/
def OutputIn (c : Dev nD) (t : Fin cfg0.N) (X : Vec F S1056x2304 .bf16) : Prop :=
  (t.val < 3 → ColumnsIn m c t X) ∧ (3 ≤ t.val → BlockIn m c t X)

/-- Loading a third keeps the thirds before it. -/
theorem thirds_step (c : Dev nD) (j : Fin 3) (d : Vec F S2048x2304 .bf16) (h : ThirdsIn m c j.val d) :
    ThirdsIn m c (j.val + 1) (keptAfter j (iblk m c 1 (loader j)) d) := by
  intro j' k q q' hj hq
  have hql := q.isLt
  by_cases e : j' = j
  · subst e
    exact put_inside d 0 (768 * j'.val) 2048 768 (k0_pay9 (iblk m c 1 (loader j'))) k q k q' (Nat.zero_add _).symm hq
  · have hlt : j'.val < j.val := by have : j'.val ≠ j.val := fun h => e (Fin.ext h); omega
    exact (put_other_col d 0 (768 * j.val) 2048 768 (k0_pay9 (iblk m c 1 (loader j))) k q' (Or.inl (by omega))).trans
      (h j' k q q' hlt hq)

/-- From the third load on the kept weights stay complete. -/
theorem thirds_full (c : Dev nD) (n : ℕ) (hn : 3 ≤ n) (d : Vec F S2048x2304 .bf16) : ThirdsIn m c n d ↔ ThirdsIn m c 3 d :=
  ⟨fun h j k q q' hj => h j k q q' (by omega), fun h j k q q' hj => h j k q q' j.isLt⟩

/-- Computing a third's columns keeps those of the thirds before it. -/
theorem columns_step (c : Dev nD) (j : Fin 3) (t : Fin cfg0.N) (ht : t = loader j) (Y : Vec F S1056x2304 .bf16)
    (hY : j.val ≠ 0 → ∃ h, ColumnsIn m c ⟨t.val - 1, h⟩ Y) :
    OutputIn m c t (columnsAfter j (iblk m c 0 t) (iblk m c 1 (loader j)) (iblk m c 2 t) Y) := by
  have htj : t.val = j.val := congrArg Fin.val ht
  have hj3 := j.isLt
  refine ⟨fun _ => ?_, fun h => absurd h (by omega)⟩
  intro j' p k r q r' q' hj hr hq
  have hql := q.isLt
  have hk := k.isLt
  have hp := p.isLt
  by_cases e : j' = j
  · subst e
    exact putTiles_inside (6 * j'.val) 6 (by decide) _ Y p.val k.val hk 18 (by omega) (by decide) r q r' q' hr hq
  · have hlt : j'.val < j.val := by have : j'.val ≠ j.val := fun h => e (Fin.ext h); omega
    obtain ⟨hl, hC⟩ := hY (by omega)
    have hs : t.val - 1 - 2 = t.val - 2 := by omega
    refine (putTiles_outside (6 * j.val) 6 (by decide) _ Y 18 r' q' (Or.inl (by omega))).trans ?_
    rw [hC j' p k r q r' q' (by show j'.val ≤ t.val - 1; omega) hr hq]
    unfold columnOf
    rw [rows_same m c ⟨t.val - 1, hl⟩ t hs, tables_same m c ⟨t.val - 1, hl⟩ t hs]

/-- A later point computes the whole output block. -/
theorem block_step (c : Dev nD) (t : Fin cfg0.N) (ht : 3 ≤ t.val) (d : Vec F S2048x2304 .bf16) (hd : ThirdsIn m c 3 d)
    (Y : Vec F S1056x2304 .bf16) : OutputIn m c t (blockAfter (iblk m c 0 t) (iblk m c 2 t) d Y) := by
  refine ⟨fun h => absurd h (by omega), fun _ => ⟨d, hd, fun p k r q r' q' hr hq => ?_⟩⟩
  have hk := k.isLt
  have hp := p.isLt
  exact putTiles_inside 0 18 (by decide) _ Y p.val k.val hk 54 (by omega) (by decide) r q r' q' hr hq

/-! ## The proof data -/

/-- The kept weights at position `n`: the thirds loaded before it are in place. -/
def kept (c : Dev nD) (n : ℕ) (hn : n ≤ cfg0.N) : sProp 𝕄 :=
  iprop((∃ d, ⌜ThirdsIn m c n d⌝ ∗ owns (c : Thread nD τ) keptW fullShare d) ∗ ∃ r, prngReg c r)

/-- The region's own buffer at any contents. -/
theorem class_inv (c : Dev nD) : (Pipeline.ΦA spec0 c : sProp 𝕄)
    = iprop((∃ d, owns (c : Thread nD τ) keptW fullShare d) ∗ ∃ r, prngReg c r) := by
  unfold Pipeline.ΦA
  rw [scopedRest0_eq]
  simp only [keptW, owns_whole]
  try rfl

/-- The proof data of the region: inputs keep their blocks; the output block's contents are held to a statement below. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := kept m c t.val (Nat.le_of_lt_succ t.isLt)
  q _ := fullShare
  owed _ := 0

/-- The output window is the one held to a statement. -/
def held : Fin cfg0.W → Bool := fun w => w.val == 3

/-- The statement of the output window; of the others nothing. -/
def heldTo (c : Dev nD) (w : Fin cfg0.W) (t : Fin cfg0.N) (X : (cfg0.win w).block.Idx → Elt F (cfg0.win w).elt) : Prop :=
  match w, X with
  | ⟨3, _⟩, X => OutputIn m c t X
  | _, _ => True

/-- The arrays are what the region finds. -/
theorem data_A (c : Dev nD) (w : Fin cfg0.W) : (data m 0 c).A w = V m c (Pipeline.arrRef spec0 w) := by
  dsimp only [data]
/-- The activation window is left as found. -/
theorem left_0 (c : Dev nD) (t : Fin cfg0.N) : (data m 0 c).after 0 t = iblk m c 0 t := by dsimp only [data]
/-- The weight window is left as found. -/
theorem left_1 (c : Dev nD) (t : Fin cfg0.N) : (data m 0 c).after 1 t = iblk m c 1 t := by dsimp only [data]
/-- The window of the tables is left as found. -/
theorem left_2 (c : Dev nD) (t : Fin cfg0.N) : (data m 0 c).after 2 t = iblk m c 2 t := by dsimp only [data]
/-- The body finds the activation block. -/
theorem found_0 (c : Dev nD) (t : Fin cfg0.N) (d) : (data m 0 c).before 0 t d = iblk m c 0 t :=
  before0_0_of m (data m 0 c) (data_A m c 0) (left_0 m c) t d
/-- The body finds the weight block. -/
theorem found_1 (c : Dev nD) (t : Fin cfg0.N) (d) : (data m 0 c).before 1 t d = iblk m c 1 t :=
  before0_1_of m (data m 0 c) (data_A m c 1) (left_1 m c) t d

/-- The body finds the block of the tables. -/
theorem found_2 (c : Dev nD) (t : Fin cfg0.N) (d) : (data m 0 c).before 2 t d = iblk m c 2 t :=
  before0_2_of m (data m 0 c) (data_A m c 2) (left_2 m c) t d

/-- The output block is written back from the third point on. -/
theorem flush_3 : ∀ t : Fin cfg0.N, (cfg0.win 3).flush t = true ↔ 2 ≤ t.val := by decide +kernel

/-- At the second and third point the body finds in the output window the columns computed before. -/
theorem found_columns (c : Dev nD) (t : Fin cfg0.N) (h0 : t.val ≠ 0) (h3 : t.val < 3) (Y : Vec F S1056x2304 .bf16)
    (hY : ((data m 0 c).toRRel held (heldTo m c)).Finds 3 t Y) : ∃ hl, ColumnsIn m c ⟨t.val - 1, hl⟩ Y := by
  have hfetch : (cfg0.win 3).fetch t = false := rfl
  refine ⟨Nat.lt_of_le_of_lt (Nat.sub_le _ _) t.isLt, ?_⟩
  rcases (Pipeline.RDat.finds_of_pos _ hfetch h0 Y).mp hY with hf | hl
  · have e : 2 ≤ t.val - 1 := (flush_3 _).mp hf
    omega
  · exact ((data m 0 c).toRRel_leaves (w := 3) rfl hl).1 (by show t.val - 1 < 3; omega)

/-! ## The body at a point -/

/-- What the body is called with. -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ Y, ⌜((data m 0 c).toRRel held (heldTo m c)).Finds 3 t Y⌝ ∗ owns (c : Thread nD τ) (st0_3 t) fullShare Y))

/-- What it returns. -/
def post (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ (∃ X, ⌜heldTo m c 3 t X⌝ ∗ owns (c : Thread nD τ) (st0_3 t) fullShare X))

/-- The invariant at a point's start. -/
theorem kept_castSucc (c : Dev nD) (t : Fin cfg0.N) : (data m 0 c).Φ t.castSucc = kept m c t.val (Nat.le_of_lt t.isLt) := by
  dsimp only [data]; exact Pipeline.Dat.Φ_castSucc (kept m c) t

set_option maxHeartbeats 400000 in
/-- The body at a point. -/
theorem body_at (c : Dev nD) (t : Fin cfg0.N) :
    pre m c t ⊢ wp frame (wpE (defs₀ (F := F)) Variants.none c none) Set.univ (bodyAt0 t) (fun _ => post m c t) := by
  unfold pre post bodyAt0
  simp only [found_0, found_1, found_2]
  rw [show (data m 0 c).owesAt () t.succ = (data m 0 c).owesAt () t.castSucc from rfl, left_0, left_1, left_2]
  rw [show (data m 0 c).Φ t.succ = kept m c (t.val + 1) t.isLt from rfl, kept_castSucc m c t]
  unfold kept
  by_cases h : t.val < 3
  · obtain ⟨j, rfl⟩ : ∃ j : Fin 3, t = loader j := ⟨⟨t.val, h⟩, rfl⟩
    iintro ⟨⟨⟨%d, %hd, HS⟩, Hg⟩, Ho, ⟨%d0, H0⟩, ⟨%d1, H1⟩, ⟨%d2, H2⟩, ⟨%Y, %hY, H3⟩⟩
    iapply (run_columns j c (grid0.coords (loader j)) _ _ _ _ _ _ _ _ _ _ (coord_of_point (loader j)) (iblk m c 0 (loader j))
      (iblk m c 1 (loader j)) (iblk m c 2 (loader j)) Y d Set.univ)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr
        swap; · iexact HS
        ipureintro
        exact thirds_step m c j d hd
      iexact Hg
    isplitl [Ho]; · iexact Ho
    isplitl [H0]; · iexact H0
    isplitl [H1]; · iexact H1
    isplitl [H2]; · iexact H2
    iexists _; isplitr
    swap; · iexact H3
    ipureintro
    exact columns_step m c j (loader j) rfl Y fun h0 => found_columns m c (loader j) h0 h Y hY
  · have h3 : 3 ≤ t.val := Nat.le_of_not_lt h
    iintro ⟨⟨⟨%d, %hd, HS⟩, Hg⟩, Ho, ⟨%d0, H0⟩, ⟨%d1, H1⟩, ⟨%d2, H2⟩, ⟨%Y, %hY, H3⟩⟩
    iapply (run_block c (grid0.coords t) _ _ _ _ _ _ _ _ _ _ (by rw [coord_of_point]; exact h3) (iblk m c 0 t) (iblk m c 1 t) (iblk m c 2 t)
      Y d Set.univ)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr
        swap; · iexact HS
        ipureintro
        exact (thirds_full m c (t.val + 1) (by omega) d).mpr ((thirds_full m c t.val h3 d).mp hd)
      iexact Hg
    isplitl [Ho]; · iexact Ho
    isplitl [H0]; · iexact H0
    isplitl [H1]; · iexact H1
    isplitl [H2]; · iexact H2
    iexists _; isplitr
    swap; · iexact H3
    ipureintro
    exact block_step m c t h3 d ((thirds_full m c t.val h3 d).mp hd) Y

/-- The body table's row at a point is the body. -/
theorem row_at (t : Fin cfg0.N) : defs₀ (F := F) .tc cfg0.body (cfg0.bodyArgs t (cfg0.slots t)) = bodyAt0 t := by
  unfold defs₀; rw [Defs.onTc_tc]

/-- The body obligation, the output window held to its statement. -/
theorem obligation (c : Dev nD) : BodyObligationRel (data (F := F) m 0 c) (defs₀ (F := F)) Variants.none () Set.univ held (heldTo m c) := fun t => by
  rw [bigSep_W0, bigSep_W0, row_at]
  exact triple_restated (body_at m c t) rfl .rfl fun _ => .rfl

/-- On entry to the launch nothing is said of the kept weights. -/
theorem enter (c : Dev nD) : Pipeline.ΦA spec0 c ⊢ (data m 0 c).Φ 0 := by
  rw [show (data m 0 c).Φ 0 = kept m c 0 (Nat.zero_le _) from rfl, class_inv]
  unfold kept
  iintro ⟨⟨%d, HS⟩, Hg⟩
  isplitl [HS]
  · iexists d; isplitr
    · ipureintro
      exact fun j k q q' hj => absurd hj (Nat.not_lt_zero _)
    iexact HS
  iexact Hg

/-- On leaving the launch what is known of the kept weights is forgotten. -/
theorem leave (c : Dev nD) : (data m 0 c).Φ (Fin.last cfg0.N) ⊢ Pipeline.ΦA spec0 c := by
  rw [show (data m 0 c).Φ (Fin.last cfg0.N) = kept m c (Fin.last cfg0.N).val (Nat.le_of_lt_succ (Fin.last cfg0.N).isLt) from rfl, class_inv]
  unfold kept
  iintro ⟨⟨%d, %hd, HS⟩, Hg⟩
  isplitl [HS]
  · iexists _; iexact HS
  iexact Hg

set_option backward.isDefEq.respectTransparency.types false in
/-- The launch: every run ends, the arrays hold what the write-backs put there, and every semaphore counter is zero. -/
theorem run_main : θ_run defs (onTc (τ := τ) (main (F := F))) (s₀ m ρ) (fun r =>
    Pipeline.RDat.FramePost (cfgs 0) (fun c => (data m 0 c).toRRel held (heldTo m c)) (V m) r ∧ r.2.sem = fun _ => 0) :=
  Pipeline.RDat.θ_run_frame_track (Q' := _) cfgs (0 : Fin 1) launch0 defs₀ Variants.none
    (fun c => (data m 0 c).toRRel held (heldTo m c)) m ρ main
    (hbody := fun c => (obligation m c).toRRel) (hshare := fun _ w => by fin_cases w <;> rfl)
    (howed := fun _ _ => rfl) (V := V m) (hmain := hmain m Variants.none) (hA := data_A m) (hin := enter m) (hout := leave m)

end Cert.Kernel5Ideal.Rope
-- ==== Proof.RopeProj.lean ====
module

public import proofs.«01_k».proof.Proof.RopeLaunch
public import proofs.«01_k».proof.Proof.Gen.Reference5Ideal.Run
public import Idealize.ShloMosaic.Lib.Claim

/-!
The attention layers' projection to queries and keys: the frame of its run, and over the extended reals the array after the
launch. An entry is the product of the activations and the left half of the first layer's weights, with the rotary embedding
applied within each head of 64 columns by the angles of the row's position, and for the queries the scale; the reference's result is the same.
-/

@[expose] public section

set_option maxRecDepth 16384

noncomputable section

/-! ## The rotary embedding of a row -/

namespace Cert.Rope

open Idealize.ShloMosaic

/-- The rotary embedding of a row of columns: in each head of 64 the first eight columns and the next eight are turned by the
row's angles, and the others stay. -/
def turnedAt (P : Fin 2304 → EReal) (cs sn : Fin 8 → EReal) (l : Fin 2304) : EReal :=
  if h : l.val % 64 < 8 then P l * cs ⟨l.val % 64, h⟩ - P ⟨l.val + 8, by have := l.isLt; omega⟩ * sn ⟨l.val % 64, h⟩
  else if h : l.val % 64 - 8 < 8 then P l * cs ⟨l.val % 64 - 8, h⟩ + P ⟨l.val - 8, by have := l.isLt; omega⟩ * sn ⟨l.val % 64 - 8, h⟩
  else P l

/-- The same with the scale of the queries, the first 2048 columns. -/
def ropedAt (P : Fin 2304 → EReal) (cs sn : Fin 8 → EReal) (l : Fin 2304) : EReal :=
  if l.val < 2048 then turnedAt P cs sn l * Scalar.ofBits (F := Ideal) .f32 0x3E38AA3B#32 else turnedAt P cs sn l

end Cert.Rope

namespace Cert.Kernel5Ideal.Rope

open Cert.Kernel5Ideal Cert.Kernel5Ideal.Gen
open Cert.Kernel3Ideal.Attn (part)
open Cert.Rope
open Idealize.ShloMosaic Idealize.ShloMosaic.TcCoe Idealize.ShloMosaic.Tactic
open Idealize.SL Idealize.SL.RA Idealize.SL.BI Idealize.SL.Sem

/-! ## The arguments and the counters -/

section Frame

variable {F : FTy → Type} [FloatOps F]
variable (m : (ℓ : Loc nD τ sig) → Buf (Elt F) ℓ) (ρ : Dev nD → PrngReg)

/-- What a run's end says of the three arguments: they are unchanged. -/
theorem arguments_kept (r : PUnit × MemSt nD τ sig (Elt F))
    (h : Pipeline.RDat.FramePost (cfgs 0) (fun c => (data m 0 c).toRRel held (heldTo m c)) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h.arr_in c 0 rfl).trans ((data_A m c 0).trans (V_main_arg0 m c)),
    (h.arr_in c 1 rfl).trans ((data_A m c 1).trans (V_main_arg1 m c)),
    ((h c).2 main_arg2 (Pipeline.mem_restRefs_of main_arg2 (by decide) (by decide))).trans (V_main_arg2 m c)⟩

/-- Every run ends with the arguments unchanged and every semaphore counter at zero. -/
theorem run_frame : θ_run defs (onTc (τ := τ) (main (F := F))) (s₀ m ρ) (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0) :=
  (θ_run defs _ _).mono (fun r h => ⟨arguments_kept m r h.1, h.2⟩) (run_main m ρ)

end Frame

/-! ## The tables -/

/-- The angles of the rows, from their positions: a row's position times the eight powers of the base. -/
def angles (pos : Vec Ideal S8448 .i32) : Vec Ideal S8448x8 .f32 :=
  mulf (F := Ideal) (φ := .f32)
    (broadcastInDim S8448x8 ![0, 1] bcast_S8448x1_S8448x8_0_1 (broadcastInDim S8448x1 ![0] bcast_S8448_S8448x1_0 (sitofp .f32 pos)))
    (broadcastInDim S8448x8 ![0, 1] bcast_S1x8_S8448x8_0_1 (broadcastInDim S1x8 ![1] bcast_S8_S1x8_1
      (Host.powf (F := Ideal) (φ := .f32) (broadcastInDim S8 ![] bcast_S_S8 (constant (F := Ideal) S_ .f32 0x48F42400#32))
        (Host.divf (F := Ideal) (φ := .f32) (mulf (Host.negf (sitofp .f32 (iotaInDim S8 32 0)))
          (broadcastInDim S8 ![] bcast_S_S8 (constant (F := Ideal) S_ .f32 0x40000000#32)))
          (broadcastInDim S8 ![] bcast_S_S8 (constant (F := Ideal) S_ .f32 0x41800000#32))))))

/-- The cosines' table of one head: the row's eight cosines twice, and ones. -/
def headCos (cs : Vec Ideal S8448x8 .f32) : Vec Ideal S8448x64 .f32 :=
  concatenate S8448x64 1 [⟨S8448x8, cs⟩, ⟨S8448x8, cs⟩,
    ⟨S8448x48, broadcastInDim S8448x48 ![] bcast_S_S8448x48 (constant (F := Ideal) S_ .f32 0x3F800000#32)⟩]
    concatenates_S8448x8_S8448x8_S8448x48_S8448x64_d1

/-- The table for the columns eight to the right: the row's sines negated, and zeros. -/
def headRight (sn : Vec Ideal S8448x8 .f32) : Vec Ideal S8448x64 .f32 :=
  concatenate S8448x64 1 [⟨S8448x8, Host.negf (F := Ideal) (φ := .f32) sn⟩,
    ⟨S8448x56, broadcastInDim S8448x56 ![] bcast_S_S8448x56 (constant (F := Ideal) S_ .f32 0x00000000#32)⟩]
    concatenates_S8448x8_S8448x56_S8448x64_d1

/-- The table for the columns eight to the left: zeros, the row's sines, and zeros. -/
def headLeft (sn : Vec Ideal S8448x8 .f32) : Vec Ideal S8448x64 .f32 :=
  concatenate S8448x64 1 [⟨S8448x8, broadcastInDim S8448x8 ![] bcast_S_S8448x8 (constant (F := Ideal) S_ .f32 0x00000000#32)⟩, ⟨S8448x8, sn⟩,
    ⟨S8448x48, broadcastInDim S8448x48 ![] bcast_S_S8448x48 (constant (F := Ideal) S_ .f32 0x00000000#32)⟩]
    concatenates_S8448x8_S8448x8_S8448x48_S8448x64_d1

/-- A head's table repeated over 128 columns. -/
def tiled (x : Vec Ideal S8448x64 .f32) : Vec Ideal S1x8448x128 .f32 :=
  broadcastInDim S1x8448x128 ![1, 2] bcast_S8448x128_S1x8448x128_1_2
    (shapeCast S8448x128 (broadcastInDim S1x8448x2x64 ![0, 1, 2, 3] bcast_S1x8448x1x64_S1x8448x2x64_0_1_2_3
      (shapeCast S1x8448x1x64 x shapeCasts_S8448x64_S1x8448x1x64)) shapeCasts_S1x8448x2x64_S8448x128)

/-- The three tables stacked. -/
def stacked (a b d : Vec Ideal S1x8448x128 .f32) : Vec Ideal S3x8448x128 .f32 :=
  concatenate S3x8448x128 0 [⟨S1x8448x128, a⟩, ⟨S1x8448x128, b⟩, ⟨S1x8448x128, d⟩]
    concatenates_S1x8448x128_S1x8448x128_S1x8448x128_S3x8448x128_d0

/-- An entry of the first table in the stack. -/
theorem stacked_0 (a b d : Vec Ideal S1x8448x128 .f32) (n : Fin 8448) (l : Fin 128) : stacked a b d (ix3 0 n l) = a (ix3 0 n l) := by
  pointwise [stacked]
/-- An entry of the second table in the stack. -/
theorem stacked_1 (a b d : Vec Ideal S1x8448x128 .f32) (n : Fin 8448) (l : Fin 128) : stacked a b d (ix3 1 n l) = b (ix3 0 n l) := by
  pointwise [stacked]
/-- An entry of the third table in the stack. -/
theorem stacked_2 (a b d : Vec Ideal S1x8448x128 .f32) (n : Fin 8448) (l : Fin 128) : stacked a b d (ix3 2 n l) = d (ix3 0 n l) := by
  pointwise [stacked]

/-- An entry of a repeated table is the head's. -/
theorem tiled_at (x : Vec Ideal S8448x64 .f32) (n : Fin 8448) (l : Fin 128) :
    tiled x (ix3 0 n l) = x (ix2 n (⟨l.val % 64, Nat.mod_lt _ (by decide)⟩ : Fin 64)) := by
  pointwise [tiled]

/-- An entry of the cosines' table of a head. -/
theorem headCos_at (cs : Vec Ideal S8448x8 .f32) (n : Fin 8448) (l : Fin 64) :
    headCos cs (ix2 n l) = if h : l.val < 8 then cs (ix2 n ⟨l.val, h⟩) else if h : l.val - 8 < 8 then cs (ix2 n ⟨l.val - 8, h⟩) else 1 := by
  pointwise [headCos]

/-- An entry of a head's table for the columns to the right. -/
theorem headRight_at (sn : Vec Ideal S8448x8 .f32) (n : Fin 8448) (l : Fin 64) :
    headRight sn (ix2 n l) = if h : l.val < 8 then -sn (ix2 n ⟨l.val, h⟩) else 0 := by
  pointwise [headRight]

/-- An entry of a head's table for the columns to the left. -/
theorem headLeft_at (sn : Vec Ideal S8448x8 .f32) (n : Fin 8448) (l : Fin 64) :
    headLeft sn (ix2 n l) = if l.val < 8 then 0 else if h : l.val - 8 < 8 then sn (ix2 n ⟨l.val - 8, h⟩) else 0 := by
  pointwise [headLeft]
  rfl

/-! ## The values -/

variable (m : (ℓ : Loc nD τ sig) → Buf (Elt Ideal) ℓ) (ρ : Dev nD → PrngReg) (c : Dev nD)

/-- The weights of the two attention layers at launch. -/
abbrev weightsOf : Vec Ideal S2x2048x4608 .f32 := m ((c : Thread nD τ).loc main_arg1)
/-- The cosines of the angles of the positions at launch. -/
def cosOf : Vec Ideal S8448x8 .f32 := Host.cos (F := Ideal) (φ := .f32) (angles (m ((c : Thread nD τ).loc main_arg2)))
/-- The sines of the angles of the positions at launch. -/
def sinOf : Vec Ideal S8448x8 .f32 := Host.sin (F := Ideal) (φ := .f32) (angles (m ((c : Thread nD τ).loc main_arg2)))

/-- A row of the product of the arguments: the first 2304 columns of the first layer's weights. -/
def rowOf (n : Fin 8448) (l : Fin 2304) : EReal := ∑ x : Fin 2048, actsOf m c (ix2 n x)
  * weightsOf m c (ix3 0 x (⟨l.val, by have := l.isLt; omega⟩ : Fin 4608))

/-- The queries and keys of the arguments. -/
def ropeOf : Vec Ideal S8448x2304 .bf16 := fun y =>
  ropedAt (rowOf m c (y 0)) (fun a => cosOf m c (ix2 (y 0) a)) (fun a => sinOf m c (ix2 (y 0) a)) (y 1)

set_option maxHeartbeats 1000000 in
/-- The tables when the launch is entered, from the arguments. -/
theorem tables_eq : tablesOf m c
    = stacked (tiled (headCos (cosOf m c))) (tiled (headRight (sinOf m c))) (tiled (headLeft (sinOf m c))) := rfl

/-- The block that the weight window takes at each point. -/
theorem index_1 : ∀ t : Fin grid0.N, win0_1.index t = ![0, 0, min t.val 2] := by decide +kernel
/-- The block that the output window takes at each point. -/
theorem index_3 : ∀ t : Fin grid0.N, win0_3.index t = ![t.val - 2, 0] := by decide +kernel

/-- An entry of a part's product with a third of the weights. -/
theorem third_product (a : Vec Ideal S352x2048 .bf16) (W : Vec Ideal S2048x768 .bf16) (r : Fin 352) (q : Fin 768) :
    k0_pay10 a W (ix2 r q) = ∑ x : Fin 2048, a (ix2 r x) * W (ix2 x q) := by
  pointwise [k0_pay10]

/-- An entry of a part's product with all the kept weights. -/
theorem full_product (a : Vec Ideal S352x2048 .bf16) (W : Vec Ideal S2048x2304 .bf16) (r : Fin 352) (q : Fin 2304) :
    k0_pay123 a W (ix2 r q) = ∑ x : Fin 2048, a (ix2 r x) * W (ix2 x q) := by
  pointwise [k0_pay123]

/-- A part of a point's activation block, entry by entry. -/
theorem part_acts (t : Fin cfg0.N) (p : Fin 3) (r : Fin 352) (k : Fin 2048) (n : Fin 8448)
    (hn : n.val = 1056 * (t.val - 2) + (352 * p.val + r.val)) : part p (iblk m c 0 t) (ix2 r k) = actsOf m c (ix2 n k) :=
  block_acts m c t _ k n hn

/-- A part of a point's tables, entry by entry. -/
theorem part_tables (t : Fin cfg0.N) (k p : Fin 3) (r : Fin 352) (q : Fin 128) (n : Fin 8448)
    (hn : n.val = 1056 * (t.val - 2) + (352 * p.val + r.val)) :
    tablePart k p (iblk m c 2 t) (ix3 0 r q) = tablesOf m c (ix3 k n q) :=
  block_tables m c t k _ q n hn

/-- The rounded weights of a third, entry by entry. -/
theorem third_weights (j : Fin 3) (k : Fin 2048) (q : Fin 768) (n : Fin 4608) (hn : n.val = 768 * j.val + q.val) :
    k0_pay9 (iblk m c 1 (loader j)) (ix2 k q) = weightsOf m c (ix3 0 k n) := by
  have hj := j.isLt
  have hmin : min (loader j).val 2 = j.val := by show min j.val 2 = j.val; omega
  pointwise [k0_pay9]
  blk_simp [iblk]
  rw [V_main_arg1]
  refine congrArg (weightsOf m c) ?_
  blk_ext [index_1]

/-- Kept weights that are complete, entry by entry. -/
theorem kept_weights (d : Vec Ideal S2048x2304 .bf16) (hd : ThirdsIn m c 3 d) (k : Fin 2048) (q : Fin 2304) (n : Fin 4608)
    (hn : n.val = q.val) : d (ix2 k q) = weightsOf m c (ix3 0 k n) := by
  have hq := q.isLt
  have e : q.val = 768 * (q.val / 768) + q.val % 768 := (Nat.div_add_mod _ _).symm
  rw [hd ⟨q.val / 768, by omega⟩ k ⟨q.val % 768, Nat.mod_lt _ (by decide)⟩ q (by show q.val / 768 < 3; omega) e]
  exact third_weights m c _ k _ n (hn.trans e)

/-! ## The rotary embedding of a tile -/

/-- An entry of a turned chunk. -/
theorem turned_at (y t0 t1 t2 : FVec Ideal S352x128 .f32) (r : Fin 352) (q : Fin 128) :
    turned y t0 t1 t2 (ix2 r q) = y (ix2 r q) * t0 (ix2 r q)
      + y (ix2 r (⟨(q.val + 128 - 120) % 128, Nat.mod_lt _ (by decide)⟩ : Fin 128)) * t1 (ix2 r q)
      + y (ix2 r (⟨(q.val + 128 - 8) % 128, Nat.mod_lt _ (by decide)⟩ : Fin 128)) * t2 (ix2 r q) := by
  pointwise [turned]

/-- An entry of a chunk cut out of a product. -/
theorem chunk_at (C w n : ℕ) (hw : 0 < w) (hC : C = 128 * w) (y : Vec Ideal (⟨2, ![352, C]⟩ : Shape) .f32) (r : Fin 352) (q : Fin 128)
    (l : Fin C) (hl : l.val = 128 * (n % w) + q.val) :
    extractStridedSlice S352x128 ![0, 128 * (n % w)] y (chunk_fits C w n hw hC) (ix2 r q) = y (ix2 r l) := by
  refine congrArg y (funext fun i => Fin.ext ?_)
  fin_cases i
  · exact Nat.zero_add _
  · exact hl.symm

/-- The tables' entries at a row of a tile. -/
def RowTables (cs sn : Fin 8 → EReal) (t0 t1 t2 : FVec Ideal S352x128 .f32) (r : Fin 352) : Prop :=
  ∀ q : Fin 128,
    t0 (ix2 r q) = (if h : q.val % 64 < 8 then cs ⟨q.val % 64, h⟩ else if h : q.val % 64 - 8 < 8 then cs ⟨q.val % 64 - 8, h⟩ else 1)
    ∧ t1 (ix2 r q) = (if h : q.val % 64 < 8 then -sn ⟨q.val % 64, h⟩ else 0)
    ∧ t2 (ix2 r q) = (if q.val % 64 < 8 then 0 else if h : q.val % 64 - 8 < 8 then sn ⟨q.val % 64 - 8, h⟩ else 0)

/-- With such tables, a turned chunk of a row is the row's rotary embedding. -/
theorem turned_value (y t0 t1 t2 : FVec Ideal S352x128 .f32) (r : Fin 352) (P : Fin 2304 → EReal) (cs sn : Fin 8 → EReal) (k : ℕ)
    (hy : ∀ (q : Fin 128) (l : Fin 2304), l.val = 128 * k + q.val → y (ix2 r q) = P l) (ht : RowTables cs sn t0 t1 t2 r)
    (q : Fin 128) (l : Fin 2304) (hl : l.val = 128 * k + q.val) : turned y t0 t1 t2 (ix2 r q) = turnedAt P cs sn l := by
  have hq := q.isLt
  have e : l.val % 64 = q.val % 64 := by omega
  obtain ⟨h0, h1, h2⟩ := ht q
  rw [turned_at, h0, h1, h2, hy q l hl]
  unfold turnedAt
  by_cases h8 : q.val % 64 < 8
  · have h8' : l.val % 64 < 8 := by omega
    rw [dif_pos h8, dif_pos h8, if_pos h8, dif_pos h8', mul_zero, add_zero,
      hy _ ⟨l.val + 8, by omega⟩ (by show l.val + 8 = 128 * k + (q.val + 128 - 120) % 128; omega),
      show (⟨q.val % 64, h8⟩ : Fin 8) = ⟨l.val % 64, h8'⟩ from Fin.ext e.symm, mul_neg, sub_eq_add_neg]
  · have h8' : ¬ l.val % 64 < 8 := by omega
    rw [dif_neg h8, dif_neg h8, if_neg h8, dif_neg h8', mul_zero, add_zero]
    by_cases h16 : q.val % 64 - 8 < 8
    · have h16' : l.val % 64 - 8 < 8 := by omega
      rw [dif_pos h16, dif_pos h16, dif_pos h16',
        hy _ ⟨l.val - 8, by omega⟩ (by show l.val - 8 = 128 * k + (q.val + 128 - 8) % 128; omega),
        show (⟨q.val % 64 - 8, h16⟩ : Fin 8) = ⟨l.val % 64 - 8, h16'⟩ from Fin.ext (by show q.val % 64 - 8 = l.val % 64 - 8; rw [e])]
    · have h16' : ¬ l.val % 64 - 8 < 8 := by omega
      rw [dif_neg h16, dif_neg h16, dif_neg h16', mul_one, mul_zero, add_zero]

/-- What is stored of such a chunk is the row's queries or keys. -/
theorem stored_value (y t0 t1 t2 : FVec Ideal S352x128 .f32) (r : Fin 352) (P : Fin 2304 → EReal) (cs sn : Fin 8 → EReal) (k : ℕ)
    (hy : ∀ (q : Fin 128) (l : Fin 2304), l.val = 128 * k + q.val → y (ix2 r q) = P l) (ht : RowTables cs sn t0 t1 t2 r)
    (q : Fin 128) (l : Fin 2304) (hl : l.val = 128 * k + q.val) : stored (Nat.blt k 16) y t0 t1 t2 (ix2 r q) = ropedAt P cs sn l := by
  have hq := q.isLt
  have hv := turned_value y t0 t1 t2 r P cs sn k hy ht q l hl
  unfold ropedAt
  by_cases h : k < 16
  · have hb : Nat.blt k 16 = true := Nat.ble_eq.mpr h
    rw [hb, if_pos (by omega), ← hv]
    rfl
  · have hb : Nat.blt k 16 = false := Bool.eq_false_iff.mpr fun hc => h (Nat.ble_eq.mp hc)
    rw [hb, if_neg (by omega), ← hv]
    rfl

/-- The tables that the body loads for a part of the rows are its rows' tables. -/
theorem loaded_tables (t : Fin cfg0.N) (p : Fin 3) (r : Fin 352) (n : Fin 8448) (hn : n.val = 1056 * (t.val - 2) + (352 * p.val + r.val)) :
    RowTables (fun a => cosOf m c (ix2 n a)) (fun a => sinOf m c (ix2 n a)) (k0_pay11 (tablePart 0 p (iblk m c 2 t)))
      (k0_pay12 (tablePart 1 p (iblk m c 2 t))) (k0_pay13 (tablePart 2 p (iblk m c 2 t))) r := by
  intro q
  refine ⟨?_, ?_, ?_⟩
  · rw [show k0_pay11 (tablePart 0 p (iblk m c 2 t)) (ix2 r q) = tablePart 0 p (iblk m c 2 t) (ix3 0 r q) by pointwise [k0_pay11],
      part_tables m c t 0 p r q n hn, tables_eq, stacked_0, tiled_at, headCos_at]
  · rw [show k0_pay12 (tablePart 1 p (iblk m c 2 t)) (ix2 r q) = tablePart 1 p (iblk m c 2 t) (ix3 0 r q) by pointwise [k0_pay12],
      part_tables m c t 1 p r q n hn, tables_eq, stacked_1, tiled_at, headRight_at]
  · rw [show k0_pay13 (tablePart 2 p (iblk m c 2 t)) (ix2 r q) = tablePart 2 p (iblk m c 2 t) (ix3 0 r q) by pointwise [k0_pay13],
      part_tables m c t 2 p r q n hn, tables_eq, stacked_2, tiled_at, headLeft_at]

/-- The part and the chunk of a tile, from its number. -/
theorem tile_number (w : ℕ) (p : Fin 3) (k : ℕ) (hk : k < w) : partOf w (w * p.val + k) = p ∧ (w * p.val + k) % w = k := by
  have hw : 0 < w := by omega
  have hp := p.isLt
  refine ⟨Fin.ext ?_, by rw [Nat.mul_add_mod, Nat.mod_eq_of_lt hk]⟩
  show (w * p.val + k) / w % 3 = p.val
  rw [Nat.mul_add_div hw, Nat.div_eq_of_lt hk, Nat.add_zero, Nat.mod_eq_of_lt hp]

/-- An entry of a tile stored at one of the first three points. -/
theorem column_value (t : Fin cfg0.N) (j p : Fin 3) (k : Fin 6) (r : Fin 352) (q : Fin 128) (n : Fin 8448) (l : Fin 2304)
    (hn : n.val = 1056 * (t.val - 2) + (352 * p.val + r.val)) (hl : l.val = 128 * (6 * j.val + k.val) + q.val) :
    columnOf m c t j p k (ix2 r q) = ropeOf m c (ix2 n l) := by
  have hj := j.isLt
  obtain ⟨ep, ek⟩ := tile_number 6 p k.val k.isLt
  have hk := k.isLt
  unfold columnOf columnTile
  rw [ep]
  refine stored_value _ _ _ _ r (rowOf m c n) _ _ (6 * j.val + (6 * p.val + k.val) % 6) (fun q' l' hl' => ?_) (loaded_tables m c t p r n hn)
    q l (by rw [ek]; exact hl)
  have hq' := q'.isLt
  rw [ek] at hl'
  rw [chunk_at 768 6 _ (by decide) rfl _ r q' ⟨128 * k.val + q'.val, by omega⟩ (by rw [ek]), third_product]
  exact Finset.sum_congr rfl fun x _ => congrArg₂ (fun a b : EReal => a * b) (part_acts m c t p r x n hn)
    (third_weights m c j x _ _ (by show l'.val = 768 * j.val + (128 * k.val + q'.val); omega))

/-- An entry of a tile stored at a later point. -/
theorem chunk_value (t : Fin cfg0.N) (d : Vec Ideal S2048x2304 .bf16) (hd : ThirdsIn m c 3 d) (p : Fin 3) (k : Fin 18) (r : Fin 352)
    (q : Fin 128) (n : Fin 8448) (l : Fin 2304) (hn : n.val = 1056 * (t.val - 2) + (352 * p.val + r.val))
    (hl : l.val = 128 * (0 + k.val) + q.val) : chunkOf m c t d p k (ix2 r q) = ropeOf m c (ix2 n l) := by
  obtain ⟨ep, ek⟩ := tile_number 18 p k.val k.isLt
  have hk := k.isLt
  unfold chunkOf blockTile
  rw [ep]
  refine stored_value _ _ _ _ r (rowOf m c n) _ _ (0 + (18 * p.val + k.val) % 18) (fun q' l' hl' => ?_) (loaded_tables m c t p r n hn)
    q l (by rw [ek]; exact hl)
  have hq' := q'.isLt
  rw [ek, Nat.zero_add] at hl'
  rw [chunk_at 2304 18 _ (by decide) rfl _ r q' l' (by rw [ek]; exact hl'), full_product]
  exact Finset.sum_congr rfl fun x _ => congrArg₂ (fun a b : EReal => a * b) (part_acts m c t p r x n hn) (kept_weights m c d hd x l' _ rfl)

/-! ## The array after a run -/

/-- Every output block that is written back holds the rows of the queries and keys. -/
theorem output_at (t : Fin cfg0.N) (h2 : 2 ≤ t.val) (X : Vec Ideal S1056x2304 .bf16) (hX : OutputIn m c t X) (r : Fin 1056)
    (q : Fin 2304) (n : Fin 8448) (hn : n.val = 1056 * (t.val - 2) + r.val) : X (ix2 r q) = ropeOf m c (ix2 n q) := by
  have hr := r.isLt
  have hq := q.isLt
  have er : r.val = 352 * (r.val / 352) + r.val % 352 := (Nat.div_add_mod _ _).symm
  have hn' : n.val = 1056 * (t.val - 2) + (352 * (r.val / 352) + r.val % 352) := by rw [hn]; exact congrArg (1056 * (t.val - 2) + ·) er
  by_cases h3 : t.val < 3
  · have eq : q.val = 128 * (6 * (q.val / 768) + q.val / 128 % 6) + q.val % 128 := by omega
    rw [hX.1 h3 ⟨q.val / 768, by omega⟩ ⟨r.val / 352, by omega⟩ ⟨q.val / 128 % 6, Nat.mod_lt _ (by decide)⟩
      ⟨r.val % 352, Nat.mod_lt _ (by decide)⟩ ⟨q.val % 128, Nat.mod_lt _ (by decide)⟩ r q (by show q.val / 768 ≤ t.val; omega) er eq]
    exact column_value m c t _ _ _ _ _ n q hn' eq
  · have eq : q.val = 128 * (0 + q.val / 128) + q.val % 128 := by omega
    obtain ⟨d, hd, hB⟩ := hX.2 (by omega)
    rw [hB ⟨r.val / 352, by omega⟩ ⟨q.val / 128, by omega⟩ ⟨r.val % 352, Nat.mod_lt _ (by decide)⟩ ⟨q.val % 128, Nat.mod_lt _ (by decide)⟩
      r q er eq]
    exact chunk_value m c t d hd _ _ _ _ n q hn' eq

/-- The data with the contents the body left at each write-back named. -/
abbrev namedData (after : (w : Fin cfg0.W) → Fin cfg0.N → (cfg0.win w).block.Idx → Elt Ideal (cfg0.win w).elt) :=
  ((data m 0 c).toRRel held (heldTo m c)).withAfter after

/-- The array after a run holds the queries and keys. -/
theorem array_3 (after) (hL : ∀ u, (cfg0.win 3).flush u = true → ((data m 0 c).toRRel held (heldTo m c)).Leaves 3 u (after 3 u)) :
    (namedData m c after).arrAt 3 cfg0.N = ropeOf m c := by
  refine (namedData m c after).arrAt_eq_of_covers 3 (ropeOf m c) (by decide +kernel) fun t hf y => ?_
  have h2 : 2 ≤ t.val := (flush_3 t).mp hf
  have hX : OutputIn m c t (after 3 t) := (data m 0 c).toRRel_leaves (w := 3) rfl (hL t hf)
  rw [Pipeline.RDat.withAfter_after]
  blk_simp
  obtain ⟨r, q, rfl⟩ : ∃ (r : Fin 1056) (q : Fin 2304), y = ix2 r q := ⟨y 0, y 1, by idx_vars y⟩
  have ht := points_lt t
  have hr := r.isLt
  refine Eq.trans (output_at m c t h2 _ hX r q ⟨1056 * (t.val - 2) + r.val, by omega⟩ rfl) ?_
  refine congrArg (ropeOf m c) ?_
  blk_ext [index_3]

/-- Every run ends with the result at the queries and keys and the arguments unchanged. -/
theorem run_values : θ_run defs (onTc (τ := τ) (main (F := Ideal))) (s₀ m ρ) (fun r => ∀ c : Dev nD,
    r.2.mem ((c : Thread nD τ).loc main_v37) = ropeOf m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) :=
  (θ_run defs _ _).mono (fun r h c => by
    obtain ⟨after, hL, hA⟩ := h.1.exists_exact c
    exact ⟨(hA 3).trans (array_3 m c after (hL 3)), arguments_kept m r h.1 c⟩) (run_main m ρ)

end Cert.Kernel5Ideal.Rope

namespace Cert.Reference5Ideal.Rope

open Cert.Reference5Ideal Cert.Reference5Ideal.Gen
open Cert.Rope
open Cert.Kernel5Ideal.Rope (angles)
open Idealize.ShloMosaic Idealize.ShloMosaic.TcCoe Idealize.ShloMosaic.Tactic

/-- The reference's product with the first layer's weights. -/
def projected (h : FVec Ideal S8448x2048 .bf16) (w : FVec Ideal S2x2048x4608 .f32) : FVec Ideal S8448x4608 .f32 :=
  Host.dotGeneral (F := Ideal) dot_S8448x2048_S2048x4608_S8448x4608_1_0_0_1_n_n none (extf .f32 h bitsLt_bf16_f32)
    (shapeCast _ (extractStridedSlice S1x2048x4608 ![0, 0, 0] w slices_S2x2048x4608_S1x2048x4608_0_0_0) shapeCasts_S1x2048x4608_S2048x4608)

/-- The rotary embedding of the 32 query heads. -/
def turnedQ (X : FVec Ideal S8448x32x64 .f32) (cs sn : FVec Ideal S8448x8 .f32) : FVec Ideal S8448x32x64 .f32 :=
  concatenate S8448x32x64 2 [
    ⟨S8448x32x8, subf (F := Ideal) (φ := .f32)
      (mulf (extractStridedSlice S8448x32x8 ![0, 0, 0] X slices_S8448x32x64_S8448x32x8_0_0_0)
        (broadcastInDim S8448x32x8 ![0, 1, 2] bcast_S8448x1x8_S8448x32x8_0_1_2 (broadcastInDim S8448x1x8 ![0, 2] bcast_S8448x8_S8448x1x8_0_2 cs)))
      (mulf (extractStridedSlice S8448x32x8 ![0, 0, 8] X slices_S8448x32x64_S8448x32x8_0_0_8)
        (broadcastInDim S8448x32x8 ![0, 1, 2] bcast_S8448x1x8_S8448x32x8_0_1_2 (broadcastInDim S8448x1x8 ![0, 2] bcast_S8448x8_S8448x1x8_0_2 sn)))⟩,
    ⟨S8448x32x8, addf (F := Ideal) (φ := .f32)
      (mulf (extractStridedSlice S8448x32x8 ![0, 0, 8] X slices_S8448x32x64_S8448x32x8_0_0_8)
        (broadcastInDim S8448x32x8 ![0, 1, 2] bcast_S8448x1x8_S8448x32x8_0_1_2 (broadcastInDim S8448x1x8 ![0, 2] bcast_S8448x8_S8448x1x8_0_2 cs)))
      (mulf (extractStridedSlice S8448x32x8 ![0, 0, 0] X slices_S8448x32x64_S8448x32x8_0_0_0)
        (broadcastInDim S8448x32x8 ![0, 1, 2] bcast_S8448x1x8_S8448x32x8_0_1_2 (broadcastInDim S8448x1x8 ![0, 2] bcast_S8448x8_S8448x1x8_0_2 sn)))⟩,
    ⟨S8448x32x48, extractStridedSlice S8448x32x48 ![0, 0, 16] X slices_S8448x32x64_S8448x32x48_0_0_16⟩]
    concatenates_S8448x32x8_S8448x32x8_S8448x32x48_S8448x32x64_d2

/-- The rotary embedding of the 4 key heads. -/
def turnedK (X : FVec Ideal S8448x4x64 .f32) (cs sn : FVec Ideal S8448x8 .f32) : FVec Ideal S8448x4x64 .f32 :=
  concatenate S8448x4x64 2 [
    ⟨S8448x4x8, subf (F := Ideal) (φ := .f32)
      (mulf (extractStridedSlice S8448x4x8 ![0, 0, 0] X slices_S8448x4x64_S8448x4x8_0_0_0)
        (broadcastInDim S8448x4x8 ![0, 1, 2] bcast_S8448x1x8_S8448x4x8_0_1_2 (broadcastInDim S8448x1x8 ![0, 2] bcast_S8448x8_S8448x1x8_0_2 cs)))
      (mulf (extractStridedSlice S8448x4x8 ![0, 0, 8] X slices_S8448x4x64_S8448x4x8_0_0_8)
        (broadcastInDim S8448x4x8 ![0, 1, 2] bcast_S8448x1x8_S8448x4x8_0_1_2 (broadcastInDim S8448x1x8 ![0, 2] bcast_S8448x8_S8448x1x8_0_2 sn)))⟩,
    ⟨S8448x4x8, addf (F := Ideal) (φ := .f32)
      (mulf (extractStridedSlice S8448x4x8 ![0, 0, 8] X slices_S8448x4x64_S8448x4x8_0_0_8)
        (broadcastInDim S8448x4x8 ![0, 1, 2] bcast_S8448x1x8_S8448x4x8_0_1_2 (broadcastInDim S8448x1x8 ![0, 2] bcast_S8448x8_S8448x1x8_0_2 cs)))
      (mulf (extractStridedSlice S8448x4x8 ![0, 0, 0] X slices_S8448x4x64_S8448x4x8_0_0_0)
        (broadcastInDim S8448x4x8 ![0, 1, 2] bcast_S8448x1x8_S8448x4x8_0_1_2 (broadcastInDim S8448x1x8 ![0, 2] bcast_S8448x8_S8448x1x8_0_2 sn)))⟩,
    ⟨S8448x4x48, extractStridedSlice S8448x4x48 ![0, 0, 16] X slices_S8448x4x64_S8448x4x48_0_0_16⟩]
    concatenates_S8448x4x8_S8448x4x8_S8448x4x48_S8448x4x64_d2

/-- The queries and keys side by side, from the product. -/
def joined (P : FVec Ideal S8448x4608 .f32) (cs sn : FVec Ideal S8448x8 .f32) : FVec Ideal S8448x2304 .bf16 :=
  truncf .bf16 (concatenate S8448x2304 1 [
    ⟨S8448x2048, shapeCast S8448x2048 (mulf (turnedQ (shapeCast S8448x32x64
      (extractStridedSlice S8448x2048 ![0, 0] P slices_S8448x4608_S8448x2048_0_0) shapeCasts_S8448x2048_S8448x32x64) cs sn)
      (broadcastInDim S8448x32x64 ![] bcast_S_S8448x32x64 (constant (F := Ideal) S_ .f32 0x3E38AA3B#32))) shapeCasts_S8448x32x64_S8448x2048⟩,
    ⟨S8448x256, shapeCast S8448x256 (turnedK (shapeCast S8448x4x64
      (extractStridedSlice S8448x256 ![0, 2048] P slices_S8448x4608_S8448x256_0_2048) shapeCasts_S8448x256_S8448x4x64) cs sn)
      shapeCasts_S8448x4x64_S8448x256⟩] concatenates_S8448x2048_S8448x256_S8448x2304_d1) bitsLt_bf16_f32

/-- The reference's result is the queries and keys of its arguments. -/
theorem result_eq (m : (ℓ : Loc nD τ sig) → Buf (Elt Ideal) ℓ) (c : Dev nD) : Value.res_main_v79 m c
    = joined (projected (m ((c.tc : Thread nD τ).loc main_arg0)) (m ((c.tc : Thread nD τ).loc main_arg1)))
      (Host.cos (F := Ideal) (φ := .f32) (angles (m ((c.tc : Thread nD τ).loc main_arg2))))
      (Host.sin (F := Ideal) (φ := .f32) (angles (m ((c.tc : Thread nD τ).loc main_arg2)))) := by
  unfold Value.res_main_v79; rfl

/-- An entry of the product. -/
theorem projected_at (h : FVec Ideal S8448x2048 .bf16) (w : FVec Ideal S2x2048x4608 .f32) (n : Fin 8448) (q : Fin 4608) :
    projected h w (ix2 n q) = ∑ x : Fin 2048, h (ix2 n x) * w (ix3 0 x q) := by
  pointwise [projected]

/-- An entry of the query heads' rotary embedding. -/
theorem turnedQ_at (X : FVec Ideal S8448x32x64 .f32) (cs sn : FVec Ideal S8448x8 .f32) (n : Fin 8448) (a : Fin 32) (e : Fin 64) :
    turnedQ X cs sn (ix3 n a e) = if h : e.val < 8 then
        X (ix3 n a e) * cs (ix2 n ⟨e.val, h⟩) - X (ix3 n a ⟨8 + e.val, by omega⟩) * sn (ix2 n ⟨e.val, h⟩)
      else if h : e.val - 8 < 8 then
        X (ix3 n a ⟨8 + (e.val - 8), by omega⟩) * cs (ix2 n ⟨e.val - 8, h⟩) + X (ix3 n a ⟨e.val - 8, by omega⟩) * sn (ix2 n ⟨e.val - 8, h⟩)
      else X (ix3 n a ⟨16 + (e.val - 8 - 8), by omega⟩) := by
  pointwise [turnedQ]

/-- An entry of the key heads' rotary embedding. -/
theorem turnedK_at (X : FVec Ideal S8448x4x64 .f32) (cs sn : FVec Ideal S8448x8 .f32) (n : Fin 8448) (a : Fin 4) (e : Fin 64) :
    turnedK X cs sn (ix3 n a e) = if h : e.val < 8 then
        X (ix3 n a e) * cs (ix2 n ⟨e.val, h⟩) - X (ix3 n a ⟨8 + e.val, by omega⟩) * sn (ix2 n ⟨e.val, h⟩)
      else if h : e.val - 8 < 8 then
        X (ix3 n a ⟨8 + (e.val - 8), by omega⟩) * cs (ix2 n ⟨e.val - 8, h⟩) + X (ix3 n a ⟨e.val - 8, by omega⟩) * sn (ix2 n ⟨e.val - 8, h⟩)
      else X (ix3 n a ⟨16 + (e.val - 8 - 8), by omega⟩) := by
  pointwise [turnedK]

/-- A head's rotary embedding is the row's, at the head's columns: `X` is the head, `b` its first column. -/
theorem head_value (P : Fin 2304 → EReal) (cs sn : Fin 8 → EReal) (X : Fin 64 → EReal) (b : ℕ) (hb : b % 64 = 0)
    (hX : ∀ (e : Fin 64) (l : Fin 2304), l.val = b + e.val → X e = P l) (e : Fin 64) (l : Fin 2304) (hl : l.val = b + e.val) :
    (if h : e.val < 8 then X e * cs ⟨e.val, h⟩ - X ⟨8 + e.val, by omega⟩ * sn ⟨e.val, h⟩
      else if h : e.val - 8 < 8 then X ⟨8 + (e.val - 8), by omega⟩ * cs ⟨e.val - 8, h⟩ + X ⟨e.val - 8, by omega⟩ * sn ⟨e.val - 8, h⟩
      else X ⟨16 + (e.val - 8 - 8), by omega⟩) = turnedAt P cs sn l := by
  have he := e.isLt
  have hm : l.val % 64 = e.val := by omega
  unfold turnedAt
  by_cases h8 : e.val < 8
  · have h8' : l.val % 64 < 8 := by omega
    rw [dif_pos h8, dif_pos h8', hX e l hl, hX _ ⟨l.val + 8, by omega⟩ (by show l.val + 8 = b + (8 + e.val); omega),
      show (⟨e.val, h8⟩ : Fin 8) = ⟨l.val % 64, h8'⟩ from Fin.ext hm.symm]
  · have h8' : ¬ l.val % 64 < 8 := by omega
    rw [dif_neg h8, dif_neg h8']
    by_cases h16 : e.val - 8 < 8
    · have h16' : l.val % 64 - 8 < 8 := by omega
      rw [dif_pos h16, dif_pos h16', hX _ l (by show l.val = b + (8 + (e.val - 8)); omega),
        hX _ ⟨l.val - 8, by omega⟩ (by show l.val - 8 = b + (e.val - 8); omega),
        show (⟨e.val - 8, h16⟩ : Fin 8) = ⟨l.val % 64 - 8, h16'⟩ from Fin.ext (by show e.val - 8 = l.val % 64 - 8; rw [hm])]
    · have h16' : ¬ l.val % 64 - 8 < 8 := by omega
      rw [dif_neg h16, dif_neg h16', hX _ l (by show l.val = b + (16 + (e.val - 8 - 8)); omega)]

/-- A row of the product, its first 2304 columns. -/
abbrev rowOf (P : FVec Ideal S8448x4608 .f32) (n : Fin 8448) (l : Fin 2304) : EReal :=
  P (ix2 n (⟨l.val, by have := l.isLt; omega⟩ : Fin 4608))

/-- The query heads of the product. -/
abbrev queriesOf (P : FVec Ideal S8448x4608 .f32) : FVec Ideal S8448x32x64 .f32 :=
  shapeCast S8448x32x64 (extractStridedSlice S8448x2048 ![0, 0] P slices_S8448x4608_S8448x2048_0_0) shapeCasts_S8448x2048_S8448x32x64

/-- The key heads of the product. -/
abbrev keysOf (P : FVec Ideal S8448x4608 .f32) : FVec Ideal S8448x4x64 .f32 :=
  shapeCast S8448x4x64 (extractStridedSlice S8448x256 ![0, 2048] P slices_S8448x4608_S8448x256_0_2048) shapeCasts_S8448x256_S8448x4x64

/-- An entry of a query head before the rotary embedding. -/
theorem queries_at (P : FVec Ideal S8448x4608 .f32) (n : Fin 8448) (a : Fin 32) (e : Fin 64) (l : Fin 2304) (hl : l.val = 64 * a.val + e.val) :
    queriesOf P (ix3 n a e) = rowOf P n l := by
  have ha := a.isLt
  have he := e.isLt
  pointwise [queriesOf]
  refine congrArg P (congrArg (ix2 n) (Fin.ext ?_))
  show _ = l.val
  simp only
  omega

/-- An entry of a key head before the rotary embedding. -/
theorem keys_at (P : FVec Ideal S8448x4608 .f32) (n : Fin 8448) (a : Fin 4) (e : Fin 64) (l : Fin 2304) (hl : l.val = 2048 + 64 * a.val + e.val) :
    keysOf P (ix3 n a e) = rowOf P n l := by
  have ha := a.isLt
  have he := e.isLt
  pointwise [keysOf]
  refine congrArg P (congrArg (ix2 n) (Fin.ext ?_))
  show _ = l.val
  simp only
  omega

/-- An entry of the queries and keys. -/
theorem joined_at (P : FVec Ideal S8448x4608 .f32) (cs sn : FVec Ideal S8448x8 .f32) (n : Fin 8448) (l : Fin 2304) :
    joined P cs sn (ix2 n l) = ropedAt (rowOf P n) (fun a => cs (ix2 n a)) (fun a => sn (ix2 n a)) l := by
  have hl := l.isLt
  pointwise [joined]
  unfold ropedAt
  by_cases h : l.val < 2048
  · rw [dif_pos h, if_pos h, turnedQ_at]
    exact congrArg (fun x : EReal => x * Scalar.ofBits (F := Ideal) .f32 0x3E38AA3B#32)
      (head_value (rowOf P n) (fun a => cs (ix2 n a)) (fun a => sn (ix2 n a))
        (fun e => queriesOf P (ix3 n (⟨l.val / 64, by omega⟩ : Fin 32) e)) (64 * (l.val / 64)) (Nat.mul_mod_right _ _)
        (fun e l' hl' => queries_at P n _ e l' hl') ⟨l.val % 64, Nat.mod_lt _ (by decide)⟩ l (Nat.div_add_mod _ _).symm)
  · rw [dif_neg h, if_neg h, turnedK_at]
    exact head_value (rowOf P n) (fun a => cs (ix2 n a)) (fun a => sn (ix2 n a))
      (fun e => keysOf P (ix3 n (⟨(l.val - 2048) / 64, by omega⟩ : Fin 4) e)) (2048 + 64 * ((l.val - 2048) / 64)) (by omega)
      (fun e l' hl' => keys_at P n _ e l' hl') ⟨(l.val - 2048) % 64, Nat.mod_lt _ (by decide)⟩ l
      (by show l.val = 2048 + 64 * ((l.val - 2048) / 64) + (l.val - 2048) % 64; omega)

end Cert.Reference5Ideal.Rope
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Final
public import proofs.«01_k».proof.Proof.Reference
public import proofs.«01_k».proof.Proof.InProj
public import proofs.«01_k».proof.Proof.AttnProj
public import proofs.«01_k».proof.Proof.OutProj
public import proofs.«01_k».proof.Proof.RopeProj
public import Idealize.ShloMosaic.Lib.Claim
public import Idealize.ShloMosaic.Adequacy
public import Idealize.ShloMosaic.Init

@[expose] public section

noncomputable section

namespace Cert.Proof

open Idealize.ShloMosaic Idealize.SL.Sem

/-- The two programs' kernel bodies are one text: the tables agree label by label. -/
theorem bodies_same {F : FTy → Type} [FloatOps F] :
    (Cert.KernelIdeal.defs₀ (F := F)) = Cert.Kernel.defs₀ (F := F) := by
  refine congrArg Defs.onTc ?_
  funext l a
  match l, a with
  | ⟨0, _⟩, (t, s) => rfl
  | ⟨n + 1, h⟩, _ => exact absurd h (by simp)

/-- So the whole tables are one. -/
theorem tables_same {F : FTy → Type} [FloatOps F] : (Cert.KernelIdeal.defs (F := F)) = Cert.Kernel.defs (F := F) :=
  congrArg (Pipeline.defs Cert.KernelIdeal.pcfgs) bodies_same

/-- The host programs are one text. -/
theorem mains_same {F : FTy → Type} [FloatOps F] : (Cert.KernelIdeal.main (F := F)) = Cert.Kernel.main (F := F) := rfl

/-- The kernel runs, keeps its arguments and ends with every counter at zero: the run, which holds for any floating-point
interpretation, at the machine's bits. -/
theorem frame_kernel : Cert.quiescent_Kernel := fun m ρ _ => by
  have h := Cert.KernelIdeal.Conv.run_frame (F := Bits) m ρ
  rw [tables_same, mains_same] at h
  exact h

/-- The same at the extended reals. -/
theorem frame_kernelIdeal : Cert.quiescent_KernelIdeal := fun m ρ _ =>
  Cert.KernelIdeal.Conv.run_frame (F := Ideal) m ρ

/-- The reference runs, keeps its arguments and has no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The kernel's results over the extended reals are the reference's, and both keep their arguments. -/
theorem values_equal : Cert.algebraic_KernelIdeal_ReferenceIdeal := by
  intro m ρ m' ρ' _ hm
  refine ⟨Cert.KernelIdeal.Conv.gatedOf m, Cert.KernelIdeal.Conv.tailOf m, Cert.KernelIdeal.Conv.sampleOf m,
    Cert.KernelIdeal.Conv.run_values m ρ, ?_⟩
  refine (θ_run Cert.ReferenceIdeal.defs _ _).mono (fun r h c => ?_) (Cert.ReferenceIdeal.Value.run m' ρ')
  obtain ⟨h0, h1, h2, h3⟩ := hm c
  obtain ⟨r0, r1, r2, ha⟩ := h c
  refine ⟨r0.trans ?_, r1.trans ?_, r2.trans ?_, ha⟩
  · rw [Cert.ReferenceIdeal.Conv.first_result, h0, h1, h2, h3]
    funext y
    obtain ⟨n, j, rfl⟩ : ∃ (n : Fin 8448) (j : Fin 2048), y = ix2 n j := ⟨y 0, y 1, by idx_vars y⟩
    exact Cert.ReferenceIdeal.Conv.gathered_at _ _ _ _ n j
  · rw [h0, h1]
    funext y
    obtain ⟨b, k, j, rfl⟩ : ∃ (b : Fin 4) (k : Fin 8) (j : Fin 2048), y = ix3 b k j := ⟨y 0, y 1, y 2, by idx_vars y⟩
    exact Cert.ReferenceIdeal.Conv.tail_at _ _ b k j
  · rw [h0, h1, h3]
    funext y
    obtain ⟨k, j, rfl⟩ : ∃ (k : Fin 256) (j : Fin 2048), y = ix2 k j := ⟨y 0, y 1, by idx_vars y⟩
    exact Cert.ReferenceIdeal.Conv.sample_at _ _ _ k j

/-- The input projection runs, keeps its arguments and ends with every counter at zero. -/
theorem frame_kernel2 : Cert.quiescent_Kernel2 := fun m ρ _ => Cert.Kernel2.Gen.frame (F := Bits) m ρ

/-- The same at the extended reals. -/
theorem frame_kernel2Ideal : Cert.quiescent_Kernel2Ideal := fun m ρ _ => Cert.Kernel2Ideal.Gen.frame (F := Ideal) m ρ

/-- Its reference runs, keeps its arguments and has no semaphore. -/
theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The input projection over the extended reals is the reference's, and both keep their arguments. -/
theorem values_equal2 : Cert.algebraic_Kernel2Ideal_Reference2Ideal := by
  intro m ρ m' ρ' _ hm
  refine ⟨Cert.Kernel2Ideal.InProj.projOf m, Cert.Kernel2Ideal.InProj.run_values m ρ, ?_⟩
  refine (θ_run Cert.Reference2Ideal.defs _ _).mono (fun r h c => ?_) (Cert.Reference2Ideal.Value.run m' ρ')
  obtain ⟨h0, h1⟩ := hm c
  obtain ⟨r0, ha⟩ := h c
  refine ⟨r0.trans ?_, ha⟩
  rw [h0, h1]
  funext y
  obtain ⟨n, j, rfl⟩ : ∃ (n : Fin 8448) (j : Fin 8192), y = ix2 n j := ⟨y 0, y 1, by idx_vars y⟩
  exact Cert.Reference2Ideal.InProj.product_at _ _ n j

/-- The two programs' bodies of the attention projection are one text: the tables agree label by label. -/
theorem bodies_same3 {F : FTy → Type} [FloatOps F] :
    (Cert.Kernel3Ideal.defs₀ (F := F)) = Cert.Kernel3.defs₀ (F := F) := by
  refine congrArg Defs.onTc ?_
  funext l a
  match l, a with
  | ⟨0, _⟩, (t, s) => rfl
  | ⟨n + 1, h⟩, _ => exact absurd h (by simp)

/-- So the whole tables are one. -/
theorem tables_same3 {F : FTy → Type} [FloatOps F] : (Cert.Kernel3Ideal.defs (F := F)) = Cert.Kernel3.defs (F := F) :=
  congrArg (Pipeline.defs Cert.Kernel3Ideal.pcfgs) bodies_same3

/-- The host programs are one text. -/
theorem mains_same3 {F : FTy → Type} [FloatOps F] : (Cert.Kernel3Ideal.main (F := F)) = Cert.Kernel3.main (F := F) := rfl

/-- The attention projection runs, keeps its arguments and ends with every counter at zero: the run, which holds for any
floating-point interpretation, at the machine's bits. -/
theorem frame_kernel3 : Cert.quiescent_Kernel3 := fun m ρ _ => by
  have h := Cert.Kernel3Ideal.Attn.run_frame (F := Bits) m ρ
  rw [tables_same3, mains_same3] at h
  exact h

/-- The same at the extended reals. -/
theorem frame_kernel3Ideal : Cert.quiescent_Kernel3Ideal := fun m ρ _ => Cert.Kernel3Ideal.Attn.run_frame (F := Ideal) m ρ

/-- Its reference runs, keeps its arguments and has no semaphore. -/
theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The attention projection over the extended reals is the reference's, and both keep their arguments. -/
theorem values_equal3 : Cert.algebraic_Kernel3Ideal_Reference3Ideal := by
  intro m ρ m' ρ' _ hm
  refine ⟨Cert.Kernel3Ideal.Attn.projOf m, Cert.Kernel3Ideal.Attn.run_values m ρ, ?_⟩
  refine (θ_run Cert.Reference3Ideal.defs _ _).mono (fun r h c => ?_) (Cert.Reference3Ideal.Value.run m' ρ')
  obtain ⟨h0, h1⟩ := hm c
  obtain ⟨r0, ha⟩ := h c
  refine ⟨r0.trans ?_, ha⟩
  rw [h0, h1]
  funext y
  obtain ⟨n, q, rfl⟩ : ∃ (n : Fin 8448) (q : Fin 2304), y = ix2 n q := ⟨y 0, y 1, by idx_vars y⟩
  have hq := q.isLt
  exact (Cert.Reference3Ideal.Attn.joined_at (Cert.Reference3Ideal.Attn.projected _ _) n q ⟨2304 + q.val, by omega⟩ rfl).trans
    (Cert.Reference3Ideal.Attn.projected_at _ _ n _)

/-- The output projection runs, keeps its arguments and ends with every counter at zero. -/
theorem frame_kernel4 : Cert.quiescent_Kernel4 := fun m ρ _ => Cert.Kernel4.Gen.frame (F := Bits) m ρ

/-- The same at the extended reals. -/
theorem frame_kernel4Ideal : Cert.quiescent_Kernel4Ideal := fun m ρ _ => Cert.Kernel4Ideal.Gen.frame (F := Ideal) m ρ

/-- Its reference runs, keeps its arguments and has no semaphore. -/
theorem frame_reference4Ideal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The two results of the output projection over the extended reals are the reference's, and both keep their arguments. -/
theorem values_equal4 : Cert.algebraic_Kernel4Ideal_Reference4Ideal := by
  intro m ρ m' ρ' _ hm
  refine ⟨Cert.Kernel4Ideal.OutProj.sumOf m, Cert.Kernel4Ideal.OutProj.normOf m, Cert.Kernel4Ideal.OutProj.run_values m ρ, ?_⟩
  refine (θ_run Cert.Reference4Ideal.defs _ _).mono (fun r h c => ?_) (Cert.Reference4Ideal.Value.run m' ρ')
  obtain ⟨h0, h1, h2, h3⟩ := hm c
  obtain ⟨r0, r1, ha⟩ := h c
  refine ⟨r0.trans ?_, r1.trans ?_, ha⟩
  · rw [h0, h1, h2]
    funext y
    obtain ⟨n, j, rfl⟩ : ∃ (n : Fin 8448) (j : Fin 2048), y = ix2 n j := ⟨y 0, y 1, by idx_vars y⟩
    exact Cert.Reference4Ideal.OutProj.summed_at _ _ _ n j
  · rw [h0, h1, h2, h3]
    funext y
    obtain ⟨n, j, rfl⟩ : ∃ (n : Fin 8448) (j : Fin 2048), y = ix2 n j := ⟨y 0, y 1, by idx_vars y⟩
    refine (Cert.Reference4Ideal.OutProj.normed_at (Cert.Reference4Ideal.OutProj.summed _ _ _) _ n j).trans ?_
    simp only [Cert.Reference4Ideal.OutProj.summed_at]
    rfl

/-- The two programs' bodies of the projection to queries and keys are one text: the tables agree label by label. -/
theorem bodies_same5 {F : FTy → Type} [FloatOps F] :
    (Cert.Kernel5Ideal.defs₀ (F := F)) = Cert.Kernel5.defs₀ (F := F) := by
  refine congrArg Defs.onTc ?_
  funext l a
  match l, a with
  | ⟨0, _⟩, (t, s) => rfl
  | ⟨n + 1, h⟩, _ => exact absurd h (by simp)

/-- So the whole tables are one. -/
theorem tables_same5 {F : FTy → Type} [FloatOps F] : (Cert.Kernel5Ideal.defs (F := F)) = Cert.Kernel5.defs (F := F) :=
  congrArg (Pipeline.defs Cert.Kernel5Ideal.pcfgs) bodies_same5

/-- The host programs are one text. -/
theorem mains_same5 {F : FTy → Type} [FloatOps F] : (Cert.Kernel5Ideal.main (F := F)) = Cert.Kernel5.main (F := F) := rfl

/-- The projection to queries and keys runs, keeps its arguments and ends with every counter at zero: the run, which holds for any
floating-point interpretation, at the machine's bits. -/
theorem frame_kernel5 : Cert.quiescent_Kernel5 := fun m ρ _ => by
  have h := Cert.Kernel5Ideal.Rope.run_frame (F := Bits) m ρ
  rw [tables_same5, mains_same5] at h
  exact h

/-- The same at the extended reals. -/
theorem frame_kernel5Ideal : Cert.quiescent_Kernel5Ideal := fun m ρ _ => Cert.Kernel5Ideal.Rope.run_frame (F := Ideal) m ρ

/-- Its reference runs, keeps its arguments and has no semaphore. -/
theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The queries and keys over the extended reals are the reference's, and both programs keep their arguments. -/
theorem values_equal5 : Cert.algebraic_Kernel5Ideal_Reference5Ideal := by
  intro m ρ m' ρ' _ hm
  refine ⟨Cert.Kernel5Ideal.Rope.ropeOf m, Cert.Kernel5Ideal.Rope.run_values m ρ, ?_⟩
  refine (θ_run Cert.Reference5Ideal.defs _ _).mono (fun r h c => ?_) (Cert.Reference5Ideal.Value.run m' ρ')
  obtain ⟨h0, h1, h2⟩ := hm c
  obtain ⟨r0, ha⟩ := h c
  refine ⟨r0.trans ?_, ha⟩
  rw [Cert.Reference5Ideal.Rope.result_eq, h0, h1, h2]
  funext y
  obtain ⟨n, l, rfl⟩ : ∃ (n : Fin 8448) (l : Fin 2304), y = ix2 n l := ⟨y 0, y 1, by idx_vars y⟩
  refine (Cert.Reference5Ideal.Rope.joined_at _ _ _ n l).trans ?_
  exact congrArg (fun P => Cert.Rope.ropedAt P _ _ l) (funext fun l => Cert.Reference5Ideal.Rope.projected_at _ _ n _)

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  frame_kernel, frame_kernelIdeal, frame_referenceIdeal, frame_kernel2, frame_kernel2Ideal, frame_reference2Ideal,
  frame_kernel3, frame_kernel3Ideal, frame_reference3Ideal, frame_kernel4, frame_kernel4Ideal,
  frame_reference4Ideal, frame_kernel5, frame_kernel5Ideal, frame_reference5Ideal,
  trivial, values_equal, trivial, values_equal2, trivial, values_equal3, trivial, values_equal4,
  trivial, values_equal5⟩

end Cert.Proof

end
